-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_alive_and_acting [hPre_alive_and_acting : Cert.Pre_alive_and_acting.Facts] (m : (ℓ : Loc Cert.KernelIdeal.nD Cert.KernelIdeal.τ Cert.KernelIdeal.sig) → Buf (Elt Ideal) ℓ) : Prop :=
  ∀ c : Dev Cert.KernelIdeal.nD,
    (Cert.Pre_alive_and_acting.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).1 = (fun _ => 1#1)
    ∧ (Cert.Pre_alive_and_acting.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_alive_and_acting [hPre_alive_and_acting : Cert.Pre_alive_and_acting.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_alive_and_acting.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).1 = (fun _ => 1#1)
    ∧ (Cert.Pre_alive_and_acting.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_KernelIdeal_pre_alive_and_acting [hKernelIdeal : Cert.KernelIdeal.Facts] [hPre_alive_and_acting : Cert.Pre_alive_and_acting.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_alive_and_acting m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def quiescent_ReferenceIdeal_pre_alive_and_acting [hReferenceIdeal : Cert.ReferenceIdeal.Facts] [hPre_alive_and_acting : Cert.Pre_alive_and_acting.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_alive_and_acting m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def preserves_Kernel_KernelIdeal : Prop :=
  IdealRules.named_const.Statement Cert.KernelIdeal.κ "inv_n" .f32 0x3DAAAAAB#32 ((1 / 12 : ℝ) : EReal)

def algebraic_KernelIdeal_ReferenceIdeal_pre_alive_and_acting [hKernelIdeal : Cert.KernelIdeal.Facts] [hReferenceIdeal : Cert.ReferenceIdeal.Facts] [hPre_alive_and_acting : Cert.Pre_alive_and_acting.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_alive_and_acting m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_arg4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51_20) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_alive_and_acting : Cert.Pre_alive_and_acting.Facts),
    quiescent_Kernel (hKernel := hKernel)
    ∧ quiescent_KernelIdeal (hKernelIdeal := hKernelIdeal)
    ∧ quiescent_KernelIdeal_pre_alive_and_acting (hKernelIdeal := hKernelIdeal) (hPre_alive_and_acting := hPre_alive_and_acting)
    ∧ quiescent_ReferenceIdeal (hReferenceIdeal := hReferenceIdeal)
    ∧ quiescent_ReferenceIdeal_pre_alive_and_acting (hReferenceIdeal := hReferenceIdeal) (hPre_alive_and_acting := hPre_alive_and_acting)
    ∧ preserves_Kernel_KernelIdeal
    ∧ algebraic_KernelIdeal_ReferenceIdeal_pre_alive_and_acting (hKernelIdeal := hKernelIdeal) (hReferenceIdeal := hReferenceIdeal) (hPre_alive_and_acting := hPre_alive_and_acting)
-- ==== Pre_alive_and_acting.lean ====
abbrev S64x12x128 : Shape := ⟨3, ![64, 12, 128]⟩
abbrev S64x12x12x128 : Shape := ⟨4, ![64, 12, 12, 128]⟩
abbrev S64x12 : Shape := ⟨2, ![64, 12]⟩
abbrev S64x12x19 : Shape := ⟨3, ![64, 12, 19]⟩
abbrev S128x256 : Shape := ⟨2, ![128, 256]⟩
abbrev S256 : Shape := ⟨1, ![256]⟩
abbrev S256x256 : Shape := ⟨2, ![256, 256]⟩
abbrev S384x256 : Shape := ⟨2, ![384, 256]⟩
abbrev S256x512 : Shape := ⟨2, ![256, 512]⟩
abbrev S512 : Shape := ⟨1, ![512]⟩
abbrev S768x256 : Shape := ⟨2, ![768, 256]⟩
abbrev S256x4864 : Shape := ⟨2, ![256, 4864]⟩
abbrev S4864 : Shape := ⟨1, ![4864]⟩
abbrev S1x1x19x256 : Shape := ⟨4, ![1, 1, 19, 256]⟩
abbrev S512x256 : Shape := ⟨2, ![512, 256]⟩
abbrev S256x1 : Shape := ⟨2, ![256, 1]⟩
abbrev S1 : Shape := ⟨1, ![1]⟩
abbrev S_ : Shape := ⟨0, ![]⟩

class Facts : Prop where
  bcast_S_S64x12 : S_.BroadcastsInDim S64x12 (![] : Fin 0 → Fin S64x12.rank)

variable [Facts]

def fn {F : FTy → Type} [FloatOps F] (main_arg0 : FVec F S64x12x128 .f32) (main_arg1 : FVec F S64x12x12x128 .f32) (main_arg2 : FVec F S64x12 .f32) (main_arg3 : FVec F S64x12x19 .f32) (main_arg4 : IVec S64x12 32) (main_arg5 : FVec F S128x256 .f32) (main_arg6 : FVec F S256 .f32) (main_arg7 : FVec F S256x256 .f32) (main_arg8 : FVec F S256 .f32) (main_arg9 : FVec F S384x256 .f32) (main_arg10 : FVec F S256 .f32) (main_arg11 : FVec F S256x512 .f32) (main_arg12 : FVec F S512 .f32) (main_arg13 : FVec F S768x256 .f32) (main_arg14 : FVec F S256 .f32) (main_arg15 : FVec F S256x256 .f32) (main_arg16 : FVec F S256 .f32) (main_arg17 : FVec F S256x4864 .f32) (main_arg18 : FVec F S4864 .f32) (main_arg19 : FVec F S1x1x19x256 .f32) (main_arg20 : FVec F S256x256 .f32) (main_arg21 : FVec F S256 .f32) (main_arg22 : FVec F S256x512 .f32) (main_arg23 : FVec F S512 .f32) (main_arg24 : FVec F S512x256 .f32) (main_arg25 : FVec F S256 .f32) (main_arg26 : FVec F S256x1 .f32) (main_arg27 : FVec F S1 .f32) : IVec S64x12 1 × IVec S64x12 1 :=
  let main_cst : FVec F S_ .f32 := constant S_ .f32 0x3F800000#32
  let main_v0 : FVec F S64x12 .f32 := broadcastInDim S64x12 ![] bcast_S_S64x12 main_cst
  let main_v1 : IVec S64x12 1 := cmpf .oeq main_arg2 main_v0
  let main_c : IVec S_ 32 := constantI S_ 32 0#32
  let main_v2 : IVec S64x12 32 := broadcastInDim S64x12 ![] bcast_S_S64x12 main_c
  let main_v3 : IVec S64x12 1 := cmpi .sge main_arg4 main_v2
  let main_c_0 : IVec S_ 32 := constantI S_ 32 19#32
  let main_v4 : IVec S64x12 32 := broadcastInDim S64x12 ![] bcast_S_S64x12 main_c_0
  let main_v5 : IVec S64x12 1 := cmpi .slt main_arg4 main_v4
  let main_v6 : IVec S64x12 1 := andi main_v3 main_v5
  (main_v1, main_v6)
-- ==== Kernel.lean ====
abbrev S64x12x128 : Shape := ⟨3, ![64, 12, 128]⟩
abbrev S64x12x12x128 : Shape := ⟨4, ![64, 12, 12, 128]⟩
abbrev S64x12 : Shape := ⟨2, ![64, 12]⟩
abbrev S64x12x19 : Shape := ⟨3, ![64, 12, 19]⟩
abbrev S128x256 : Shape := ⟨2, ![128, 256]⟩
abbrev S256 : Shape := ⟨1, ![256]⟩
abbrev S256x256 : Shape := ⟨2, ![256, 256]⟩
abbrev S384x256 : Shape := ⟨2, ![384, 256]⟩
abbrev S256x512 : Shape := ⟨2, ![256, 512]⟩
abbrev S512 : Shape := ⟨1, ![512]⟩
abbrev S768x256 : Shape := ⟨2, ![768, 256]⟩
abbrev S256x4864 : Shape := ⟨2, ![256, 4864]⟩
abbrev S4864 : Shape := ⟨1, ![4864]⟩
abbrev S1x1x19x256 : Shape := ⟨4, ![1, 1, 19, 256]⟩
abbrev S512x256 : Shape := ⟨2, ![512, 256]⟩
abbrev S256x1 : Shape := ⟨2, ![256, 1]⟩
abbrev S1 : Shape := ⟨1, ![1]⟩
abbrev S768x128 : Shape := ⟨2, ![768, 128]⟩
abbrev S768x1536 : Shape := ⟨2, ![768, 1536]⟩
abbrev S768x1 : Shape := ⟨2, ![768, 1]⟩
abbrev S19x256 : Shape := ⟨2, ![19, 256]⟩
abbrev S1x256 : Shape := ⟨2, ![1, 256]⟩
abbrev S1x512 : Shape := ⟨2, ![1, 512]⟩
abbrev S1x4864 : Shape := ⟨2, ![1, 4864]⟩
abbrev S1x1 : Shape := ⟨2, ![1, 1]⟩
abbrev S192 : Shape := ⟨1, ![192]⟩
abbrev S_ : Shape := ⟨0, ![]⟩
abbrev S192x1 : Shape := ⟨2, ![192, 1]⟩
abbrev S1x192 : Shape := ⟨2, ![1, 192]⟩
abbrev S192x192 : Shape := ⟨2, ![192, 192]⟩
abbrev S16 : Shape := ⟨1, ![16]⟩
abbrev S16x1 : Shape := ⟨2, ![16, 1]⟩
abbrev S16x192 : Shape := ⟨2, ![16, 192]⟩
abbrev S1x16 : Shape := ⟨2, ![1, 16]⟩
abbrev S192x16 : Shape := ⟨2, ![192, 16]⟩
abbrev S2304 : Shape := ⟨1, ![2304]⟩
abbrev S2304x1 : Shape := ⟨2, ![2304, 1]⟩
abbrev S2304x192 : Shape := ⟨2, ![2304, 192]⟩
abbrev S19 : Shape := ⟨1, ![19]⟩
abbrev S19x1 : Shape := ⟨2, ![19, 1]⟩
abbrev S19x4864 : Shape := ⟨2, ![19, 4864]⟩
abbrev S14592x1 : Shape := ⟨2, ![14592, 1]⟩
abbrev S4x19x16x12 : Shape := ⟨4, ![4, 19, 16, 12]⟩
abbrev S4x16x12x19 : Shape := ⟨4, ![4, 16, 12, 19]⟩
abbrev S192x128 : Shape := ⟨2, ![192, 128]⟩
abbrev S192x1536 : Shape := ⟨2, ![192, 1536]⟩
abbrev S3648x1 : Shape := ⟨2, ![3648, 1]⟩
abbrev S192x256 : Shape := ⟨2, ![192, 256]⟩
abbrev S2304x128 : Shape := ⟨2, ![2304, 128]⟩
abbrev S2304x256 : Shape := ⟨2, ![2304, 256]⟩
abbrev S2304x384 : Shape := ⟨2, ![2304, 384]⟩
abbrev S2304x512 : Shape := ⟨2, ![2304, 512]⟩
abbrev S192x512 : Shape := ⟨2, ![192, 512]⟩
abbrev S192x768 : Shape := ⟨2, ![192, 768]⟩
abbrev S192x4864 : Shape := ⟨2, ![192, 4864]⟩
abbrev S192x19 : Shape := ⟨2, ![192, 19]⟩
abbrev S16x256 : Shape := ⟨2, ![16, 256]⟩
abbrev S16x4864 : Shape := ⟨2, ![16, 4864]⟩
abbrev S384x512 : Shape := ⟨2, ![384, 512]⟩
abbrev S19x1x256 : Shape := ⟨3, ![19, 1, 256]⟩
abbrev S19x192x256 : Shape := ⟨3, ![19, 192, 256]⟩
abbrev S3648x256 : Shape := ⟨2, ![3648, 256]⟩
abbrev S1x192x256 : Shape := ⟨3, ![1, 192, 256]⟩
abbrev S3648x512 : Shape := ⟨2, ![3648, 512]⟩
abbrev S1x192x1 : Shape := ⟨3, ![1, 192, 1]⟩
abbrev S19x192x1 : Shape := ⟨3, ![19, 192, 1]⟩

abbrev nBuf : Space → Nat
  | .hbm => 167
  | .vmem => 41
  | .smem => 0
  | _ => 0

abbrev hbmTy0_0 (i : Nat) : BufTy := match i % 128 with
  | 0 => ⟨S64x12x128, .f32⟩
  | 1 => ⟨S64x12x12x128, .f32⟩
  | 2 => ⟨S64x12, .f32⟩
  | 3 => ⟨S64x12x19, .f32⟩
  | 4 => ⟨S64x12, .i32⟩
  | 5 => ⟨S128x256, .f32⟩
  | 6 => ⟨S256, .f32⟩
  | 7 => ⟨S256x256, .f32⟩
  | 8 => ⟨S256, .f32⟩
  | 9 => ⟨S384x256, .f32⟩
  | 10 => ⟨S256, .f32⟩
  | 11 => ⟨S256x512, .f32⟩
  | 12 => ⟨S512, .f32⟩
  | 13 => ⟨S768x256, .f32⟩
  | 14 => ⟨S256, .f32⟩
  | 15 => ⟨S256x256, .f32⟩
  | 16 => ⟨S256, .f32⟩
  | 17 => ⟨S256x4864, .f32⟩
  | 18 => ⟨S4864, .f32⟩
  | 19 => ⟨S1x1x19x256, .f32⟩
  | 20 => ⟨S256x256, .f32⟩
  | 21 => ⟨S256, .f32⟩
  | 22 => ⟨S256x512, .f32⟩
  | 23 => ⟨S512, .f32⟩
  | 24 => ⟨S512x256, .f32⟩
  | 25 => ⟨S256, .f32⟩
  | 26 => ⟨S256x1, .f32⟩
  | 27 => ⟨S1, .f32⟩
  | 28 => ⟨S768x128, .f32⟩
  | 29 => ⟨S768x1536, .f32⟩
  | 30 => ⟨S768x1, .i32⟩
  | 31 => ⟨S19x256, .f32⟩
  | 32 => ⟨S1x256, .f32⟩
  | 33 => ⟨S1x256, .f32⟩
  | 34 => ⟨S1x256, .f32⟩
  | 35 => ⟨S1x512, .f32⟩
  | 36 => ⟨S1x256, .f32⟩
  | 37 => ⟨S1x256, .f32⟩
  | 38 => ⟨S1x4864, .f32⟩
  | 39 => ⟨S1x256, .f32⟩
  | 40 => ⟨S1x512, .f32⟩
  | 41 => ⟨S1x256, .f32⟩
  | 42 => ⟨S1x1, .f32⟩
  | 43 => ⟨S192, .i32⟩
  | 44 => ⟨S_, .i32⟩
  | 45 => ⟨S192, .i32⟩
  | 46 => ⟨S192, .i32⟩
  | 47 => ⟨S_, .i32⟩
  | 48 => ⟨S192, .i32⟩
  | 49 => ⟨S192, .i32⟩
  | 50 => ⟨S192x1, .i32⟩
  | 51 => ⟨S1x192, .i32⟩
  | 52 => ⟨S192x192, .i32⟩
  | 53 => ⟨S192x192, .i32⟩
  | 54 => ⟨S192x192, .i1⟩
  | 55 => ⟨S1x192, .i32⟩
  | 56 => ⟨S192x1, .i32⟩
  | 57 => ⟨S192x192, .i32⟩
  | 58 => ⟨S192x192, .i32⟩
  | 59 => ⟨S192x192, .i1⟩
  | 60 => ⟨S192x192, .i1⟩
  | 61 => ⟨S192x192, .f32⟩
  | 62 => ⟨S1x192, .i32⟩
  | 63 => ⟨S_, .i32⟩
  | 64 => ⟨S1x192, .i32⟩
  | 65 => ⟨S1x192, .i1⟩
  | 66 => ⟨S192x192, .i1⟩
  | 67 => ⟨S192x192, .i1⟩
  | 68 => ⟨S192x192, .f32⟩
  | 69 => ⟨S1x192, .i32⟩
  | 70 => ⟨S192x1, .i32⟩
  | 71 => ⟨S192x192, .i32⟩
  | 72 => ⟨S192x192, .i32⟩
  | 73 => ⟨S192x192, .i1⟩
  | 74 => ⟨S192x192, .i1⟩
  | 75 => ⟨S1x192, .i32⟩
  | 76 => ⟨S_, .i32⟩
  | 77 => ⟨S1x192, .i32⟩
  | 78 => ⟨S1x192, .i1⟩
  | 79 => ⟨S192x192, .i1⟩
  | 80 => ⟨S192x192, .i1⟩
  | 81 => ⟨S192x192, .f32⟩
  | 82 => ⟨S16, .i32⟩
  | 83 => ⟨S1x192, .i32⟩
  | 84 => ⟨S_, .i32⟩
  | 85 => ⟨S16, .i32⟩
  | 86 => ⟨S16, .i32⟩
  | 87 => ⟨S_, .i32⟩
  | 88 => ⟨S16, .i32⟩
  | 89 => ⟨S16, .i32⟩
  | 90 => ⟨S16x1, .i32⟩
  | 91 => ⟨S16x192, .i32⟩
  | 92 => ⟨S16x192, .i32⟩
  | 93 => ⟨S16x192, .i1⟩
  | 94 => ⟨S16x192, .f32⟩
  | 95 => ⟨S192x1, .i32⟩
  | 96 => ⟨S1x16, .i32⟩
  | 97 => ⟨S192x16, .i32⟩
  | 98 => ⟨S192x16, .i32⟩
  | 99 => ⟨S192x16, .i1⟩
  | 100 => ⟨S192x16, .f32⟩
  | 101 => ⟨S_, .i32⟩
  | 102 => ⟨S192, .i32⟩
  | 103 => ⟨S192, .i32⟩
  | 104 => ⟨S_, .i32⟩
  | 105 => ⟨S192, .i32⟩
  | 106 => ⟨S192, .i32⟩
  | 107 => ⟨S_, .i32⟩
  | 108 => ⟨S192, .i32⟩
  | 109 => ⟨S192, .i32⟩
  | 110 => ⟨S192, .i32⟩
  | 111 => ⟨S192x1, .i32⟩
  | 112 => ⟨S1x192, .i32⟩
  | 113 => ⟨S192x192, .i32⟩
  | 114 => ⟨S192x192, .i32⟩
  | 115 => ⟨S192x192, .i1⟩
  | 116 => ⟨S192x192, .f32⟩
  | 117 => ⟨S_, .i32⟩
  | 118 => ⟨S192, .i32⟩
  | 119 => ⟨S192, .i32⟩
  | 120 => ⟨S192, .i32⟩
  | 121 => ⟨S192x1, .i32⟩
  | 122 => ⟨S1x192, .i32⟩
  | 123 => ⟨S192x192, .i32⟩
  | 124 => ⟨S192x192, .i32⟩
  | 125 => ⟨S192x192, .i1⟩
  | 126 => ⟨S192x192, .f32⟩
  | 127 => ⟨S2304, .i32⟩
  | _ => ⟨S64x12x128, .f32⟩

abbrev hbmTy0_1 (i : Nat) : BufTy := match i % 128 with
  | 0 => ⟨S_, .i32⟩
  | 1 => ⟨S2304, .i32⟩
  | 2 => ⟨S2304, .i32⟩
  | 3 => ⟨S_, .i32⟩
  | 4 => ⟨S2304, .i32⟩
  | 5 => ⟨S2304, .i32⟩
  | 6 => ⟨S_, .i32⟩
  | 7 => ⟨S2304, .i32⟩
  | 8 => ⟨S2304, .i32⟩
  | 9 => ⟨S_, .i32⟩
  | 10 => ⟨S2304, .i32⟩
  | 11 => ⟨S2304, .i32⟩
  | 12 => ⟨S2304, .i32⟩
  | 13 => ⟨S2304x1, .i32⟩
  | 14 => ⟨S1x192, .i32⟩
  | 15 => ⟨S2304x192, .i32⟩
  | 16 => ⟨S2304x192, .i32⟩
  | 17 => ⟨S2304x192, .i1⟩
  | 18 => ⟨S2304x192, .f32⟩
  | 19 => ⟨S4864, .i32⟩
  | 20 => ⟨S19, .i32⟩
  | 21 => ⟨S19x1, .i32⟩
  | 22 => ⟨S_, .i32⟩
  | 23 => ⟨S4864, .i32⟩
  | 24 => ⟨S4864, .i32⟩
  | 25 => ⟨S1x4864, .i32⟩
  | 26 => ⟨S19x4864, .i32⟩
  | 27 => ⟨S19x4864, .i32⟩
  | 28 => ⟨S19x4864, .i1⟩
  | 29 => ⟨S19x4864, .f32⟩
  | 30 => ⟨S_, .i32⟩
  | 31 => ⟨S192, .i32⟩
  | 32 => ⟨S192, .i1⟩
  | 33 => ⟨S192, .f32⟩
  | 34 => ⟨S192x1, .f32⟩
  | 35 => ⟨S14592x1, .f32⟩
  | 36 => ⟨S4x19x16x12, .f32⟩
  | 37 => ⟨S4x16x12x19, .f32⟩
  | 38 => ⟨S64x12x19, .f32⟩
  | _ => ⟨S64x12x128, .f32⟩

abbrev hbmTy (i : Nat) : BufTy := match i / 128 with
  | 0 => hbmTy0_0 i
  | 1 => hbmTy0_1 i
  | _ => ⟨S64x12x128, .f32⟩

abbrev bufTy : (tb : Table) → Fin (tcTables nBuf tb) → BufTy
  | .hbm, ⟨i, _⟩ => hbmTy i
  | .local _ .vmem, ⟨0, _⟩ => ⟨S192x128, .f32⟩
  | .local _ .vmem, ⟨1, _⟩ => ⟨S192x128, .f32⟩
  | .local _ .vmem, ⟨2, _⟩ => ⟨S192x1536, .f32⟩
  | .local _ .vmem, ⟨3, _⟩ => ⟨S192x1536, .f32⟩
  | .local _ .vmem, ⟨4, _⟩ => ⟨S192x1, .i32⟩
  | .local _ .vmem, ⟨5, _⟩ => ⟨S192x1, .i32⟩
  | .local _ .vmem, ⟨6, _⟩ => ⟨S128x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S384x256, .f32⟩
  | .local _ .vmem, ⟨11, _⟩ => ⟨S1x256, .f32⟩
  | .local _ .vmem, ⟨12, _⟩ => ⟨S256x512, .f32⟩
  | .local _ .vmem, ⟨13, _⟩ => ⟨S1x512, .f32⟩
  | .local _ .vmem, ⟨14, _⟩ => ⟨S768x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S256x4864, .f32⟩
  | .local _ .vmem, ⟨19, _⟩ => ⟨S1x4864, .f32⟩
  | .local _ .vmem, ⟨20, _⟩ => ⟨S19x256, .f32⟩
  | .local _ .vmem, ⟨21, _⟩ => ⟨S256x256, .f32⟩
  | .local _ .vmem, ⟨22, _⟩ => ⟨S1x256, .f32⟩
  | .local _ .vmem, ⟨23, _⟩ => ⟨S256x512, .f32⟩
  | .local _ .vmem, ⟨24, _⟩ => ⟨S1x512, .f32⟩
  | .local _ .vmem, ⟨25, _⟩ => ⟨S512x256, .f32⟩
  | .local _ .vmem, ⟨26, _⟩ => ⟨S1x256, .f32⟩
  | .local _ .vmem, ⟨27, _⟩ => ⟨S256x1, .f32⟩
  | .local _ .vmem, ⟨28, _⟩ => ⟨S1x1, .f32⟩
  | .local _ .vmem, ⟨29, _⟩ => ⟨S2304x192, .f32⟩
  | .local _ .vmem, ⟨30, _⟩ => ⟨S192x192, .f32⟩
  | .local _ .vmem, ⟨31, _⟩ => ⟨S192x192, .f32⟩
  | .local _ .vmem, ⟨32, _⟩ => ⟨S192x192, .f32⟩
  | .local _ .vmem, ⟨33, _⟩ => ⟨S192x192, .f32⟩
  | .local _ .vmem, ⟨34, _⟩ => ⟨S192x192, .f32⟩
  | .local _ .vmem, ⟨35, _⟩ => ⟨S16x192, .f32⟩
  | .local _ .vmem, ⟨36, _⟩ => ⟨S192x16, .f32⟩
  | .local _ .vmem, ⟨37, _⟩ => ⟨S19x4864, .f32⟩
  | .local _ .vmem, ⟨38, _⟩ => ⟨S192x1, .f32⟩
  | .local _ .vmem, ⟨39, _⟩ => ⟨S3648x1, .f32⟩
  | .local _ .vmem, ⟨40, _⟩ => ⟨S3648x1, .f32⟩
  | _, _ => ⟨S64x12x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c : Ref sig .tc := ⟨.hbm, 44, rfl⟩
abbrev main_call0_v12 : Ref sig .tc := ⟨.hbm, 45, rfl⟩
abbrev main_call0_v13 : Ref sig .tc := ⟨.hbm, 46, rfl⟩
abbrev main_call0_c_0 : Ref sig .tc := ⟨.hbm, 47, rfl⟩
abbrev main_call0_v14 : Ref sig .tc := ⟨.hbm, 48, rfl⟩
abbrev main_call0_v15 : Ref sig .tc := ⟨.hbm, 49, rfl⟩
abbrev main_call0_v16 : Ref sig .tc := ⟨.hbm, 50, rfl⟩
abbrev main_call0_v17 : Ref sig .tc := ⟨.hbm, 51, rfl⟩
abbrev main_call0_v18 : Ref sig .tc := ⟨.hbm, 52, rfl⟩
abbrev main_call0_v19 : Ref sig .tc := ⟨.hbm, 53, rfl⟩
abbrev main_call0_v20 : Ref sig .tc := ⟨.hbm, 54, rfl⟩
abbrev main_call0_v21 : Ref sig .tc := ⟨.hbm, 55, rfl⟩
abbrev main_call0_v22 : Ref sig .tc := ⟨.hbm, 56, rfl⟩
abbrev main_call0_v23 : Ref sig .tc := ⟨.hbm, 57, rfl⟩
abbrev main_call0_v24 : Ref sig .tc := ⟨.hbm, 58, rfl⟩
abbrev main_call0_v25 : Ref sig .tc := ⟨.hbm, 59, rfl⟩
abbrev main_call0_v26 : Ref sig .tc := ⟨.hbm, 60, rfl⟩
abbrev main_call0_v27 : Ref sig .tc := ⟨.hbm, 61, rfl⟩
abbrev main_call0_v28 : Ref sig .tc := ⟨.hbm, 62, rfl⟩
abbrev main_call0_c_1 : Ref sig .tc := ⟨.hbm, 63, rfl⟩
abbrev main_call0_v29 : Ref sig .tc := ⟨.hbm, 64, rfl⟩
abbrev main_call0_v30 : Ref sig .tc := ⟨.hbm, 65, rfl⟩
abbrev main_call0_v31 : Ref sig .tc := ⟨.hbm, 66, rfl⟩
abbrev main_call0_v32 : Ref sig .tc := ⟨.hbm, 67, rfl⟩
abbrev main_call0_v33 : Ref sig .tc := ⟨.hbm, 68, rfl⟩
abbrev main_call0_v34 : Ref sig .tc := ⟨.hbm, 69, rfl⟩
abbrev main_call0_v35 : Ref sig .tc := ⟨.hbm, 70, rfl⟩
abbrev main_call0_v36 : Ref sig .tc := ⟨.hbm, 71, rfl⟩
abbrev main_call0_v37 : Ref sig .tc := ⟨.hbm, 72, rfl⟩
abbrev main_call0_v38 : Ref sig .tc := ⟨.hbm, 73, rfl⟩
abbrev main_call0_v39 : Ref sig .tc := ⟨.hbm, 74, rfl⟩
abbrev main_call0_v40 : Ref sig .tc := ⟨.hbm, 75, rfl⟩
abbrev main_call0_c_2 : Ref sig .tc := ⟨.hbm, 76, rfl⟩
abbrev main_call0_v41 : Ref sig .tc := ⟨.hbm, 77, rfl⟩
abbrev main_call0_v42 : Ref sig .tc := ⟨.hbm, 78, rfl⟩
abbrev main_call0_v43 : Ref sig .tc := ⟨.hbm, 79, rfl⟩
abbrev main_call0_v44 : Ref sig .tc := ⟨.hbm, 80, rfl⟩
abbrev main_call0_v45 : Ref sig .tc := ⟨.hbm, 81, rfl⟩
abbrev main_call0_v46 : Ref sig .tc := ⟨.hbm, 82, rfl⟩
abbrev main_call0_v47 : Ref sig .tc := ⟨.hbm, 83, rfl⟩
abbrev main_call0_c_3 : Ref sig .tc := ⟨.hbm, 84, rfl⟩
abbrev main_call0_v48 : Ref sig .tc := ⟨.hbm, 85, rfl⟩
abbrev main_call0_v49 : Ref sig .tc := ⟨.hbm, 86, rfl⟩
abbrev main_call0_c_4 : Ref sig .tc := ⟨.hbm, 87, rfl⟩
abbrev main_call0_v50 : Ref sig .tc := ⟨.hbm, 88, rfl⟩
abbrev main_call0_v51 : Ref sig .tc := ⟨.hbm, 89, rfl⟩
abbrev main_call0_v52 : Ref sig .tc := ⟨.hbm, 90, rfl⟩
abbrev main_call0_v53 : Ref sig .tc := ⟨.hbm, 91, rfl⟩
abbrev main_call0_v54 : Ref sig .tc := ⟨.hbm, 92, rfl⟩
abbrev main_call0_v55 : Ref sig .tc := ⟨.hbm, 93, rfl⟩
abbrev main_call0_v56 : Ref sig .tc := ⟨.hbm, 94, rfl⟩
abbrev main_call0_v57 : Ref sig .tc := ⟨.hbm, 95, rfl⟩
abbrev main_call0_v58 : Ref sig .tc := ⟨.hbm, 96, rfl⟩
abbrev main_call0_v59 : Ref sig .tc := ⟨.hbm, 97, rfl⟩
abbrev main_call0_v60 : Ref sig .tc := ⟨.hbm, 98, rfl⟩
abbrev main_call0_v61 : Ref sig .tc := ⟨.hbm, 99, rfl⟩
abbrev main_call0_v62 : Ref sig .tc := ⟨.hbm, 100, rfl⟩
abbrev main_call0_c_5 : Ref sig .tc := ⟨.hbm, 101, rfl⟩
abbrev main_call0_v63 : Ref sig .tc := ⟨.hbm, 102, rfl⟩
abbrev main_call0_v64 : Ref sig .tc := ⟨.hbm, 103, rfl⟩
abbrev main_call0_c_6 : Ref sig .tc := ⟨.hbm, 104, rfl⟩
abbrev main_call0_v65 : Ref sig .tc := ⟨.hbm, 105, rfl⟩
abbrev main_call0_v66 : Ref sig .tc := ⟨.hbm, 106, rfl⟩
abbrev main_call0_c_7 : Ref sig .tc := ⟨.hbm, 107, rfl⟩
abbrev main_call0_v67 : Ref sig .tc := ⟨.hbm, 108, rfl⟩
abbrev main_call0_v68 : Ref sig .tc := ⟨.hbm, 109, rfl⟩
abbrev main_call0_v69 : Ref sig .tc := ⟨.hbm, 110, rfl⟩
abbrev main_call0_v70 : Ref sig .tc := ⟨.hbm, 111, rfl⟩
abbrev main_call0_v71 : Ref sig .tc := ⟨.hbm, 112, rfl⟩
abbrev main_call0_v72 : Ref sig .tc := ⟨.hbm, 113, rfl⟩
abbrev main_call0_v73 : Ref sig .tc := ⟨.hbm, 114, rfl⟩
abbrev main_call0_v74 : Ref sig .tc := ⟨.hbm, 115, rfl⟩
abbrev main_call0_v75 : Ref sig .tc := ⟨.hbm, 116, rfl⟩
abbrev main_call0_c_8 : Ref sig .tc := ⟨.hbm, 117, rfl⟩
abbrev main_call0_v76 : Ref sig .tc := ⟨.hbm, 118, rfl⟩
abbrev main_call0_v77 : Ref sig .tc := ⟨.hbm, 119, rfl⟩
abbrev main_call0_v78 : Ref sig .tc := ⟨.hbm, 120, rfl⟩
abbrev main_call0_v79 : Ref sig .tc := ⟨.hbm, 121, rfl⟩
abbrev main_call0_v80 : Ref sig .tc := ⟨.hbm, 122, rfl⟩
abbrev main_call0_v81 : Ref sig .tc := ⟨.hbm, 123, rfl⟩
abbrev main_call0_v82 : Ref sig .tc := ⟨.hbm, 124, rfl⟩
abbrev main_call0_v83 : Ref sig .tc := ⟨.hbm, 125, rfl⟩
abbrev main_call0_v84 : Ref sig .tc := ⟨.hbm, 126, rfl⟩
abbrev main_call0_v85 : Ref sig .tc := ⟨.hbm, 127, rfl⟩
abbrev main_call0_c_9 : Ref sig .tc := ⟨.hbm, 128, rfl⟩
abbrev main_call0_v86 : Ref sig .tc := ⟨.hbm, 129, rfl⟩
abbrev main_call0_v87 : Ref sig .tc := ⟨.hbm, 130, rfl⟩
abbrev main_call0_c_10 : Ref sig .tc := ⟨.hbm, 131, rfl⟩
abbrev main_call0_v88 : Ref sig .tc := ⟨.hbm, 132, rfl⟩
abbrev main_call0_v89 : Ref sig .tc := ⟨.hbm, 133, rfl⟩
abbrev main_call0_c_11 : Ref sig .tc := ⟨.hbm, 134, rfl⟩
abbrev main_call0_v90 : Ref sig .tc := ⟨.hbm, 135, rfl⟩
abbrev main_call0_v91 : Ref sig .tc := ⟨.hbm, 136, rfl⟩
abbrev main_call0_c_12 : Ref sig .tc := ⟨.hbm, 137, rfl⟩
abbrev main_call0_v92 : Ref sig .tc := ⟨.hbm, 138, rfl⟩
abbrev main_call0_v93 : Ref sig .tc := ⟨.hbm, 139, rfl⟩
abbrev main_call0_v94 : Ref sig .tc := ⟨.hbm, 140, rfl⟩
abbrev main_call0_v95 : Ref sig .tc := ⟨.hbm, 141, rfl⟩
abbrev main_call0_v96 : Ref sig .tc := ⟨.hbm, 142, rfl⟩
abbrev main_call0_v97 : Ref sig .tc := ⟨.hbm, 143, rfl⟩
abbrev main_call0_v98 : Ref sig .tc := ⟨.hbm, 144, rfl⟩
abbrev main_call0_v99 : Ref sig .tc := ⟨.hbm, 145, rfl⟩
abbrev main_call0_v100 : Ref sig .tc := ⟨.hbm, 146, rfl⟩
abbrev main_call0_v101 : Ref sig .tc := ⟨.hbm, 147, rfl⟩
abbrev main_call0_v102 : Ref sig .tc := ⟨.hbm, 148, rfl⟩
abbrev main_call0_v103 : Ref sig .tc := ⟨.hbm, 149, rfl⟩
abbrev main_call0_c_13 : Ref sig .tc := ⟨.hbm, 150, rfl⟩
abbrev main_call0_v104 : Ref sig .tc := ⟨.hbm, 151, rfl⟩
abbrev main_call0_v105 : Ref sig .tc := ⟨.hbm, 152, rfl⟩
abbrev main_call0_v106 : Ref sig .tc := ⟨.hbm, 153, rfl⟩
abbrev main_call0_v107 : Ref sig .tc := ⟨.hbm, 154, rfl⟩
abbrev main_call0_v108 : Ref sig .tc := ⟨.hbm, 155, rfl⟩
abbrev main_call0_v109 : Ref sig .tc := ⟨.hbm, 156, rfl⟩
abbrev main_call0_v110 : Ref sig .tc := ⟨.hbm, 157, rfl⟩
abbrev main_call0_c_14 : Ref sig .tc := ⟨.hbm, 158, rfl⟩
abbrev main_call0_v111 : Ref sig .tc := ⟨.hbm, 159, rfl⟩
abbrev main_call0_v112 : Ref sig .tc := ⟨.hbm, 160, rfl⟩
abbrev main_call0_v113 : Ref sig .tc := ⟨.hbm, 161, rfl⟩
abbrev main_call0_v114 : Ref sig .tc := ⟨.hbm, 162, rfl⟩
abbrev main_call0_v115 : Ref sig .tc := ⟨.hbm, 163, rfl⟩
abbrev main_call0_v116 : Ref sig .tc := ⟨.hbm, 164, rfl⟩
abbrev main_call0_v117 : Ref sig .tc := ⟨.hbm, 165, rfl⟩
abbrev main_v4 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg24_0 : Ref sig .tc := ⟨.vmem, 27, rfl⟩
abbrev cc0_stg25_0 : Ref sig .tc := ⟨.vmem, 28, rfl⟩
abbrev cc0_stg26_0 : Ref sig .tc := ⟨.vmem, 29, rfl⟩
abbrev cc0_stg27_0 : Ref sig .tc := ⟨.vmem, 30, rfl⟩
abbrev cc0_stg28_0 : Ref sig .tc := ⟨.vmem, 31, rfl⟩
abbrev cc0_stg29_0 : Ref sig .tc := ⟨.vmem, 32, rfl⟩
abbrev cc0_stg30_0 : Ref sig .tc := ⟨.vmem, 33, rfl⟩
abbrev cc0_stg31_0 : Ref sig .tc := ⟨.vmem, 34, rfl⟩
abbrev cc0_stg32_0 : Ref sig .tc := ⟨.vmem, 35, rfl⟩
abbrev cc0_stg33_0 : Ref sig .tc := ⟨.vmem, 36, rfl⟩
abbrev cc0_stg34_0 : Ref sig .tc := ⟨.vmem, 37, rfl⟩
abbrev cc0_stg35_0 : Ref sig .tc := ⟨.vmem, 38, rfl⟩
abbrev cc0_stg36_0 : Ref sig .tc := ⟨.vmem, 39, rfl⟩
abbrev cc0_stg36_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem24_0 : DmaSem sig := 27
abbrev cc0_sem25_0 : DmaSem sig := 28
abbrev cc0_sem26_0 : DmaSem sig := 29
abbrev cc0_sem27_0 : DmaSem sig := 30
abbrev cc0_sem28_0 : DmaSem sig := 31
abbrev cc0_sem29_0 : DmaSem sig := 32
abbrev cc0_sem30_0 : DmaSem sig := 33
abbrev cc0_sem31_0 : DmaSem sig := 34
abbrev cc0_sem32_0 : DmaSem sig := 35
abbrev cc0_sem33_0 : DmaSem sig := 36
abbrev cc0_sem34_0 : DmaSem sig := 37
abbrev cc0_sem35_0 : DmaSem sig := 38
abbrev cc0_sem36_0 : DmaSem sig := 39
abbrev cc0_sem36_1 : DmaSem sig := 40

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S768x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x4864 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x4864 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S19x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S256x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S2304x192 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S192x192 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S192x192 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S192x192 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S192x192 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S192x192 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S16x192 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S192x16 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S19x4864 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S192x1 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 2 → Memref sig .tc .vmem S3648x1 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]
-- ==== KernelIdeal.lean ====
variable {F : FTy → Type} [FloatOps F] [Named F]
def κ : String → Option EReal := fun
  | "inv_n" => some ((1 / 12 : ℝ) : EReal)
  | _ => none
-- ==== ReferenceIdeal.lean ====
abbrev S64x12x128 : Shape := ⟨3, ![64, 12, 128]⟩
abbrev S64x12x12x128 : Shape := ⟨4, ![64, 12, 12, 128]⟩
abbrev S64x12 : Shape := ⟨2, ![64, 12]⟩
abbrev S64x12x19 : Shape := ⟨3, ![64, 12, 19]⟩
abbrev S128x256 : Shape := ⟨2, ![128, 256]⟩
abbrev S256 : Shape := ⟨1, ![256]⟩
abbrev S256x256 : Shape := ⟨2, ![256, 256]⟩
abbrev S384x256 : Shape := ⟨2, ![384, 256]⟩
abbrev S256x512 : Shape := ⟨2, ![256, 512]⟩
abbrev S512 : Shape := ⟨1, ![512]⟩
abbrev S768x256 : Shape := ⟨2, ![768, 256]⟩
abbrev S256x4864 : Shape := ⟨2, ![256, 4864]⟩
abbrev S4864 : Shape := ⟨1, ![4864]⟩
abbrev S1x1x19x256 : Shape := ⟨4, ![1, 1, 19, 256]⟩
abbrev S512x256 : Shape := ⟨2, ![512, 256]⟩
abbrev S256x1 : Shape := ⟨2, ![256, 1]⟩
abbrev S1 : Shape := ⟨1, ![1]⟩
abbrev S64x12x1 : Shape := ⟨3, ![64, 12, 1]⟩
abbrev S64x12x256 : Shape := ⟨3, ![64, 12, 256]⟩
abbrev S1x1x256 : Shape := ⟨3, ![1, 1, 256]⟩
abbrev S_ : Shape := ⟨0, ![]⟩
abbrev S64x1x12x256 : Shape := ⟨4, ![64, 1, 12, 256]⟩
abbrev S64x12x12x256 : Shape := ⟨4, ![64, 12, 12, 256]⟩
abbrev S64x12x12x384 : Shape := ⟨4, ![64, 12, 12, 384]⟩
abbrev S1x1x1x256 : Shape := ⟨4, ![1, 1, 1, 256]⟩
abbrev S64x12x12x512 : Shape := ⟨4, ![64, 12, 12, 512]⟩
abbrev S1x1x1x512 : Shape := ⟨4, ![1, 1, 1, 512]⟩
abbrev S64x1x12x1 : Shape := ⟨4, ![64, 1, 12, 1]⟩
abbrev S64x12x768 : Shape := ⟨3, ![64, 12, 768]⟩
abbrev S64x1x19x256 : Shape := ⟨4, ![64, 1, 19, 256]⟩
abbrev S64x12x19x512 : Shape := ⟨4, ![64, 12, 19, 512]⟩
abbrev S64x12x1x1 : Shape := ⟨4, ![64, 12, 1, 1]⟩
abbrev S64x1x256 : Shape := ⟨3, ![64, 1, 256]⟩
abbrev S64x256 : Shape := ⟨2, ![64, 256]⟩
abbrev S1x256 : Shape := ⟨2, ![1, 256]⟩
abbrev S64x4864 : Shape := ⟨2, ![64, 4864]⟩
abbrev S1x4864 : Shape := ⟨2, ![1, 4864]⟩
abbrev S64x1 : Shape := ⟨2, ![64, 1]⟩
abbrev S64x1x1x1 : Shape := ⟨4, ![64, 1, 1, 1]⟩
abbrev S64x12x512 : Shape := ⟨3, ![64, 12, 512]⟩
abbrev S1x1x512 : Shape := ⟨3, ![1, 1, 512]⟩
abbrev S64x12x1x512 : Shape := ⟨4, ![64, 12, 1, 512]⟩
abbrev S64x1x1x256 : Shape := ⟨4, ![64, 1, 1, 256]⟩
abbrev S64x1x19x512 : Shape := ⟨4, ![64, 1, 19, 512]⟩
abbrev S64x12x19x256 : Shape := ⟨4, ![64, 12, 19, 256]⟩
abbrev S64x19x256 : Shape := ⟨3, ![64, 19, 256]⟩
abbrev S64x19x512 : Shape := ⟨3, ![64, 19, 512]⟩
abbrev S64x19x1 : Shape := ⟨3, ![64, 19, 1]⟩
abbrev S1x1x1 : Shape := ⟨3, ![1, 1, 1]⟩
abbrev S64x19 : Shape := ⟨2, ![64, 19]⟩
abbrev S64 : Shape := ⟨1, ![64]⟩
abbrev S64x1x1 : Shape := ⟨3, ![64, 1, 1]⟩
abbrev S64x1x19 : Shape := ⟨3, ![64, 1, 19]⟩

abbrev nBuf : Space → Nat
  | .hbm => 323
  | .vmem => 0
  | .smem => 0
  | _ => 0

abbrev hbmTy0_0 (i : Nat) : BufTy := match i % 128 with
  | 0 => ⟨S64x12x128, .f32⟩
  | 1 => ⟨S64x12x12x128, .f32⟩
  | 2 => ⟨S64x12, .f32⟩
  | 3 => ⟨S64x12x19, .f32⟩
  | 4 => ⟨S64x12, .i32⟩
  | 5 => ⟨S128x256, .f32⟩
  | 6 => ⟨S256, .f32⟩
  | 7 => ⟨S256x256, .f32⟩
  | 8 => ⟨S256, .f32⟩
  | 9 => ⟨S384x256, .f32⟩
  | 10 => ⟨S256, .f32⟩
  | 11 => ⟨S256x512, .f32⟩
  | 12 => ⟨S512, .f32⟩
  | 13 => ⟨S768x256, .f32⟩
  | 14 => ⟨S256, .f32⟩
  | 15 => ⟨S256x256, .f32⟩
  | 16 => ⟨S256, .f32⟩
  | 17 => ⟨S256x4864, .f32⟩
  | 18 => ⟨S4864, .f32⟩
  | 19 => ⟨S1x1x19x256, .f32⟩
  | 20 => ⟨S256x256, .f32⟩
  | 21 => ⟨S256, .f32⟩
  | 22 => ⟨S256x512, .f32⟩
  | 23 => ⟨S512, .f32⟩
  | 24 => ⟨S512x256, .f32⟩
  | 25 => ⟨S256, .f32⟩
  | 26 => ⟨S256x1, .f32⟩
  | 27 => ⟨S1, .f32⟩
  | 28 => ⟨S64x12x1, .f32⟩
  | 29 => ⟨S64x12, .f32⟩
  | 30 => ⟨S64x12x256, .f32⟩
  | 31 => ⟨S1x1x256, .f32⟩
  | 32 => ⟨S64x12x256, .f32⟩
  | 33 => ⟨S64x12x256, .f32⟩
  | 34 => ⟨S_, .f32⟩
  | 35 => ⟨S64x12x256, .f32⟩
  | 36 => ⟨S64x12x256, .f32⟩
  | 37 => ⟨S64x12x256, .f32⟩
  | 38 => ⟨S1x1x256, .f32⟩
  | 39 => ⟨S64x12x256, .f32⟩
  | 40 => ⟨S64x12x256, .f32⟩
  | 41 => ⟨S_, .f32⟩
  | 42 => ⟨S64x12x256, .f32⟩
  | 43 => ⟨S64x12x256, .f32⟩
  | 44 => ⟨S64x1x12x256, .f32⟩
  | 45 => ⟨S64x12x12x256, .f32⟩
  | 46 => ⟨S64x12x12x384, .f32⟩
  | 47 => ⟨S64x12x12x256, .f32⟩
  | 48 => ⟨S1x1x1x256, .f32⟩
  | 49 => ⟨S64x12x12x256, .f32⟩
  | 50 => ⟨S64x12x12x256, .f32⟩
  | 51 => ⟨S_, .f32⟩
  | 52 => ⟨S64x12x12x256, .f32⟩
  | 53 => ⟨S64x12x12x256, .f32⟩
  | 54 => ⟨S64x12x12x512, .f32⟩
  | 55 => ⟨S1x1x1x512, .f32⟩
  | 56 => ⟨S64x12x12x512, .f32⟩
  | 57 => ⟨S64x12x12x512, .f32⟩
  | 58 => ⟨S_, .f32⟩
  | 59 => ⟨S64x12x12x512, .f32⟩
  | 60 => ⟨S64x12x12x512, .f32⟩
  | 61 => ⟨S64x12x12x256, .f32⟩
  | 62 => ⟨S64x12x12x256, .f32⟩
  | 63 => ⟨S64x1x12x1, .f32⟩
  | 64 => ⟨S64x12x12x256, .f32⟩
  | 65 => ⟨S64x12x12x256, .f32⟩
  | 66 => ⟨S_, .f32⟩
  | 67 => ⟨S64x12x256, .f32⟩
  | 68 => ⟨S_, .f32⟩
  | 69 => ⟨S64x12x256, .f32⟩
  | 70 => ⟨S64x12x256, .f32⟩
  | 71 => ⟨S64x12x12x256, .f32⟩
  | 72 => ⟨S64x12x12x256, .f32⟩
  | 73 => ⟨S_, .f32⟩
  | 74 => ⟨S64x12x256, .f32⟩
  | 75 => ⟨S64x12x768, .f32⟩
  | 76 => ⟨S64x12x256, .f32⟩
  | 77 => ⟨S1x1x256, .f32⟩
  | 78 => ⟨S64x12x256, .f32⟩
  | 79 => ⟨S64x12x256, .f32⟩
  | 80 => ⟨S_, .f32⟩
  | 81 => ⟨S64x12x256, .f32⟩
  | 82 => ⟨S64x12x256, .f32⟩
  | 83 => ⟨S64x1x19x256, .f32⟩
  | 84 => ⟨S64x12x19x512, .i32⟩
  | 85 => ⟨S64x12x1x1, .f32⟩
  | 86 => ⟨S_, .f32⟩
  | 87 => ⟨S64x12x19, .f32⟩
  | 88 => ⟨S_, .i32⟩
  | 89 => ⟨S_, .i32⟩
  | 90 => ⟨S256x256, .f32⟩
  | 91 => ⟨S256, .f32⟩
  | 92 => ⟨S256x4864, .f32⟩
  | 93 => ⟨S4864, .f32⟩
  | 94 => ⟨S64x12, .f32⟩
  | 95 => ⟨S256x256, .f32⟩
  | 96 => ⟨S256, .f32⟩
  | 97 => ⟨S256x512, .f32⟩
  | 98 => ⟨S512, .f32⟩
  | 99 => ⟨S64x1x19x256, .f32⟩
  | 100 => ⟨S64x12x19x512, .i32⟩
  | 101 => ⟨S64x12x1x1, .f32⟩
  | 102 => ⟨S512x256, .f32⟩
  | 103 => ⟨S256, .f32⟩
  | 104 => ⟨S256x1, .f32⟩
  | 105 => ⟨S1, .f32⟩
  | 106 => ⟨S64x12, .i32⟩
  | 107 => ⟨S_, .i32⟩
  | 108 => ⟨S_, .i32⟩
  | 109 => ⟨S64x12x256, .f32⟩
  | 110 => ⟨S64x12x19, .f32⟩
  | 111 => ⟨S_, .i32⟩
  | 112 => ⟨S_, .i1⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S64x1x256, .f32⟩
  | 124 => ⟨S64x256, .f32⟩
  | 125 => ⟨S64x256, .f32⟩
  | 126 => ⟨S1x256, .f32⟩
  | 127 => ⟨S64x256, .f32⟩
  | _ => ⟨S64x12x128, .f32⟩

abbrev hbmTy0_1 (i : Nat) : BufTy := match i % 128 with
  | 0 => ⟨S64x256, .f32⟩
  | 1 => ⟨S_, .f32⟩
  | 2 => ⟨S64x256, .f32⟩
  | 3 => ⟨S64x256, .f32⟩
  | 4 => ⟨S64x4864, .f32⟩
  | 5 => ⟨S1x4864, .f32⟩
  | 6 => ⟨S64x4864, .f32⟩
  | 7 => ⟨S64x4864, .f32⟩
  | 8 => ⟨S_, .f32⟩
  | 9 => ⟨S64x4864, .f32⟩
  | 10 => ⟨S64x4864, .f32⟩
  | 11 => ⟨S64x1x19x256, .f32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i32⟩
  | 19 => ⟨S64x1, .f32⟩
  | 20 => ⟨S64x1x1x1, .f32⟩
  | 21 => ⟨S64x1x19x256, .f32⟩
  | 22 => ⟨S64x1x19x256, .f32⟩
  | 23 => ⟨S64x12x256, .f32⟩
  | 24 => ⟨S1x1x256, .f32⟩
  | 25 => ⟨S64x12x256, .f32⟩
  | 26 => ⟨S64x12x256, .f32⟩
  | 27 => ⟨S_, .f32⟩
  | 28 => ⟨S64x12x256, .f32⟩
  | 29 => ⟨S64x12x256, .f32⟩
  | 30 => ⟨S64x12x512, .f32⟩
  | 31 => ⟨S1x1x512, .f32⟩
  | 32 => ⟨S64x12x512, .f32⟩
  | 33 => ⟨S64x12x512, .f32⟩
  | 34 => ⟨S_, .f32⟩
  | 35 => ⟨S64x12x512, .f32⟩
  | 36 => ⟨S64x12x512, .f32⟩
  | 37 => ⟨S64x12x1x512, .f32⟩
  | 38 => ⟨S64x12x19x512, .f32⟩
  | 39 => ⟨S64x1x1x256, .f32⟩
  | 40 => ⟨S64x1x19x256, .f32⟩
  | 41 => ⟨S64x1x19x256, .f32⟩
  | 42 => ⟨S64x1x19x256, .f32⟩
  | 43 => ⟨S1x1x1x256, .f32⟩
  | 44 => ⟨S64x1x19x256, .f32⟩
  | 45 => ⟨S64x1x19x256, .f32⟩
  | 46 => ⟨S_, .f32⟩
  | 47 => ⟨S64x1x19x256, .f32⟩
  | 48 => ⟨S64x1x19x256, .f32⟩
  | 49 => ⟨S64x1x19x512, .f32⟩
  | 50 => ⟨S1x1x1x512, .f32⟩
  | 51 => ⟨S64x1x19x512, .f32⟩
  | 52 => ⟨S64x1x19x512, .f32⟩
  | 53 => ⟨S_, .f32⟩
  | 54 => ⟨S64x1x19x512, .f32⟩
  | 55 => ⟨S64x1x19x512, .f32⟩
  | 56 => ⟨S_, .i32⟩
  | 57 => ⟨S64x12x19x512, .i32⟩
  | 58 => ⟨S64x12x19x512, .i1⟩
  | 59 => ⟨S64x12x19x512, .f32⟩
  | 60 => ⟨S64x12x19x512, .f32⟩
  | 61 => ⟨S64x1x256, .f32⟩
  | 62 => ⟨S64x256, .f32⟩
  | 63 => ⟨S64x1x1x256, .f32⟩
  | 64 => ⟨S64x1x19x256, .f32⟩
  | 65 => ⟨S64x1x19x256, .f32⟩
  | 66 => ⟨S64x1x19x256, .f32⟩
  | 67 => ⟨S1x1x1x256, .f32⟩
  | 68 => ⟨S64x1x19x256, .f32⟩
  | 69 => ⟨S64x1x19x256, .f32⟩
  | 70 => ⟨S_, .f32⟩
  | 71 => ⟨S64x1x19x256, .f32⟩
  | 72 => ⟨S64x1x19x256, .f32⟩
  | 73 => ⟨S64x1x19x512, .f32⟩
  | 74 => ⟨S1x1x1x512, .f32⟩
  | 75 => ⟨S64x1x19x512, .f32⟩
  | 76 => ⟨S64x1x19x512, .f32⟩
  | 77 => ⟨S_, .f32⟩
  | 78 => ⟨S64x1x19x512, .f32⟩
  | 79 => ⟨S64x1x19x512, .f32⟩
  | 80 => ⟨S_, .i32⟩
  | 81 => ⟨S64x12x19x512, .i32⟩
  | 82 => ⟨S64x12x19x512, .i1⟩
  | 83 => ⟨S64x12x19x512, .f32⟩
  | 84 => ⟨S64x12x19x512, .f32⟩
  | 85 => ⟨S64x12x19x256, .f32⟩
  | 86 => ⟨S64x12x19x256, .f32⟩
  | 87 => ⟨S64x12x19x256, .f32⟩
  | 88 => ⟨S64x12x19x256, .f32⟩
  | 89 => ⟨S_, .f32⟩
  | 90 => ⟨S64x19x256, .f32⟩
  | 91 => ⟨S_, .f32⟩
  | 92 => ⟨S64x19x256, .f32⟩
  | 93 => ⟨S64x19x256, .f32⟩
  | 94 => ⟨S64x12x19x256, .f32⟩
  | 95 => ⟨S64x12x19x256, .f32⟩
  | 96 => ⟨S_, .f32⟩
  | 97 => ⟨S64x19x256, .f32⟩
  | 98 => ⟨S64x19x512, .f32⟩
  | 99 => ⟨S64x19x256, .f32⟩
  | 100 => ⟨S1x1x256, .f32⟩
  | 101 => ⟨S64x19x256, .f32⟩
  | 102 => ⟨S64x19x256, .f32⟩
  | 103 => ⟨S_, .f32⟩
  | 104 => ⟨S64x19x256, .f32⟩
  | 105 => ⟨S64x19x256, .f32⟩
  | 106 => ⟨S64x19x1, .f32⟩
  | 107 => ⟨S1x1x1, .f32⟩
  | 108 => ⟨S64x19x1, .f32⟩
  | 109 => ⟨S64x19x1, .f32⟩
  | 110 => ⟨S64x19, .f32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i32⟩
  | 118 => ⟨S64x1, .i32⟩
  | 119 => ⟨S64, .i32⟩
  | 120 => ⟨S64x1x1x1, .i32⟩
  | 121 => ⟨S_, .i32⟩
  | 122 => ⟨S64x1x1x1, .i32⟩
  | 123 => ⟨S64x1x1x1, .i1⟩
  | 124 => ⟨S_, .i32⟩
  | 125 => ⟨S64x1x1x1, .i32⟩
  | 126 => ⟨S64x1x1x1, .i32⟩
  | 127 => ⟨S64x1x1x1, .i32⟩
  | _ => ⟨S64x12x128, .f32⟩

abbrev hbmTy0_2 (i : Nat) : BufTy := match i % 128 with
  | 0 => ⟨S64x1x1, .i32⟩
  | 1 => ⟨S1, .i32⟩
  | 2 => ⟨S_, .i32⟩
  | 3 => ⟨S64x1x1, .i32⟩
  | 4 => ⟨S64x1x1, .i1⟩
  | 5 => ⟨S1x1x1, .i32⟩
  | 6 => ⟨S64x1x1, .i32⟩
  | 7 => ⟨S64x1x1, .i1⟩
  | 8 => ⟨S64x1x1, .i1⟩
  | 9 => ⟨S_, .i1⟩
  | 10 => ⟨S64x1, .i1⟩
  | 11 => ⟨S64x1x1x256, .f32⟩
  | 12 => ⟨S64x1x1x256, .i1⟩
  | 13 => ⟨S_, .f32⟩
  | 14 => ⟨S64x1x1x256, .f32⟩
  | 15 => ⟨S64x1x1x256, .f32⟩
  | 16 => ⟨S64x256, .f32⟩
  | 17 => ⟨S64x1x1x1, .i32⟩
  | 18 => ⟨S_, .i32⟩
  | 19 => ⟨S64x1x1x1, .i32⟩
  | 20 => ⟨S64x1x1x1, .i1⟩
  | 21 => ⟨S_, .i32⟩
  | 22 => ⟨S64x1x1x1, .i32⟩
  | 23 => ⟨S64x1x1x1, .i32⟩
  | 24 => ⟨S64x1x1x1, .i32⟩
  | 25 => ⟨S64x1x1, .i32⟩
  | 26 => ⟨S1, .i32⟩
  | 27 => ⟨S_, .i32⟩
  | 28 => ⟨S64x1x1, .i32⟩
  | 29 => ⟨S64x1x1, .i1⟩
  | 30 => ⟨S1x1x1, .i32⟩
  | 31 => ⟨S64x1x1, .i32⟩
  | 32 => ⟨S64x1x1, .i1⟩
  | 33 => ⟨S64x1x1, .i1⟩
  | 34 => ⟨S_, .i1⟩
  | 35 => ⟨S64x1, .i1⟩
  | 36 => ⟨S64x1x1x256, .f32⟩
  | 37 => ⟨S64x1x1x256, .i1⟩
  | 38 => ⟨S_, .f32⟩
  | 39 => ⟨S64x1x1x256, .f32⟩
  | 40 => ⟨S64x1x1x256, .f32⟩
  | 41 => ⟨S64x256, .f32⟩
  | 42 => ⟨S64x12x256, .i32⟩
  | 43 => ⟨S_, .i32⟩
  | 44 => ⟨S64x12x256, .i32⟩
  | 45 => ⟨S64x12x256, .i1⟩
  | 46 => ⟨S64x1x256, .f32⟩
  | 47 => ⟨S64x12x256, .f32⟩
  | 48 => ⟨S64x12x256, .f32⟩
  | 49 => ⟨S64x12x256, .f32⟩
  | 50 => ⟨S_, .i32⟩
  | 51 => ⟨S64x12x256, .i32⟩
  | 52 => ⟨S64x12x256, .i1⟩
  | 53 => ⟨S64x1x256, .f32⟩
  | 54 => ⟨S64x12x256, .f32⟩
  | 55 => ⟨S64x12x256, .f32⟩
  | 56 => ⟨S64x12x256, .f32⟩
  | 57 => ⟨S64x12x19, .i32⟩
  | 58 => ⟨S_, .i32⟩
  | 59 => ⟨S64x12x19, .i32⟩
  | 60 => ⟨S64x12x19, .i1⟩
  | 61 => ⟨S64x1x19, .f32⟩
  | 62 => ⟨S64x12x19, .f32⟩
  | 63 => ⟨S64x12x19, .f32⟩
  | 64 => ⟨S_, .i32⟩
  | 65 => ⟨S_, .i32⟩
  | 66 => ⟨S64x12, .i32⟩
  | _ => ⟨S64x12x128, .f32⟩

abbrev hbmTy (i : Nat) : BufTy := match i / 128 with
  | 0 => hbmTy0_0 i
  | 1 => hbmTy0_1 i
  | 2 => hbmTy0_2 i
  | _ => ⟨S64x12x128, .f32⟩

abbrev bufTy : (tb : Table) → Fin (tcTables nBuf tb) → BufTy
  | .hbm, ⟨i, _⟩ => hbmTy i
  | _, _ => ⟨S64x12x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_cst : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_0 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_1 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_2 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_3 : Ref sig .tc := ⟨.hbm, 66, rfl⟩
abbrev main_v34 : Ref sig .tc := ⟨.hbm, 67, rfl⟩
abbrev main_cst_4 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_5 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_6 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_7 : Ref sig .tc := ⟨.hbm, 86, rfl⟩
abbrev main_v50 : Ref sig .tc := ⟨.hbm, 87, rfl⟩
abbrev main_c : Ref sig .tc := ⟨.hbm, 88, rfl⟩
abbrev main_c_8 : Ref sig .tc := ⟨.hbm, 89, rfl⟩
abbrev main_v51_0 : Ref sig .tc := ⟨.hbm, 90, rfl⟩
abbrev main_v51_1 : Ref sig .tc := ⟨.hbm, 91, rfl⟩
abbrev main_v51_2 : Ref sig .tc := ⟨.hbm, 92, rfl⟩
abbrev main_v51_3 : Ref sig .tc := ⟨.hbm, 93, rfl⟩
abbrev main_v51_4 : Ref sig .tc := ⟨.hbm, 94, rfl⟩
abbrev main_v51_5 : Ref sig .tc := ⟨.hbm, 95, rfl⟩
abbrev main_v51_6 : Ref sig .tc := ⟨.hbm, 96, rfl⟩
abbrev main_v51_7 : Ref sig .tc := ⟨.hbm, 97, rfl⟩
abbrev main_v51_8 : Ref sig .tc := ⟨.hbm, 98, rfl⟩
abbrev main_v51_9 : Ref sig .tc := ⟨.hbm, 99, rfl⟩
abbrev main_v51_10 : Ref sig .tc := ⟨.hbm, 100, rfl⟩
abbrev main_v51_11 : Ref sig .tc := ⟨.hbm, 101, rfl⟩
abbrev main_v51_12 : Ref sig .tc := ⟨.hbm, 102, rfl⟩
abbrev main_v51_13 : Ref sig .tc := ⟨.hbm, 103, rfl⟩
abbrev main_v51_14 : Ref sig .tc := ⟨.hbm, 104, rfl⟩
abbrev main_v51_15 : Ref sig .tc := ⟨.hbm, 105, rfl⟩
abbrev main_v51_16 : Ref sig .tc := ⟨.hbm, 106, rfl⟩
abbrev main_v51_17 : Ref sig .tc := ⟨.hbm, 107, rfl⟩
abbrev main_v51_18 : Ref sig .tc := ⟨.hbm, 108, rfl⟩
abbrev main_v51_19 : Ref sig .tc := ⟨.hbm, 109, rfl⟩
abbrev main_v51_20 : Ref sig .tc := ⟨.hbm, 110, rfl⟩
abbrev main_while0c_c_29 : Ref sig .tc := ⟨.hbm, 111, rfl⟩
abbrev main_while0c_v53 : Ref sig .tc := ⟨.hbm, 112, rfl⟩
abbrev main_while0b_c_29 : Ref sig .tc := ⟨.hbm, 113, rfl⟩
abbrev main_while0b_v53 : Ref sig .tc := ⟨.hbm, 114, rfl⟩
abbrev main_while0b_c_30 : Ref sig .tc := ⟨.hbm, 115, rfl⟩
abbrev main_while0b_v54 : Ref sig .tc := ⟨.hbm, 116, rfl⟩
abbrev main_while0b_v55 : Ref sig .tc := ⟨.hbm, 117, rfl⟩
abbrev main_while0b_c_31 : Ref sig .tc := ⟨.hbm, 118, rfl⟩
abbrev main_while0b_v56 : Ref sig .tc := ⟨.hbm, 119, rfl⟩
abbrev main_while0b_v57 : Ref sig .tc := ⟨.hbm, 120, rfl⟩
abbrev main_while0b_c_32 : Ref sig .tc := ⟨.hbm, 121, rfl⟩
abbrev main_while0b_c_33 : Ref sig .tc := ⟨.hbm, 122, rfl⟩
abbrev main_while0b_v58 : Ref sig .tc := ⟨.hbm, 123, rfl⟩
abbrev main_while0b_v59 : Ref sig .tc := ⟨.hbm, 124, rfl⟩
abbrev main_while0b_v60 : Ref sig .tc := ⟨.hbm, 125, rfl⟩
abbrev main_while0b_v61 : Ref sig .tc := ⟨.hbm, 126, rfl⟩
abbrev main_while0b_v62 : Ref sig .tc := ⟨.hbm, 127, rfl⟩
abbrev main_while0b_v63 : Ref sig .tc := ⟨.hbm, 128, rfl⟩
abbrev main_while0b_cst_34 : Ref sig .tc := ⟨.hbm, 129, rfl⟩
abbrev main_while0b_v64 : Ref sig .tc := ⟨.hbm, 130, rfl⟩
abbrev main_while0b_v65 : Ref sig .tc := ⟨.hbm, 131, rfl⟩
abbrev main_while0b_v66 : Ref sig .tc := ⟨.hbm, 132, rfl⟩
abbrev main_while0b_v67 : Ref sig .tc := ⟨.hbm, 133, rfl⟩
abbrev main_while0b_v68 : Ref sig .tc := ⟨.hbm, 134, rfl⟩
abbrev main_while0b_v69 : Ref sig .tc := ⟨.hbm, 135, rfl⟩
abbrev main_while0b_cst_35 : Ref sig .tc := ⟨.hbm, 136, rfl⟩
abbrev main_while0b_v70 : Ref sig .tc := ⟨.hbm, 137, rfl⟩
abbrev main_while0b_v71 : Ref sig .tc := ⟨.hbm, 138, rfl⟩
abbrev main_while0b_v72 : Ref sig .tc := ⟨.hbm, 139, rfl⟩
abbrev main_while0b_c_36 : Ref sig .tc := ⟨.hbm, 140, rfl⟩
abbrev main_while0b_v73 : Ref sig .tc := ⟨.hbm, 141, rfl⟩
abbrev main_while0b_v74 : Ref sig .tc := ⟨.hbm, 142, rfl⟩
abbrev main_while0b_c_37 : Ref sig .tc := ⟨.hbm, 143, rfl⟩
abbrev main_while0b_v75 : Ref sig .tc := ⟨.hbm, 144, rfl⟩
abbrev main_while0b_v76 : Ref sig .tc := ⟨.hbm, 145, rfl⟩
abbrev main_while0b_c_38 : Ref sig .tc := ⟨.hbm, 146, rfl⟩
abbrev main_while0b_v77 : Ref sig .tc := ⟨.hbm, 147, rfl⟩
abbrev main_while0b_v78 : Ref sig .tc := ⟨.hbm, 148, rfl⟩
abbrev main_while0b_v79 : Ref sig .tc := ⟨.hbm, 149, rfl⟩
abbrev main_while0b_v80 : Ref sig .tc := ⟨.hbm, 150, rfl⟩
abbrev main_while0b_v81 : Ref sig .tc := ⟨.hbm, 151, rfl⟩
abbrev main_while0b_v82 : Ref sig .tc := ⟨.hbm, 152, rfl⟩
abbrev main_while0b_v83 : Ref sig .tc := ⟨.hbm, 153, rfl⟩
abbrev main_while0b_v84 : Ref sig .tc := ⟨.hbm, 154, rfl⟩
abbrev main_while0b_cst_39 : Ref sig .tc := ⟨.hbm, 155, rfl⟩
abbrev main_while0b_v85 : Ref sig .tc := ⟨.hbm, 156, rfl⟩
abbrev main_while0b_v86 : Ref sig .tc := ⟨.hbm, 157, rfl⟩
abbrev main_while0b_v87 : Ref sig .tc := ⟨.hbm, 158, rfl⟩
abbrev main_while0b_v88 : Ref sig .tc := ⟨.hbm, 159, rfl⟩
abbrev main_while0b_v89 : Ref sig .tc := ⟨.hbm, 160, rfl⟩
abbrev main_while0b_v90 : Ref sig .tc := ⟨.hbm, 161, rfl⟩
abbrev main_while0b_cst_40 : Ref sig .tc := ⟨.hbm, 162, rfl⟩
abbrev main_while0b_v91 : Ref sig .tc := ⟨.hbm, 163, rfl⟩
abbrev main_while0b_v92 : Ref sig .tc := ⟨.hbm, 164, rfl⟩
abbrev main_while0b_v93 : Ref sig .tc := ⟨.hbm, 165, rfl⟩
abbrev main_while0b_v94 : Ref sig .tc := ⟨.hbm, 166, rfl⟩
abbrev main_while0b_v95 : Ref sig .tc := ⟨.hbm, 167, rfl⟩
abbrev main_while0b_v96 : Ref sig .tc := ⟨.hbm, 168, rfl⟩
abbrev main_while0b_v97 : Ref sig .tc := ⟨.hbm, 169, rfl⟩
abbrev main_while0b_v98 : Ref sig .tc := ⟨.hbm, 170, rfl⟩
abbrev main_while0b_v99 : Ref sig .tc := ⟨.hbm, 171, rfl⟩
abbrev main_while0b_v100 : Ref sig .tc := ⟨.hbm, 172, rfl⟩
abbrev main_while0b_v101 : Ref sig .tc := ⟨.hbm, 173, rfl⟩
abbrev main_while0b_cst_41 : Ref sig .tc := ⟨.hbm, 174, rfl⟩
abbrev main_while0b_v102 : Ref sig .tc := ⟨.hbm, 175, rfl⟩
abbrev main_while0b_v103 : Ref sig .tc := ⟨.hbm, 176, rfl⟩
abbrev main_while0b_v104 : Ref sig .tc := ⟨.hbm, 177, rfl⟩
abbrev main_while0b_v105 : Ref sig .tc := ⟨.hbm, 178, rfl⟩
abbrev main_while0b_v106 : Ref sig .tc := ⟨.hbm, 179, rfl⟩
abbrev main_while0b_v107 : Ref sig .tc := ⟨.hbm, 180, rfl⟩
abbrev main_while0b_cst_42 : Ref sig .tc := ⟨.hbm, 181, rfl⟩
abbrev main_while0b_v108 : Ref sig .tc := ⟨.hbm, 182, rfl⟩
abbrev main_while0b_v109 : Ref sig .tc := ⟨.hbm, 183, rfl⟩
abbrev main_while0b_v110 : Ref sig .tc := ⟨.hbm, 184, rfl⟩
abbrev main_while0b_v111 : Ref sig .tc := ⟨.hbm, 185, rfl⟩
abbrev main_while0b_v112 : Ref sig .tc := ⟨.hbm, 186, rfl⟩
abbrev main_while0b_v113 : Ref sig .tc := ⟨.hbm, 187, rfl⟩
abbrev main_while0b_v114 : Ref sig .tc := ⟨.hbm, 188, rfl⟩
abbrev main_while0b_v115 : Ref sig .tc := ⟨.hbm, 189, rfl⟩
abbrev main_while0b_v116 : Ref sig .tc := ⟨.hbm, 190, rfl⟩
abbrev main_while0b_v117 : Ref sig .tc := ⟨.hbm, 191, rfl⟩
abbrev main_while0b_v118 : Ref sig .tc := ⟨.hbm, 192, rfl⟩
abbrev main_while0b_v119 : Ref sig .tc := ⟨.hbm, 193, rfl⟩
abbrev main_while0b_v120 : Ref sig .tc := ⟨.hbm, 194, rfl⟩
abbrev main_while0b_v121 : Ref sig .tc := ⟨.hbm, 195, rfl⟩
abbrev main_while0b_v122 : Ref sig .tc := ⟨.hbm, 196, rfl⟩
abbrev main_while0b_v123 : Ref sig .tc := ⟨.hbm, 197, rfl⟩
abbrev main_while0b_cst_43 : Ref sig .tc := ⟨.hbm, 198, rfl⟩
abbrev main_while0b_v124 : Ref sig .tc := ⟨.hbm, 199, rfl⟩
abbrev main_while0b_v125 : Ref sig .tc := ⟨.hbm, 200, rfl⟩
abbrev main_while0b_v126 : Ref sig .tc := ⟨.hbm, 201, rfl⟩
abbrev main_while0b_v127 : Ref sig .tc := ⟨.hbm, 202, rfl⟩
abbrev main_while0b_v128 : Ref sig .tc := ⟨.hbm, 203, rfl⟩
abbrev main_while0b_v129 : Ref sig .tc := ⟨.hbm, 204, rfl⟩
abbrev main_while0b_cst_44 : Ref sig .tc := ⟨.hbm, 205, rfl⟩
abbrev main_while0b_v130 : Ref sig .tc := ⟨.hbm, 206, rfl⟩
abbrev main_while0b_v131 : Ref sig .tc := ⟨.hbm, 207, rfl⟩
abbrev main_while0b_c_45 : Ref sig .tc := ⟨.hbm, 208, rfl⟩
abbrev main_while0b_v132 : Ref sig .tc := ⟨.hbm, 209, rfl⟩
abbrev main_while0b_v133 : Ref sig .tc := ⟨.hbm, 210, rfl⟩
abbrev main_while0b_v134 : Ref sig .tc := ⟨.hbm, 211, rfl⟩
abbrev main_while0b_v135 : Ref sig .tc := ⟨.hbm, 212, rfl⟩
abbrev main_while0b_v136 : Ref sig .tc := ⟨.hbm, 213, rfl⟩
abbrev main_while0b_v137 : Ref sig .tc := ⟨.hbm, 214, rfl⟩
abbrev main_while0b_v138 : Ref sig .tc := ⟨.hbm, 215, rfl⟩
abbrev main_while0b_v139 : Ref sig .tc := ⟨.hbm, 216, rfl⟩
abbrev main_while0b_cst_46 : Ref sig .tc := ⟨.hbm, 217, rfl⟩
abbrev main_while0b_v140 : Ref sig .tc := ⟨.hbm, 218, rfl⟩
abbrev main_while0b_cst_47 : Ref sig .tc := ⟨.hbm, 219, rfl⟩
abbrev main_while0b_v141 : Ref sig .tc := ⟨.hbm, 220, rfl⟩
abbrev main_while0b_v142 : Ref sig .tc := ⟨.hbm, 221, rfl⟩
abbrev main_while0b_v143 : Ref sig .tc := ⟨.hbm, 222, rfl⟩
abbrev main_while0b_v144 : Ref sig .tc := ⟨.hbm, 223, rfl⟩
abbrev main_while0b_cst_48 : Ref sig .tc := ⟨.hbm, 224, rfl⟩
abbrev main_while0b_v145 : Ref sig .tc := ⟨.hbm, 225, rfl⟩
abbrev main_while0b_v146 : Ref sig .tc := ⟨.hbm, 226, rfl⟩
abbrev main_while0b_v147 : Ref sig .tc := ⟨.hbm, 227, rfl⟩
abbrev main_while0b_v148 : Ref sig .tc := ⟨.hbm, 228, rfl⟩
abbrev main_while0b_v149 : Ref sig .tc := ⟨.hbm, 229, rfl⟩
abbrev main_while0b_v150 : Ref sig .tc := ⟨.hbm, 230, rfl⟩
abbrev main_while0b_cst_49 : Ref sig .tc := ⟨.hbm, 231, rfl⟩
abbrev main_while0b_v151 : Ref sig .tc := ⟨.hbm, 232, rfl⟩
abbrev main_while0b_v152 : Ref sig .tc := ⟨.hbm, 233, rfl⟩
abbrev main_while0b_v153 : Ref sig .tc := ⟨.hbm, 234, rfl⟩
abbrev main_while0b_v154 : Ref sig .tc := ⟨.hbm, 235, rfl⟩
abbrev main_while0b_v155 : Ref sig .tc := ⟨.hbm, 236, rfl⟩
abbrev main_while0b_v156 : Ref sig .tc := ⟨.hbm, 237, rfl⟩
abbrev main_while0b_v157 : Ref sig .tc := ⟨.hbm, 238, rfl⟩
abbrev main_while0b_c_50 : Ref sig .tc := ⟨.hbm, 239, rfl⟩
abbrev main_while0b_v158 : Ref sig .tc := ⟨.hbm, 240, rfl⟩
abbrev main_while0b_v159 : Ref sig .tc := ⟨.hbm, 241, rfl⟩
abbrev main_while0b_c_51 : Ref sig .tc := ⟨.hbm, 242, rfl⟩
abbrev main_while0b_v160 : Ref sig .tc := ⟨.hbm, 243, rfl⟩
abbrev main_while0b_v161 : Ref sig .tc := ⟨.hbm, 244, rfl⟩
abbrev main_while0b_c_52 : Ref sig .tc := ⟨.hbm, 245, rfl⟩
abbrev main_while0b_v162 : Ref sig .tc := ⟨.hbm, 246, rfl⟩
abbrev main_while0b_v163 : Ref sig .tc := ⟨.hbm, 247, rfl⟩
abbrev main_while0b_v164 : Ref sig .tc := ⟨.hbm, 248, rfl⟩
abbrev main_while0b_call0_c : Ref sig .tc := ⟨.hbm, 249, rfl⟩
abbrev main_while0b_call0_v0 : Ref sig .tc := ⟨.hbm, 250, rfl⟩
abbrev main_while0b_call0_v1 : Ref sig .tc := ⟨.hbm, 251, rfl⟩
abbrev main_while0b_call0_c_0 : Ref sig .tc := ⟨.hbm, 252, rfl⟩
abbrev main_while0b_call0_v2 : Ref sig .tc := ⟨.hbm, 253, rfl⟩
abbrev main_while0b_call0_v3 : Ref sig .tc := ⟨.hbm, 254, rfl⟩
abbrev main_while0b_call0_v4 : Ref sig .tc := ⟨.hbm, 255, rfl⟩
abbrev main_while0b_call0_v5 : Ref sig .tc := ⟨.hbm, 256, rfl⟩
abbrev main_while0b_call0_c_1 : Ref sig .tc := ⟨.hbm, 257, rfl⟩
abbrev main_while0b_call0_c_2 : Ref sig .tc := ⟨.hbm, 258, rfl⟩
abbrev main_while0b_call0_v6 : Ref sig .tc := ⟨.hbm, 259, rfl⟩
abbrev main_while0b_call0_v7 : Ref sig .tc := ⟨.hbm, 260, rfl⟩
abbrev main_while0b_call0_v8 : Ref sig .tc := ⟨.hbm, 261, rfl⟩
abbrev main_while0b_call0_v9 : Ref sig .tc := ⟨.hbm, 262, rfl⟩
abbrev main_while0b_call0_v10 : Ref sig .tc := ⟨.hbm, 263, rfl⟩
abbrev main_while0b_call0_v11 : Ref sig .tc := ⟨.hbm, 264, rfl⟩
abbrev main_while0b_call0_c_3 : Ref sig .tc := ⟨.hbm, 265, rfl⟩
abbrev main_while0b_call0_v12 : Ref sig .tc := ⟨.hbm, 266, rfl⟩
abbrev main_while0b_call0_v13 : Ref sig .tc := ⟨.hbm, 267, rfl⟩
abbrev main_while0b_call0_v14 : Ref sig .tc := ⟨.hbm, 268, rfl⟩
abbrev main_while0b_call0_cst : Ref sig .tc := ⟨.hbm, 269, rfl⟩
abbrev main_while0b_call0_v15 : Ref sig .tc := ⟨.hbm, 270, rfl⟩
abbrev main_while0b_v165 : Ref sig .tc := ⟨.hbm, 271, rfl⟩
abbrev main_while0b_v166 : Ref sig .tc := ⟨.hbm, 272, rfl⟩
abbrev main_while0b_v167 : Ref sig .tc := ⟨.hbm, 273, rfl⟩
abbrev main_while0b_call1_c : Ref sig .tc := ⟨.hbm, 274, rfl⟩
abbrev main_while0b_call1_v0 : Ref sig .tc := ⟨.hbm, 275, rfl⟩
abbrev main_while0b_call1_v1 : Ref sig .tc := ⟨.hbm, 276, rfl⟩
abbrev main_while0b_call1_c_0 : Ref sig .tc := ⟨.hbm, 277, rfl⟩
abbrev main_while0b_call1_v2 : Ref sig .tc := ⟨.hbm, 278, rfl⟩
abbrev main_while0b_call1_v3 : Ref sig .tc := ⟨.hbm, 279, rfl⟩
abbrev main_while0b_call1_v4 : Ref sig .tc := ⟨.hbm, 280, rfl⟩
abbrev main_while0b_call1_v5 : Ref sig .tc := ⟨.hbm, 281, rfl⟩
abbrev main_while0b_call1_c_1 : Ref sig .tc := ⟨.hbm, 282, rfl⟩
abbrev main_while0b_call1_c_2 : Ref sig .tc := ⟨.hbm, 283, rfl⟩
abbrev main_while0b_call1_v6 : Ref sig .tc := ⟨.hbm, 284, rfl⟩
abbrev main_while0b_call1_v7 : Ref sig .tc := ⟨.hbm, 285, rfl⟩
abbrev main_while0b_call1_v8 : Ref sig .tc := ⟨.hbm, 286, rfl⟩
abbrev main_while0b_call1_v9 : Ref sig .tc := ⟨.hbm, 287, rfl⟩
abbrev main_while0b_call1_v10 : Ref sig .tc := ⟨.hbm, 288, rfl⟩
abbrev main_while0b_call1_v11 : Ref sig .tc := ⟨.hbm, 289, rfl⟩
abbrev main_while0b_call1_c_3 : Ref sig .tc := ⟨.hbm, 290, rfl⟩
abbrev main_while0b_call1_v12 : Ref sig .tc := ⟨.hbm, 291, rfl⟩
abbrev main_while0b_call1_v13 : Ref sig .tc := ⟨.hbm, 292, rfl⟩
abbrev main_while0b_call1_v14 : Ref sig .tc := ⟨.hbm, 293, rfl⟩
abbrev main_while0b_call1_cst : Ref sig .tc := ⟨.hbm, 294, rfl⟩
abbrev main_while0b_call1_v15 : Ref sig .tc := ⟨.hbm, 295, rfl⟩
abbrev main_while0b_v168 : Ref sig .tc := ⟨.hbm, 296, rfl⟩
abbrev main_while0b_v169 : Ref sig .tc := ⟨.hbm, 297, rfl⟩
abbrev main_while0b_v170 : Ref sig .tc := ⟨.hbm, 298, rfl⟩
abbrev main_while0b_v171 : Ref sig .tc := ⟨.hbm, 299, rfl⟩
abbrev main_while0b_v172 : Ref sig .tc := ⟨.hbm, 300, rfl⟩
abbrev main_while0b_v173 : Ref sig .tc := ⟨.hbm, 301, rfl⟩
abbrev main_while0b_v174 : Ref sig .tc := ⟨.hbm, 302, rfl⟩
abbrev main_while0b_v175 : Ref sig .tc := ⟨.hbm, 303, rfl⟩
abbrev main_while0b_v176 : Ref sig .tc := ⟨.hbm, 304, rfl⟩
abbrev main_while0b_v177 : Ref sig .tc := ⟨.hbm, 305, rfl⟩
abbrev main_while0b_c_53 : Ref sig .tc := ⟨.hbm, 306, rfl⟩
abbrev main_while0b_v178 : Ref sig .tc := ⟨.hbm, 307, rfl⟩
abbrev main_while0b_v179 : Ref sig .tc := ⟨.hbm, 308, rfl⟩
abbrev main_while0b_v180 : Ref sig .tc := ⟨.hbm, 309, rfl⟩
abbrev main_while0b_v181 : Ref sig .tc := ⟨.hbm, 310, rfl⟩
abbrev main_while0b_v182 : Ref sig .tc := ⟨.hbm, 311, rfl⟩
abbrev main_while0b_v183 : Ref sig .tc := ⟨.hbm, 312, rfl⟩
abbrev main_while0b_v184 : Ref sig .tc := ⟨.hbm, 313, rfl⟩
abbrev main_while0b_v185 : Ref sig .tc := ⟨.hbm, 314, rfl⟩
abbrev main_while0b_v186 : Ref sig .tc := ⟨.hbm, 315, rfl⟩
abbrev main_while0b_v187 : Ref sig .tc := ⟨.hbm, 316, rfl⟩
abbrev main_while0b_v188 : Ref sig .tc := ⟨.hbm, 317, rfl⟩
abbrev main_while0b_v189 : Ref sig .tc := ⟨.hbm, 318, rfl⟩
abbrev main_while0b_v190 : Ref sig .tc := ⟨.hbm, 319, rfl⟩
abbrev main_while0b_c_54 : Ref sig .tc := ⟨.hbm, 320, rfl⟩
abbrev main_while0b_v191 : Ref sig .tc := ⟨.hbm, 321, rfl⟩
abbrev main_v52 : Ref sig .tc := ⟨.hbm, 322, rfl⟩

abbrev nD : Nat := 1
abbrev τ : Topo := Topo.v7x

variable {F : FTy → Type} [FloatOps F]

abbrev main_while0_count : Scf.Loop 32 := ⟨0#32, 12#32, 1#32⟩
-- ==== Proof.KernelIdealBlock.lean ====
/- What the idealized kernel computes on one block of sixteen games, as a function of its thirty-six input blocks (`out0_36`), and
   the buffers as the kernel's region finds them (`V0`, `V`, `iblk`). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the region is entered: after the operations before it. -/
abbrev V0 (c : Dev nD) : Valuation τ sig (Elt F) := StableHlo.after (List.flatten [hostOps0, hostOps0_1]) (fun b => m (c, b))
/-- The same, read at a reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! The rectangles the body reads and writes. -/

abbrev r0_0 : Rect S192x128 := Rect.unit (s := S192x128) ![0, 0] S192x128.size inb_S192x128_S192x128_0_0
abbrev r0_1 : Rect S192x1 := Rect.unit (s := S192x1) ![0, 0] S192x1.size inb_S192x1_S192x1_0_0
abbrev r0_2 : Rect S128x256 := Rect.unit (s := S128x256) ![0, 0] S128x256.size inb_S128x256_S128x256_0_0
abbrev r0_3 : Rect S1x256 := Rect.unit (s := S1x256) ![0, 0] S1x256.size inb_S1x256_S1x256_0_0
abbrev r0_4 : Rect S256x256 := Rect.unit (s := S256x256) ![0, 0] S256x256.size inb_S256x256_S256x256_0_0
abbrev r0_5 : Rect S384x256 := Rect.unit (s := S384x256) ![0, 0] S384x256.size inb_S384x256_S384x256_0_0
abbrev r0_6 : Rect S256x512 := Rect.unit (s := S256x512) ![0, 0] S256x512.size inb_S256x512_S256x512_0_0
abbrev r0_7 : Rect S1x512 := Rect.unit (s := S1x512) ![0, 0] S1x512.size inb_S1x512_S1x512_0_0
abbrev r0_8 : Rect S768x256 := Rect.unit (s := S768x256) ![0, 0] S768x256.size inb_S768x256_S768x256_0_0
abbrev r0_9 : Rect S256x4864 := Rect.unit (s := S256x4864) ![0, 0] S256x4864.size inb_S256x4864_S256x4864_0_0
abbrev r0_10 : Rect S1x4864 := Rect.unit (s := S1x4864) ![0, 0] S1x4864.size inb_S1x4864_S1x4864_0_0
abbrev r0_11 : Rect S19x256 := Rect.unit (s := S19x256) ![0, 0] S19x256.size inb_S19x256_S19x256_0_0
abbrev r0_12 : Rect S512x256 := Rect.unit (s := S512x256) ![0, 0] S512x256.size inb_S512x256_S512x256_0_0
abbrev r0_13 : Rect S256x1 := Rect.unit (s := S256x1) ![0, 0] S256x1.size inb_S256x1_S256x1_0_0
abbrev r0_14 : Rect S1x1 := Rect.unit (s := S1x1) ![0, 0] S1x1.size inb_S1x1_S1x1_0_0
abbrev r0_15 : Rect S2304x192 := Rect.unit (s := S2304x192) ![0, 0] S2304x192.size inb_S2304x192_S2304x192_0_0
abbrev r0_16 : Rect S192x192 := Rect.unit (s := S192x192) ![0, 0] S192x192.size inb_S192x192_S192x192_0_0
abbrev r0_17 : Rect S16x192 := Rect.unit (s := S16x192) ![0, 0] S16x192.size inb_S16x192_S16x192_0_0
abbrev r0_18 : Rect S192x16 := Rect.unit (s := S192x16) ![0, 0] S192x16.size inb_S192x16_S192x16_0_0
abbrev r0_19 : Rect S19x4864 := Rect.unit (s := S19x4864) ![0, 0] S19x4864.size inb_S19x4864_S19x4864_0_0
abbrev r0_20 : Rect S192x1536 := Rect.unit (s := S192x1536) ![0, 0] S192x1536.size inb_S192x1536_S192x1536_0_0
abbrev r0_21 : Rect S3648x1 := Rect.unit (s := S3648x1) ![0, 0] S3648x1.size inb_S3648x1_S3648x1_0_0

/-! The body's values that are used more than once, each over the blocks it depends on. -/

variable (x0 : Vec F S192x128 .f32) (x1 : Vec F S192x1536 .f32) (x2 : Vec F S192x1 .i32) (x3 : Vec F S128x256 .f32) (x4 : Vec F S1x256 .f32) (x5 : Vec F S256x256 .f32) (x6 : Vec F S1x256 .f32) (x7 : Vec F S384x256 .f32) (x8 : Vec F S1x256 .f32) (x9 : Vec F S256x512 .f32) (x10 : Vec F S1x512 .f32) (x11 : Vec F S768x256 .f32) (x12 : Vec F S1x256 .f32) (x13 : Vec F S256x256 .f32) (x14 : Vec F S1x256 .f32) (x15 : Vec F S256x4864 .f32) (x16 : Vec F S1x4864 .f32) (x17 : Vec F S19x256 .f32) (x18 : Vec F S256x256 .f32) (x19 : Vec F S1x256 .f32) (x20 : Vec F S256x512 .f32) (x21 : Vec F S1x512 .f32) (x22 : Vec F S512x256 .f32) (x23 : Vec F S1x256 .f32) (x24 : Vec F S256x1 .f32) (x25 : Vec F S1x1 .f32) (x26 : Vec F S2304x192 .f32) (x27 : Vec F S192x192 .f32) (x28 : Vec F S192x192 .f32) (x29 : Vec F S192x192 .f32) (x30 : Vec F S192x192 .f32) (x31 : Vec F S192x192 .f32) (x32 : Vec F S16x192 .f32) (x33 : Vec F S192x16 .f32) (x34 : Vec F S19x4864 .f32) (x35 : Vec F S192x1 .f32)

def k0_pay102 : FVec F S192x128 .f32 :=
  k0_pay2 (View.ld x0 r0_0)
def k0_pay103 : FVec F S192x1 .f32 :=
  k0_pay3 (View.ld x0 r0_0)
def k0_pay104 : IVec S192x1 32 :=
  k0_pay4 (View.ld x2 r0_1)
def k0_pay105 : FVec F S1x256 .f32 :=
  k0_pay5 (View.ld x4 r0_3)
def k0_pay106 : FVec F S1x256 .f32 :=
  k0_pay6 (View.ld x6 r0_3)
def k0_pay107 : FVec F S1x256 .f32 :=
  k0_pay9 (View.ld x12 r0_3)
def k0_pay108 : FVec F S1x256 .f32 :=
  k0_pay10 (View.ld x14 r0_3)
def k0_pay109 : FVec F S1x4864 .f32 :=
  k0_pay11 (View.ld x16 r0_10)
def k0_pay110 : FVec F S19x256 .f32 :=
  k0_pay12 (View.ld x17 r0_11)
def k0_pay111 : FVec F S1x256 .f32 :=
  k0_pay13 (View.ld x19 r0_3)
def k0_pay112 : FVec F S1x512 .f32 :=
  k0_pay14 (View.ld x21 r0_7)
def k0_pay113 : FVec F S192x192 .f32 :=
  k0_pay18 (View.ld x27 r0_16)
def k0_pay114 : FVec F S192x192 .f32 :=
  k0_pay19 (View.ld x28 r0_16)
def k0_pay115 : FVec F S192x192 .f32 :=
  k0_pay21 (View.ld x30 r0_16)
def k0_pay116 : FVec F S16x192 .f32 :=
  k0_pay23 (View.ld x32 r0_17)
def k0_pay117 : FVec F S192x16 .f32 :=
  k0_pay24 (View.ld x33 r0_18)
def k0_pay118 : FVec F S19x4864 .f32 :=
  k0_pay25 (View.ld x34 r0_19)
def k0_pay119 : FVec F S192x1 .f32 :=
  k0_pay26 (View.ld x35 r0_1)
def k0_pay120 : FVec F S192x1 .f32 :=
  k0_pay27 (View.ld x35 r0_1)
def k0_pay121 : FVec F S192x256 .f32 :=
  k0_pay28 (k0_pay102 x0) (View.ld x3 r0_2) (k0_pay105 x4) (View.ld x5 r0_4) (k0_pay106 x6)
def k0_pay122 : FVec F S2304x512 .f32 :=
  k0_pay29 (k0_pay102 x0) (View.ld x3 r0_2) (k0_pay105 x4) (View.ld x5 r0_4) (k0_pay106 x6) (View.ld x7 r0_5) (k0_pay7 (View.ld x8 r0_3)) (View.ld x9 r0_6) (k0_pay8 (View.ld x10 r0_7)) (k0_pay17 (View.ld x26 r0_15)) (View.ld x1 r0_20)
def k0_pay123 : FVec F S192x256 .f32 :=
  k0_pay42 (k0_pay122 x0 x1 x3 x4 x5 x6 x7 x8 x9 x10 x26) (Scalar.ofBits .f32 0x00000000#32)
def k0_pay124 : FVec F S192x256 .f32 :=
  k0_pay43 (k0_pay122 x0 x1 x3 x4 x5 x6 x7 x8 x9 x10 x26) (Scalar.ofBits .f32 0x00000000#32)
def k0_pay125 : FVec F S192x256 .f32 :=
  k0_pay44 (View.ld x11 r0_8) (k0_pay107 x12) (k0_pay121 x0 x3 x4 x5 x6) (k0_pay123 x0 x1 x3 x4 x5 x6 x7 x8 x9 x10 x26) (k0_pay124 x0 x1 x3 x4 x5 x6 x7 x8 x9 x10 x26) (Named.named κ "inv_n" 0x3DAAAAAB#32)
def k0_pay126 : FVec F S192x4864 .f32 :=
  k0_pay47 (k0_pay103 x0) (k0_pay104 x2) (View.ld x11 r0_8) (k0_pay107 x12) (View.ld x13 r0_4) (k0_pay108 x14) (View.ld x15 r0_9) (k0_pay109 x16) (k0_pay118 x34) (k0_pay121 x0 x3 x4 x5 x6) (k0_pay123 x0 x1 x3 x4 x5 x6 x7 x8 x9 x10 x26) (k0_pay124 x0 x1 x3 x4 x5 x6 x7 x8 x9 x10 x26) (Named.named κ "inv_n" 0x3DAAAAAB#32)
def k0_pay127 : FVec F S192x256 .f32 :=
  k0_pay48 (k0_pay103 x0) (k0_pay104 x2) (View.ld x11 r0_8) (k0_pay107 x12) (View.ld x13 r0_4) (k0_pay108 x14) (View.ld x15 r0_9) (k0_pay109 x16) (k0_pay118 x34) (k0_pay121 x0 x3 x4 x5 x6) (k0_pay123 x0 x1 x3 x4 x5 x6 x7 x8 x9 x10 x26) (k0_pay124 x0 x1 x3 x4 x5 x6 x7 x8 x9 x10 x26) (Named.named κ "inv_n" 0x3DAAAAAB#32)
def k0_pay128 : FVec F S192x256 .f32 :=
  k0_pay49 (k0_pay103 x0) (k0_pay104 x2) (View.ld x11 r0_8) (k0_pay107 x12) (View.ld x13 r0_4) (k0_pay108 x14) (View.ld x15 r0_9) (k0_pay109 x16) (k0_pay118 x34) (k0_pay121 x0 x3 x4 x5 x6) (k0_pay123 x0 x1 x3 x4 x5 x6 x7 x8 x9 x10 x26) (k0_pay124 x0 x1 x3 x4 x5 x6 x7 x8 x9 x10 x26) (Named.named κ "inv_n" 0x3DAAAAAB#32)
def k0_pay129 : FVec F S384x512 .f32 :=
  constant S384x512 .f32 0x00000000#32
def k0_pay130 : FVec F S192x4864 .f32 :=
  k0_pay52 (k0_pay103 x0) (View.ld x13 r0_4) (k0_pay108 x14) (View.ld x15 r0_9) (k0_pay109 x16) (k0_pay113 x27) (k0_pay114 x28) (k0_pay116 x32) (k0_pay117 x33) (k0_pay119 x35) (k0_pay120 x35) (k0_pay125 x0 x1 x3 x4 x5 x6 x7 x8 x9 x10 x11 x12 x26) (k0_pay45 (View.ld x11 r0_8) (k0_pay107 x12) (View.ld x13 r0_4) (k0_pay108 x14) (View.ld x15 r0_9) (k0_pay109 x16) (k0_pay121 x0 x3 x4 x5 x6) (k0_pay123 x0 x1 x3 x4 x5 x6 x7 x8 x9 x10 x26) (k0_pay124 x0 x1 x3 x4 x5 x6 x7 x8 x9 x10 x26) (Named.named κ "inv_n" 0x3DAAAAAB#32)) (k0_pay126 x0 x1 x2 x3 x4 x5 x6 x7 x8 x9 x10 x11 x12 x13 x14 x15 x16 x26 x34) (k0_pay127 x0 x1 x2 x3 x4 x5 x6 x7 x8 x9 x10 x11 x12 x13 x14 x15 x16 x26 x34) (k0_pay128 x0 x1 x2 x3 x4 x5 x6 x7 x8 x9 x10 x11 x12 x13 x14 x15 x16 x26 x34)
def k0_pay131 : FVec F S384x256 .f32 :=
  k0_pay54 (k0_pay110 x17) (View.ld x18 r0_4) (k0_pay111 x19) (k0_pay125 x0 x1 x3 x4 x5 x6 x7 x8 x9 x10 x11 x12 x26) (k0_pay46 (F := F) (k0_pay104 x2))

/-- The output block after the body. -/
def out0_36 : Vec F S3648x1 .f32 :=
  View.canon [⟨r0_21, k0_pay1 (k0_pay100 (View.ld x18 r0_4) (k0_pay111 x19) (View.ld x20 r0_6) (k0_pay112 x21) (View.ld x22 r0_12) (k0_pay15 (View.ld x23 r0_3)) (View.ld x24 r0_13) (k0_pay120 x35) (k0_pay50 (k0_pay113 x27) (k0_pay114 x28) (k0_pay125 x0 x1 x3 x4 x5 x6 x7 x8 x9 x10 x11 x12 x26) (k0_pay126 x0 x1 x2 x3 x4 x5 x6 x7 x8 x9 x10 x11 x12 x13 x14 x15 x16 x26 x34) (k0_pay127 x0 x1 x2 x3 x4 x5 x6 x7 x8 x9 x10 x11 x12 x13 x14 x15 x16 x26 x34) (k0_pay128 x0 x1 x2 x3 x4 x5 x6 x7 x8 x9 x10 x11 x12 x13 x14 x15 x16 x26 x34)) (k0_pay130 x0 x1 x2 x3 x4 x5 x6 x7 x8 x9 x10 x11 x12 x13 x14 x15 x16 x26 x27 x28 x32 x33 x34 x35) (k0_pay58 (View.ld x20 r0_6) (k0_pay112 x21) (k0_pay113 x27) (k0_pay20 (View.ld x29 r0_16)) (k0_pay131 x0 x1 x2 x3 x4 x5 x6 x7 x8 x9 x10 x11 x12 x17 x18 x19 x26) k0_pay129) (k0_pay81 (k0_pay22 (View.ld x31 r0_16)) (k0_pay60 (View.ld x20 r0_6) (k0_pay112 x21) (k0_pay115 x30) (k0_pay131 x0 x1 x2 x3 x4 x5 x6 x7 x8 x9 x10 x11 x12 x17 x18 x19 x26) k0_pay129) (k0_pay61 (F := F)) (k0_pay62 (View.ld x20 r0_6) (k0_pay112 x21) (k0_pay115 x30) (k0_pay131 x0 x1 x2 x3 x4 x5 x6 x7 x8 x9 x10 x11 x12 x17 x18 x19 x26) k0_pay129) (k0_pay63 (View.ld x20 r0_6) (k0_pay112 x21) (k0_pay115 x30) (k0_pay131 x0 x1 x2 x3 x4 x5 x6 x7 x8 x9 x10 x11 x12 x17 x18 x19 x26) k0_pay129) (k0_pay64 (View.ld x20 r0_6) (k0_pay112 x21) (k0_pay115 x30) (k0_pay131 x0 x1 x2 x3 x4 x5 x6 x7 x8 x9 x10 x11 x12 x17 x18 x19 x26) k0_pay129) (k0_pay65 (View.ld x20 r0_6) (k0_pay112 x21) (k0_pay115 x30) (k0_pay131 x0 x1 x2 x3 x4 x5 x6 x7 x8 x9 x10 x11 x12 x17 x18 x19 x26) k0_pay129) (k0_pay66 (View.ld x20 r0_6) (k0_pay112 x21) (k0_pay115 x30) (k0_pay131 x0 x1 x2 x3 x4 x5 x6 x7 x8 x9 x10 x11 x12 x17 x18 x19 x26) k0_pay129) (k0_pay67 (View.ld x20 r0_6) (k0_pay112 x21) (k0_pay115 x30) (k0_pay131 x0 x1 x2 x3 x4 x5 x6 x7 x8 x9 x10 x11 x12 x17 x18 x19 x26) k0_pay129) (k0_pay68 (View.ld x20 r0_6) (k0_pay112 x21) (k0_pay115 x30) (k0_pay131 x0 x1 x2 x3 x4 x5 x6 x7 x8 x9 x10 x11 x12 x17 x18 x19 x26) k0_pay129) (k0_pay69 (View.ld x20 r0_6) (k0_pay112 x21) (k0_pay115 x30) (k0_pay131 x0 x1 x2 x3 x4 x5 x6 x7 x8 x9 x10 x11 x12 x17 x18 x19 x26) k0_pay129) (k0_pay70 (View.ld x20 r0_6) (k0_pay112 x21) (k0_pay115 x30) (k0_pay131 x0 x1 x2 x3 x4 x5 x6 x7 x8 x9 x10 x11 x12 x17 x18 x19 x26) k0_pay129) (k0_pay71 (View.ld x20 r0_6) (k0_pay112 x21) (k0_pay115 x30) (k0_pay131 x0 x1 x2 x3 x4 x5 x6 x7 x8 x9 x10 x11 x12 x17 x18 x19 x26) k0_pay129) (k0_pay72 (View.ld x20 r0_6) (k0_pay112 x21) (k0_pay115 x30) (k0_pay131 x0 x1 x2 x3 x4 x5 x6 x7 x8 x9 x10 x11 x12 x17 x18 x19 x26) k0_pay129) (k0_pay73 (View.ld x20 r0_6) (k0_pay112 x21) (k0_pay115 x30) (k0_pay131 x0 x1 x2 x3 x4 x5 x6 x7 x8 x9 x10 x11 x12 x17 x18 x19 x26) k0_pay129) (k0_pay74 (View.ld x20 r0_6) (k0_pay112 x21) (k0_pay115 x30) (k0_pay131 x0 x1 x2 x3 x4 x5 x6 x7 x8 x9 x10 x11 x12 x17 x18 x19 x26) k0_pay129) (k0_pay75 (View.ld x20 r0_6) (k0_pay112 x21) (k0_pay115 x30) (k0_pay131 x0 x1 x2 x3 x4 x5 x6 x7 x8 x9 x10 x11 x12 x17 x18 x19 x26) k0_pay129) (k0_pay76 (View.ld x20 r0_6) (k0_pay112 x21) (k0_pay115 x30) (k0_pay131 x0 x1 x2 x3 x4 x5 x6 x7 x8 x9 x10 x11 x12 x17 x18 x19 x26) k0_pay129) (k0_pay77 (View.ld x20 r0_6) (k0_pay112 x21) (k0_pay115 x30) (k0_pay131 x0 x1 x2 x3 x4 x5 x6 x7 x8 x9 x10 x11 x12 x17 x18 x19 x26) k0_pay129) (k0_pay78 (View.ld x20 r0_6) (k0_pay112 x21) (k0_pay115 x30) (k0_pay131 x0 x1 x2 x3 x4 x5 x6 x7 x8 x9 x10 x11 x12 x17 x18 x19 x26) k0_pay129) (k0_pay79 (View.ld x20 r0_6) (k0_pay112 x21) (k0_pay115 x30) (k0_pay131 x0 x1 x2 x3 x4 x5 x6 x7 x8 x9 x10 x11 x12 x17 x18 x19 x26) k0_pay129) (k0_pay80 (View.ld x20 r0_6) (k0_pay112 x21) (k0_pay115 x30) (k0_pay131 x0 x1 x2 x3 x4 x5 x6 x7 x8 x9 x10 x11 x12 x17 x18 x19 x26) k0_pay129)) (k0_pay82 (k0_pay110 x17) (View.ld x18 r0_4) (k0_pay111 x19) (View.ld x20 r0_6) (k0_pay112 x21) (k0_pay53 (k0_pay113 x27) (k0_pay114 x28) (k0_pay116 x32) (k0_pay117 x33) (k0_pay119 x35) (k0_pay120 x35) (k0_pay125 x0 x1 x3 x4 x5 x6 x7 x8 x9 x10 x11 x12 x26) (k0_pay126 x0 x1 x2 x3 x4 x5 x6 x7 x8 x9 x10 x11 x12 x13 x14 x15 x16 x26 x34) (k0_pay127 x0 x1 x2 x3 x4 x5 x6 x7 x8 x9 x10 x11 x12 x13 x14 x15 x16 x26 x34) (k0_pay128 x0 x1 x2 x3 x4 x5 x6 x7 x8 x9 x10 x11 x12 x13 x14 x15 x16 x26 x34))) (k0_pay83 (k0_pay130 x0 x1 x2 x3 x4 x5 x6 x7 x8 x9 x10 x11 x12 x13 x14 x15 x16 x26 x27 x28 x32 x33 x34 x35)) (k0_pay84 (k0_pay130 x0 x1 x2 x3 x4 x5 x6 x7 x8 x9 x10 x11 x12 x13 x14 x15 x16 x26 x27 x28 x32 x33 x34 x35)) (k0_pay85 (k0_pay130 x0 x1 x2 x3 x4 x5 x6 x7 x8 x9 x10 x11 x12 x13 x14 x15 x16 x26 x27 x28 x32 x33 x34 x35)) (k0_pay86 (k0_pay130 x0 x1 x2 x3 x4 x5 x6 x7 x8 x9 x10 x11 x12 x13 x14 x15 x16 x26 x27 x28 x32 x33 x34 x35)) (k0_pay87 (k0_pay130 x0 x1 x2 x3 x4 x5 x6 x7 x8 x9 x10 x11 x12 x13 x14 x15 x16 x26 x27 x28 x32 x33 x34 x35)) (k0_pay88 (k0_pay130 x0 x1 x2 x3 x4 x5 x6 x7 x8 x9 x10 x11 x12 x13 x14 x15 x16 x26 x27 x28 x32 x33 x34 x35)) (k0_pay89 (k0_pay130 x0 x1 x2 x3 x4 x5 x6 x7 x8 x9 x10 x11 x12 x13 x14 x15 x16 x26 x27 x28 x32 x33 x34 x35)) (k0_pay90 (k0_pay130 x0 x1 x2 x3 x4 x5 x6 x7 x8 x9 x10 x11 x12 x13 x14 x15 x16 x26 x27 x28 x32 x33 x34 x35)) (k0_pay91 (k0_pay130 x0 x1 x2 x3 x4 x5 x6 x7 x8 x9 x10 x11 x12 x13 x14 x15 x16 x26 x27 x28 x32 x33 x34 x35)) (k0_pay92 (k0_pay130 x0 x1 x2 x3 x4 x5 x6 x7 x8 x9 x10 x11 x12 x13 x14 x15 x16 x26 x27 x28 x32 x33 x34 x35)) (k0_pay93 (k0_pay130 x0 x1 x2 x3 x4 x5 x6 x7 x8 x9 x10 x11 x12 x13 x14 x15 x16 x26 x27 x28 x32 x33 x34 x35)) (k0_pay94 (k0_pay130 x0 x1 x2 x3 x4 x5 x6 x7 x8 x9 x10 x11 x12 x13 x14 x15 x16 x26 x27 x28 x32 x33 x34 x35)) (k0_pay95 (k0_pay130 x0 x1 x2 x3 x4 x5 x6 x7 x8 x9 x10 x11 x12 x13 x14 x15 x16 x26 x27 x28 x32 x33 x34 x35)) (k0_pay96 (k0_pay130 x0 x1 x2 x3 x4 x5 x6 x7 x8 x9 x10 x11 x12 x13 x14 x15 x16 x26 x27 x28 x32 x33 x34 x35)) (k0_pay97 (k0_pay130 x0 x1 x2 x3 x4 x5 x6 x7 x8 x9 x10 x11 x12 x13 x14 x15 x16 x26 x27 x28 x32 x33 x34 x35)) (k0_pay98 (k0_pay130 x0 x1 x2 x3 x4 x5 x6 x7 x8 x9 x10 x11 x12 x13 x14 x15 x16 x26 x27 x28 x32 x33 x34 x35)) (k0_pay99 (k0_pay130 x0 x1 x2 x3 x4 x5 x6 x7 x8 x9 x10 x11 x12 x13 x14 x15 x16 x26 x27 x28 x32 x33 x34 x35))) (k0_pay101 (k0_pay16 (View.ld x25 r0_14)))⟩]

end Cert.KernelIdeal.Gen

end
-- ==== Proof.KernelIdealBody.lean ====
/- The body of the idealized kernel run on whole staging buffers: it leaves its inputs alone and its output at `out0_36`. -/
module

public import proofs.«01_k».proof.Proof.KernelIdealBlock
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The one store covers the output block. -/
theorem cover0_36 (p0 : Vec F S3648x1 .f32) (y : S3648x1.Idx) :
    ∃ pc ∈ ([⟨r0_21, p0⟩] : List (View.Piece (Elt F) S3648x1 .f32)), y ∈ pc.1.set :=
  View.cover_of_tiled [⟨r0_21, p0⟩] S3648x1.size (by rfl) y

set_option maxHeartbeats 6431450 in
/-- The body, on whole staging buffers. -/
theorem sound_kernel (c : Dev nD) (E : Set ℕ) (i : grid0.Coords) (arg1 : Memref sig .tc .vmem S192x128 .f32) (harg1 : arg1.IsWhole) (arg2 : Memref sig .tc .vmem S192x1536 .f32) (harg2 : arg2.IsWhole) (arg3 : Memref sig .tc .vmem S192x1 .i32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S384x256 .f32) (harg8 : arg8.IsWhole) (arg9 : Memref sig .tc .vmem S1x256 .f32) (harg9 : arg9.IsWhole) (arg10 : Memref sig .tc .vmem S256x512 .f32) (harg10 : arg10.IsWhole) (arg11 : Memref sig .tc .vmem S1x512 .f32) (harg11 : arg11.IsWhole) (arg12 : Memref sig .tc .vmem S768x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S256x4864 .f32) (harg16 : arg16.IsWhole) (arg17 : Memref sig .tc .vmem S1x4864 .f32) (harg17 : arg17.IsWhole) (arg18 : Memref sig .tc .vmem S19x256 .f32) (harg18 : arg18.IsWhole) (arg19 : Memref sig .tc .vmem S256x256 .f32) (harg19 : arg19.IsWhole) (arg20 : Memref sig .tc .vmem S1x256 .f32) (harg20 : arg20.IsWhole) (arg21 : Memref sig .tc .vmem S256x512 .f32) (harg21 : arg21.IsWhole) (arg22 : Memref sig .tc .vmem S1x512 .f32) (harg22 : arg22.IsWhole) (arg23 : Memref sig .tc .vmem S512x256 .f32) (harg23 : arg23.IsWhole) (arg24 : Memref sig .tc .vmem S1x256 .f32) (harg24 : arg24.IsWhole) (arg25 : Memref sig .tc .vmem S256x1 .f32) (harg25 : arg25.IsWhole) (arg26 : Memref sig .tc .vmem S1x1 .f32) (harg26 : arg26.IsWhole) (arg27 : Memref sig .tc .vmem S2304x192 .f32) (harg27 : arg27.IsWhole) (arg28 : Memref sig .tc .vmem S192x192 .f32) (harg28 : arg28.IsWhole) (arg29 : Memref sig .tc .vmem S192x192 .f32) (harg29 : arg29.IsWhole) (arg30 : Memref sig .tc .vmem S192x192 .f32) (harg30 : arg30.IsWhole) (arg31 : Memref sig .tc .vmem S192x192 .f32) (harg31 : arg31.IsWhole) (arg32 : Memref sig .tc .vmem S192x192 .f32) (harg32 : arg32.IsWhole) (arg33 : Memref sig .tc .vmem S16x192 .f32) (harg33 : arg33.IsWhole) (arg34 : Memref sig .tc .vmem S192x16 .f32) (harg34 : arg34.IsWhole) (arg35 : Memref sig .tc .vmem S19x4864 .f32) (harg35 : arg35.IsWhole) (arg36 : Memref sig .tc .vmem S192x1 .f32) (harg36 : arg36.IsWhole) (arg37 : Memref sig .tc .vmem S3648x1 .f32) (harg37 : arg37.IsWhole)
    (x0 : Vec F S192x128 .f32) (x1 : Vec F S192x1536 .f32) (x2 : Vec F S192x1 .i32) (x3 : Vec F S128x256 .f32) (x4 : Vec F S1x256 .f32) (x5 : Vec F S256x256 .f32) (x6 : Vec F S1x256 .f32) (x7 : Vec F S384x256 .f32) (x8 : Vec F S1x256 .f32) (x9 : Vec F S256x512 .f32) (x10 : Vec F S1x512 .f32) (x11 : Vec F S768x256 .f32) (x12 : Vec F S1x256 .f32) (x13 : Vec F S256x256 .f32) (x14 : Vec F S1x256 .f32) (x15 : Vec F S256x4864 .f32) (x16 : Vec F S1x4864 .f32) (x17 : Vec F S19x256 .f32) (x18 : Vec F S256x256 .f32) (x19 : Vec F S1x256 .f32) (x20 : Vec F S256x512 .f32) (x21 : Vec F S1x512 .f32) (x22 : Vec F S512x256 .f32) (x23 : Vec F S1x256 .f32) (x24 : Vec F S256x1 .f32) (x25 : Vec F S1x1 .f32) (x26 : Vec F S2304x192 .f32) (x27 : Vec F S192x192 .f32) (x28 : Vec F S192x192 .f32) (x29 : Vec F S192x192 .f32) (x30 : Vec F S192x192 .f32) (x31 : Vec F S192x192 .f32) (x32 : Vec F S16x192 .f32) (x33 : Vec F S192x16 .f32) (x34 : Vec F S19x4864 .f32) (x35 : Vec F S192x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare x32 ∗ owns (c : Thread nD τ) arg34 fullShare x33 ∗ owns (c : Thread nD τ) arg35 fullShare x34 ∗ owns (c : Thread nD τ) arg36 fullShare x35 ∗ (∃ d, owns (c : Thread nD τ) arg37 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare x32 ∗ owns (c : Thread nD τ) arg34 fullShare x33 ∗ owns (c : Thread nD τ) arg35 fullShare x34 ∗ owns (c : Thread nD τ) arg36 fullShare x35 ∗ owns (c : Thread nD τ) arg37 fullShare (out0_36 x0 x1 x2 x3 x4 x5 x6 x7 x8 x9 x10 x11 x12 x13 x14 x15 x16 x17 x18 x19 x20 x21 x22 x23 x24 x25 x26 x27 x28 x29 x30 x31 x32 x33 x34 x35)) -∗ K ⟨⟩))
      ⊢ wp frame (wpE (defs₀ (F := F)) Variants.none c none) E (cc0__grface_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) K := by
  simp only [cc0__grface_kernel_eq_skeleton]; unfold cc0__grface_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%d36, %f36, -, H36⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  iexists _; isplitr
  swap; · iexact H36
  ipureintro
  refine (View.read_writes_eq_canon _ _ _ (cover0_36 _)).trans ?_
  rfl

end Cert.KernelIdeal.Gen

end
-- ==== Proof.KernelIdealRun.lean ====
/- The run of the idealized kernel: the launch around its region, the body obligation, and the frame. -/
module

public import proofs.«01_k».proof.Proof.KernelIdealBody
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 222000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The argument arrays. -/
def inputs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27]

set_option maxHeartbeats 8000000 in
/-- No operation before the region writes an argument. -/
theorem V_input (c : Dev nD) : ∀ b ∈ inputs, V m c b = m ((c : Thread nD τ).loc b) := by
  intro b hb
  simp only [inputs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl | rfl <;>
  exact StableHlo.after_of_forall_not_mem (b := Proc.devRef .tc _) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The argument arrays that no window stages. -/
def unstaged : List (Ref sig .tc) := [main_arg0, main_arg1, main_arg2, main_arg3, main_arg4, main_arg6, main_arg8, main_arg10, main_arg12, main_arg14, main_arg16, main_arg18, main_arg19, main_arg21, main_arg23, main_arg25, main_arg27]

set_option maxHeartbeats 8000000 in
/-- No operation after the region writes an argument either. -/
theorem W_unstaged (dats : (p : Fin _) → (c : Dev nD) → Dat τ (Elt F) Unit ℕ (UR sig nD τ) ℕ (cfgs p) c) (c : Dev nD) :
    ∀ b ∈ unstaged, Pipeline.afterTail₀ cfgs dats 0 (V0 m) [hostOps1] c b = m ((c : Thread nD τ).loc b) := by
  intro b hb
  have hi : b ∈ inputs := (by decide : ∀ b ∈ unstaged, b ∈ inputs) b hb
  have hn : ∀ w, Pipeline.arrRef spec0 w ≠ b := (by decide : ∀ b ∈ unstaged, ∀ w, Pipeline.arrRef spec0 w ≠ b) b hb
  unfold Pipeline.afterTail₀
  rw [StableHlo.after_of_forall_not_mem (b := Proc.devRef .tc b) _ _ (List.forall_iff_forall_mem.mp (by
      simp only [unstaged, List.mem_cons, List.not_mem_nil, or_false] at hb
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals
        refine StableHlo.devRef_ne_of_ne ?_
        rcases hb with rfl | rfl | rfl | rfl | rfl | rfl | rfl | rfl | rfl | rfl | rfl | rfl | rfl | rfl | rfl | rfl | rfl <;> decide)),
    Pipeline.withArrays_of_ne _ c (V0 m c) _ b hn]
  exact V_input m c b hi

set_option maxHeartbeats 4000000 in
/-- The frame, from a run to the pipeline's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c => ⟨(((h c).2 main_arg0 (Pipeline.mem_restRefs_of main_arg0 (by decide) (by decide))).trans (W_unstaged m dats c _ (by decide))),
      (((h c).2 main_arg1 (Pipeline.mem_restRefs_of main_arg1 (by decide) (by decide))).trans (W_unstaged m dats c _ (by decide))),
      (((h c).2 main_arg2 (Pipeline.mem_restRefs_of main_arg2 (by decide) (by decide))).trans (W_unstaged m dats c _ (by decide))),
      (((h c).2 main_arg3 (Pipeline.mem_restRefs_of main_arg3 (by decide) (by decide))).trans (W_unstaged m dats c _ (by decide))),
      (((h c).2 main_arg4 (Pipeline.mem_restRefs_of main_arg4 (by decide) (by decide))).trans (W_unstaged m dats c _ (by decide))),
      ((h c).1 3).trans (((dats 0 c).arrAt_in 3 rfl _).trans ((hA c 3).trans (V_input m c _ (by decide)))),
      (((h c).2 main_arg6 (Pipeline.mem_restRefs_of main_arg6 (by decide) (by decide))).trans (W_unstaged m dats c _ (by decide))),
      ((h c).1 5).trans (((dats 0 c).arrAt_in 5 rfl _).trans ((hA c 5).trans (V_input m c _ (by decide)))),
      (((h c).2 main_arg8 (Pipeline.mem_restRefs_of main_arg8 (by decide) (by decide))).trans (W_unstaged m dats c _ (by decide))),
      ((h c).1 7).trans (((dats 0 c).arrAt_in 7 rfl _).trans ((hA c 7).trans (V_input m c _ (by decide)))),
      (((h c).2 main_arg10 (Pipeline.mem_restRefs_of main_arg10 (by decide) (by decide))).trans (W_unstaged m dats c _ (by decide))),
      ((h c).1 9).trans (((dats 0 c).arrAt_in 9 rfl _).trans ((hA c 9).trans (V_input m c _ (by decide)))),
      (((h c).2 main_arg12 (Pipeline.mem_restRefs_of main_arg12 (by decide) (by decide))).trans (W_unstaged m dats c _ (by decide))),
      ((h c).1 11).trans (((dats 0 c).arrAt_in 11 rfl _).trans ((hA c 11).trans (V_input m c _ (by decide)))),
      (((h c).2 main_arg14 (Pipeline.mem_restRefs_of main_arg14 (by decide) (by decide))).trans (W_unstaged m dats c _ (by decide))),
      ((h c).1 13).trans (((dats 0 c).arrAt_in 13 rfl _).trans ((hA c 13).trans (V_input m c _ (by decide)))),
      (((h c).2 main_arg16 (Pipeline.mem_restRefs_of main_arg16 (by decide) (by decide))).trans (W_unstaged m dats c _ (by decide))),
      ((h c).1 15).trans (((dats 0 c).arrAt_in 15 rfl _).trans ((hA c 15).trans (V_input m c _ (by decide)))),
      (((h c).2 main_arg18 (Pipeline.mem_restRefs_of main_arg18 (by decide) (by decide))).trans (W_unstaged m dats c _ (by decide))),
      (((h c).2 main_arg19 (Pipeline.mem_restRefs_of main_arg19 (by decide) (by decide))).trans (W_unstaged m dats c _ (by decide))),
      ((h c).1 18).trans (((dats 0 c).arrAt_in 18 rfl _).trans ((hA c 18).trans (V_input m c _ (by decide)))),
      (((h c).2 main_arg21 (Pipeline.mem_restRefs_of main_arg21 (by decide) (by decide))).trans (W_unstaged m dats c _ (by decide))),
      ((h c).1 20).trans (((dats 0 c).arrAt_in 20 rfl _).trans ((hA c 20).trans (V_input m c _ (by decide)))),
      (((h c).2 main_arg23 (Pipeline.mem_restRefs_of main_arg23 (by decide) (by decide))).trans (W_unstaged m dats c _ (by decide))),
      ((h c).1 22).trans (((dats 0 c).arrAt_in 22 rfl _).trans ((hA c 22).trans (V_input m c _ (by decide)))),
      (((h c).2 main_arg25 (Pipeline.mem_restRefs_of main_arg25 (by decide) (by decide))).trans (W_unstaged m dats c _ (by decide))),
      ((h c).1 24).trans (((dats 0 c).arrAt_in 24 rfl _).trans ((hA c 24).trans (V_input m c _ (by decide)))),
      (((h c).2 main_arg27 (Pipeline.mem_restRefs_of main_arg27 (by decide) (by decide))).trans (W_unstaged m dats c _ (by decide)))⟩) h

/-- The proof data: each input window at its block, the output window at `out0_36` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => out0_36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t)
    | ⟨_ + 37, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = iblk m c 34 t := by dsimp only [dats]
theorem after0_35 (c : Dev nD) (t : Fin cfg0.N) : (dats m 0 c).after 35 t = iblk m c 35 t := by dsimp only [dats]
theorem after0_36 (c : Dev nD) (t : Fin cfg0.N) : (dats m 0 c).after 36 t = out0_36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl) (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl) (fun t => by rw [after0_16]; unfold Dat.blockOf iblk; rw [A_eq]; try rfl) t d).trans
    (by unfold Dat.fetched Dat.blockOf iblk; rw [A_eq]; try rfl)
theorem before0_17 (c : Dev nD) (t : Fin cfg0.N) (d) : (dats m 0 c).before 17 t d = iblk m c 17 t :=
  ((dats m 0 c).before_in_eq_fetched 17 rfl (fun _ => rfl) (fun _ _ _ => rfl) (fun t => by rw [after0_17]; unfold Dat.blockOf iblk; rw [A_eq]; try rfl) t d).trans
    (by unfold Dat.fetched Dat.blockOf iblk; rw [A_eq]; try rfl)
theorem before0_18 (c : Dev nD) (t : Fin cfg0.N) (d) : (dats m 0 c).before 18 t d = iblk m c 18 t :=
  ((dats m 0 c).before_in_eq_fetched 18 rfl (fun _ => rfl) (fun _ _ _ => rfl) (fun t => by rw [after0_18]; unfold Dat.blockOf iblk; rw [A_eq]; try rfl) t d).trans
    (by unfold Dat.fetched Dat.blockOf iblk; rw [A_eq]; try rfl)
theorem before0_19 (c : Dev nD) (t : Fin cfg0.N) (d) : (dats m 0 c).before 19 t d = iblk m c 19 t :=
  ((dats m 0 c).before_in_eq_fetched 19 rfl (fun _ => rfl) (fun _ _ _ => rfl) (fun t => by rw [after0_19]; unfold Dat.blockOf iblk; rw [A_eq]; try rfl) t d).trans
    (by unfold Dat.fetched Dat.blockOf iblk; rw [A_eq]; try rfl)
theorem before0_20 (c : Dev nD) (t : Fin cfg0.N) (d) : (dats m 0 c).before 20 t d = iblk m c 20 t :=
  ((dats m 0 c).before_in_eq_fetched 20 rfl (fun _ => rfl) (fun _ _ _ => rfl) (fun t => by rw [after0_20]; unfold Dat.blockOf iblk; rw [A_eq]; try rfl) t d).trans
    (by unfold Dat.fetched Dat.blockOf iblk; rw [A_eq]; try rfl)
theorem before0_21 (c : Dev nD) (t : Fin cfg0.N) (d) : (dats m 0 c).before 21 t d = iblk m c 21 t :=
  ((dats m 0 c).before_in_eq_fetched 21 rfl (fun _ => rfl) (fun _ _ _ => rfl) (fun t => by rw [after0_21]; unfold Dat.blockOf iblk; rw [A_eq]; try rfl) t d).trans
    (by unfold Dat.fetched Dat.blockOf iblk; rw [A_eq]; try rfl)
theorem before0_22 (c : Dev nD) (t : Fin cfg0.N) (d) : (dats m 0 c).before 22 t d = iblk m c 22 t :=
  ((dats m 0 c).before_in_eq_fetched 22 rfl (fun _ => rfl) (fun _ _ _ => rfl) (fun t => by rw [after0_22]; unfold Dat.blockOf iblk; rw [A_eq]; try rfl) t d).trans
    (by unfold Dat.fetched Dat.blockOf iblk; rw [A_eq]; try rfl)
theorem before0_23 (c : Dev nD) (t : Fin cfg0.N) (d) : (dats m 0 c).before 23 t d = iblk m c 23 t :=
  ((dats m 0 c).before_in_eq_fetched 23 rfl (fun _ => rfl) (fun _ _ _ => rfl) (fun t => by rw [after0_23]; unfold Dat.blockOf iblk; rw [A_eq]; try rfl) t d).trans
    (by unfold Dat.fetched Dat.blockOf iblk; rw [A_eq]; try rfl)
theorem before0_24 (c : Dev nD) (t : Fin cfg0.N) (d) : (dats m 0 c).before 24 t d = iblk m c 24 t :=
  ((dats m 0 c).before_in_eq_fetched 24 rfl (fun _ => rfl) (fun _ _ _ => rfl) (fun t => by rw [after0_24]; unfold Dat.blockOf iblk; rw [A_eq]; try rfl) t d).trans
    (by unfold Dat.fetched Dat.blockOf iblk; rw [A_eq]; try rfl)
theorem before0_25 (c : Dev nD) (t : Fin cfg0.N) (d) : (dats m 0 c).before 25 t d = iblk m c 25 t :=
  ((dats m 0 c).before_in_eq_fetched 25 rfl (fun _ => rfl) (fun _ _ _ => rfl) (fun t => by rw [after0_25]; unfold Dat.blockOf iblk; rw [A_eq]; try rfl) t d).trans
    (by unfold Dat.fetched Dat.blockOf iblk; rw [A_eq]; try rfl)
theorem before0_26 (c : Dev nD) (t : Fin cfg0.N) (d) : (dats m 0 c).before 26 t d = iblk m c 26 t :=
  ((dats m 0 c).before_in_eq_fetched 26 rfl (fun _ => rfl) (fun _ _ _ => rfl) (fun t => by rw [after0_26]; unfold Dat.blockOf iblk; rw [A_eq]; try rfl) t d).trans
    (by unfold Dat.fetched Dat.blockOf iblk; rw [A_eq]; try rfl)
theorem before0_27 (c : Dev nD) (t : Fin cfg0.N) (d) : (dats m 0 c).before 27 t d = iblk m c 27 t :=
  ((dats m 0 c).before_in_eq_fetched 27 rfl (fun _ => rfl) (fun _ _ _ => rfl) (fun t => by rw [after0_27]; unfold Dat.blockOf iblk; rw [A_eq]; try rfl) t d).trans
    (by unfold Dat.fetched Dat.blockOf iblk; rw [A_eq]; try rfl)
theorem before0_28 (c : Dev nD) (t : Fin cfg0.N) (d) : (dats m 0 c).before 28 t d = iblk m c 28 t :=
  ((dats m 0 c).before_in_eq_fetched 28 rfl (fun _ => rfl) (fun _ _ _ => rfl) (fun t => by rw [after0_28]; unfold Dat.blockOf iblk; rw [A_eq]; try rfl) t d).trans
    (by unfold Dat.fetched Dat.blockOf iblk; rw [A_eq]; try rfl)
theorem before0_29 (c : Dev nD) (t : Fin cfg0.N) (d) : (dats m 0 c).before 29 t d = iblk m c 29 t :=
  ((dats m 0 c).before_in_eq_fetched 29 rfl (fun _ => rfl) (fun _ _ _ => rfl) (fun t => by rw [after0_29]; unfold Dat.blockOf iblk; rw [A_eq]; try rfl) t d).trans
    (by unfold Dat.fetched Dat.blockOf iblk; rw [A_eq]; try rfl)
theorem before0_30 (c : Dev nD) (t : Fin cfg0.N) (d) : (dats m 0 c).before 30 t d = iblk m c 30 t :=
  ((dats m 0 c).before_in_eq_fetched 30 rfl (fun _ => rfl) (fun _ _ _ => rfl) (fun t => by rw [after0_30]; unfold Dat.blockOf iblk; rw [A_eq]; try rfl) t d).trans
    (by unfold Dat.fetched Dat.blockOf iblk; rw [A_eq]; try rfl)
theorem before0_31 (c : Dev nD) (t : Fin cfg0.N) (d) : (dats m 0 c).before 31 t d = iblk m c 31 t :=
  ((dats m 0 c).before_in_eq_fetched 31 rfl (fun _ => rfl) (fun _ _ _ => rfl) (fun t => by rw [after0_31]; unfold Dat.blockOf iblk; rw [A_eq]; try rfl) t d).trans
    (by unfold Dat.fetched Dat.blockOf iblk; rw [A_eq]; try rfl)
theorem before0_32 (c : Dev nD) (t : Fin cfg0.N) (d) : (dats m 0 c).before 32 t d = iblk m c 32 t :=
  ((dats m 0 c).before_in_eq_fetched 32 rfl (fun _ => rfl) (fun _ _ _ => rfl) (fun t => by rw [after0_32]; unfold Dat.blockOf iblk; rw [A_eq]; try rfl) t d).trans
    (by unfold Dat.fetched Dat.blockOf iblk; rw [A_eq]; try rfl)
theorem before0_33 (c : Dev nD) (t : Fin cfg0.N) (d) : (dats m 0 c).before 33 t d = iblk m c 33 t :=
  ((dats m 0 c).before_in_eq_fetched 33 rfl (fun _ => rfl) (fun _ _ _ => rfl) (fun t => by rw [after0_33]; unfold Dat.blockOf iblk; rw [A_eq]; try rfl) t d).trans
    (by unfold Dat.fetched Dat.blockOf iblk; rw [A_eq]; try rfl)
theorem before0_34 (c : Dev nD) (t : Fin cfg0.N) (d) : (dats m 0 c).before 34 t d = iblk m c 34 t :=
  ((dats m 0 c).before_in_eq_fetched 34 rfl (fun _ => rfl) (fun _ _ _ => rfl) (fun t => by rw [after0_34]; unfold Dat.blockOf iblk; rw [A_eq]; try rfl) t d).trans
    (by unfold Dat.fetched Dat.blockOf iblk; rw [A_eq]; try rfl)
theorem before0_35 (c : Dev nD) (t : Fin cfg0.N) (d) : (dats m 0 c).before 35 t d = iblk m c 35 t :=
  ((dats m 0 c).before_in_eq_fetched 35 rfl (fun _ => rfl) (fun _ _ _ => rfl) (fun t => by rw [after0_35]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t))

set_option maxHeartbeats 40000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexists _; iexact H36
  iintro ⟨H0, H1, H2, H3, H4, H5, H6, H7, H8, H9, H10, H11, H12, H13, H14, H15, H16, H17, H18, H19, H20, H21, H22, H23, H24, H25, H26, H27, H28, H29, H30, H31, H32, H33, H34, H35, H36⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  iexact H36

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 40000000 in
/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27))
      ∧ r.2.sem = fun _ => 0) :=
  θ_run_and (unchanged m ρ) ((θ_run defs _ _).mono (fun _ h => h.2) (run_main_quiescent m ρ))

end Cert.KernelIdeal.Gen

end
-- ==== Proof.Spec.lean ====
/-
  The policy's mathematics over the extended reals, for one game: the quantities that both programs compute, as plain
  functions of the weights and of one game's inputs. Nothing here mentions an array, a tile or a loop.
-/
module

public import Idealize.ShloMosaic.Lib.Pointwise

@[expose] public section

noncomputable section

namespace Cert.Spec

/-- One dense layer followed by the rectifier: `max (x · W + b) 0` at output `c`. -/
def lay {n k : ℕ} (W : Fin n → Fin k → EReal) (b : Fin k → EReal) (x : Fin n → EReal) (c : Fin k) : EReal :=
  max ((∑ i, x i * W i c) + b c) 0

/-- Two rows one after the other, as a row of `l`. -/
def cat2 {m n : ℕ} (l : ℕ) (x : Fin m → EReal) (y : Fin n → EReal) (k : Fin l) : EReal :=
  if h : k.val < m then x ⟨k.val, h⟩ else if h' : k.val - m < n then y ⟨k.val - m, h'⟩ else 0

/-- The weights. -/
structure Net where
  seW1 : Fin 128 → Fin 256 → EReal
  seb1 : Fin 256 → EReal
  seW2 : Fin 256 → Fin 256 → EReal
  seb2 : Fin 256 → EReal
  reW1 : Fin 384 → Fin 256 → EReal
  reb1 : Fin 256 → EReal
  reW2 : Fin 256 → Fin 512 → EReal
  reb2 : Fin 512 → EReal
  raW : Fin 768 → Fin 256 → EReal
  rab : Fin 256 → EReal
  aeW1 : Fin 256 → Fin 256 → EReal
  aeb1 : Fin 256 → EReal
  aeW2 : Fin 256 → Fin 4864 → EReal
  aeb2 : Fin 4864 → EReal
  aemb : Fin 19 → Fin 256 → EReal
  deW1 : Fin 256 → Fin 256 → EReal
  deb1 : Fin 256 → EReal
  deW2 : Fin 256 → Fin 512 → EReal
  deb2 : Fin 512 → EReal
  leW1 : Fin 512 → Fin 256 → EReal
  leb1 : Fin 256 → EReal
  leW2 : Fin 256 → EReal
  leb2 : EReal

/-- One game: the twelve agents' states, the relations between them, and the action each takes. -/
structure Play where
  st : Fin 12 → Fin 128 → EReal
  rel : Fin 12 → Fin 12 → Fin 128 → EReal
  act : Fin 12 → Fin 19

variable (N : Net) (P : Play)

/-- Entry `h` of the lower half of 512. -/
abbrev lo (h : Fin 256) : Fin 512 := ⟨h.val, by omega⟩
/-- Entry `h` of the upper half of 512. -/
abbrev hi (h : Fin 256) : Fin 512 := ⟨256 + h.val, by omega⟩
/-- Entry `h` of action `a`'s block of 256 in a row of 4864. -/
abbrev blk (a : Fin 19) (h : Fin 256) : Fin 4864 := ⟨a.val * 256 + h.val, by omega⟩

/-- Whether the agent has the ball: the fifth feature of its state. -/
def own (i : Fin 12) : EReal := P.st i 4

/-- The state encoder. -/
def sse (i : Fin 12) : Fin 256 → EReal := lay N.seW2 N.seb2 (lay N.seW1 N.seb1 (P.st i))

/-- The first relation layer, on the relation of `i` to `j` followed by `j`'s encoding. -/
def rel1 (i j : Fin 12) : Fin 256 → EReal := lay N.reW1 N.reb1 (cat2 384 (P.rel i j) (sse N P j))

/-- The relation encoder. -/
def relation (i j : Fin 12) : Fin 512 → EReal := lay N.reW2 N.reb2 (rel1 N P i j)

/-- The mean, over the agents, of the lower half of the relations. -/
def ravr (i : Fin 12) (h : Fin 256) : EReal := (∑ j, relation N P i j (lo h)) * ((1 / 12 : ℝ) : EReal)

/-- The greatest, over the agents, of the upper half of the relations. -/
def rmax (i : Fin 12) (h : Fin 256) : EReal := Finset.univ.sup fun j => relation N P i j (hi h)

/-- An agent's state before any agent has acted. -/
def st0 (i : Fin 12) : Fin 256 → EReal :=
  lay N.raW N.rab (cat2 768 (sse N P i) (cat2 512 (ravr N P i) (rmax N P i)))

/-- The action encoder. -/
def ae (x : Fin 256 → EReal) : Fin 4864 → EReal := lay N.aeW2 N.aeb2 (lay N.aeW1 N.aeb1 x)

/-- The decision encoder. -/
def dec (x : Fin 256 → EReal) : Fin 512 → EReal := lay N.deW2 N.deb2 (lay N.deW1 N.deb1 x)

/-- What agent `j`'s action adds to the ball, from `j`'s first state. -/
def peg (j : Fin 12) (h : Fin 256) : EReal := ae N (st0 N P j) (blk (P.act j) h) * own P j

/-- What agent `j`'s action adds to its own state. -/
def emb (j : Fin 12) (h : Fin 256) : EReal := N.aemb (P.act j) h

/-- The ball's state once the agents below `n` have acted. -/
def ballAt (n : ℕ) (h : Fin 256) : EReal := st0 N P 11 h + ∑ j : Fin 12, if j.val < n then peg N P j h else 0

/-- The state from which agent `i` acts. -/
def cur (i : Fin 12) : Fin 256 → EReal := if i.val = 11 then ballAt N P 11 else st0 N P i

/-- The decision of an agent that has not acted. -/
def pre (j : Fin 12) : Fin 512 → EReal := dec N (st0 N P j)

/-- The decision of an agent that has acted. -/
def post (j : Fin 12) : Fin 512 → EReal := dec N fun h => st0 N P j h + emb N P j h

/-- The acting agent's decision, were its action `a`. -/
def active (i : Fin 12) (a : Fin 19) : Fin 512 → EReal := dec N fun h => cur N P i h + N.aemb a h

/-- The ball's decision, were agent `i`'s action `a`. -/
def passive (i : Fin 12) (a : Fin 19) : Fin 512 → EReal :=
  dec N fun h => ballAt N P i.val h + ae N (cur N P i) (blk a h) * own P i

/-- Every agent's decision while agent `i` chooses, were its action `a`. -/
def decision (i : Fin 12) (a : Fin 19) (j : Fin 12) : Fin 512 → EReal :=
  if j.val = 11 then passive N P i a else if j = i then active N P i a else if j < i then post N P j else pre N P j

/-- The mean of the lower halves of the decisions. -/
def davr (i : Fin 12) (a : Fin 19) (h : Fin 256) : EReal :=
  (∑ j, decision N P i a j (lo h)) * ((1 / 12 : ℝ) : EReal)

/-- The greatest of the upper halves of the decisions. -/
def dmax (i : Fin 12) (a : Fin 19) (h : Fin 256) : EReal := Finset.univ.sup fun j => decision N P i a j (hi h)

/-- The first logit layer. -/
def le1 (i : Fin 12) (a : Fin 19) : Fin 256 → EReal :=
  lay N.leW1 N.leb1 (cat2 512 (davr N P i a) (dmax N P i a))

/-- The logit of agent `i`'s action `a`. -/
def logit (i : Fin 12) (a : Fin 19) : EReal := (∑ k : Fin 256, le1 N P i a k * N.leW2 k) + N.leb2

end Cert.Spec

end
-- ==== Proof.Sums.lean ====
/-
  Sums against a table of zeros and ones over the 192 rows of one block: sixteen games of twelve agents each, row
  `12 β + i` being agent `i` of game `β`.
-/
module

public import proofs.«01_k».proof.Proof.Spec

@[expose] public section

noncomputable section

namespace Cert.Spec

/-- The row of agent `i` of game `β` in a block of sixteen games. -/
abbrev row (β : Fin 16) (i : Fin 12) : Fin 192 := ⟨β.val * 12 + i.val, by omega⟩

/-- A sum over the 192 rows is a sum over the games and agents. -/
theorem sum_rows (f : Fin 192 → EReal) : ∑ q, f q = ∑ β : Fin 16, ∑ j : Fin 12, f (row β j) := by
  rw [← Fintype.sum_prod_type' (f := fun β j => f (row β j))]
  symm
  refine Fintype.sum_equiv (finProdFinEquiv (m := 16) (n := 12)) _ _ fun x => ?_
  congr 1
  apply Fin.ext
  simp [finProdFinEquiv]
  omega

/-- A table row that holds ones at some agents of one game adds up those agents' values. -/
theorem sum_game (β : Fin 16) (Q : Fin 12 → Prop) [DecidablePred Q] (C f : Fin 192 → EReal) (g : Fin 12 → EReal)
    (hC : ∀ β' j, C (row β' j) = if β' = β ∧ Q j then 1 else 0) (hf : ∀ j, f (row β j) = g j) :
    ∑ q, C q * f q = ∑ j, if Q j then g j else 0 := by
  rw [sum_rows, Finset.sum_eq_single β]
  · refine Finset.sum_congr rfl fun j _ => ?_
    rw [hC, hf]
    by_cases h : Q j <;> simp [h]
  · intro b _ hb
    refine Finset.sum_eq_zero fun j _ => ?_
    rw [hC]
    simp [hb]
  · simp

/-- A table row with a single one picks that entry. -/
theorem sum_pick {n : ℕ} (p : Fin n) (C f : Fin n → EReal) (hC : ∀ q, C q = if q = p then 1 else 0) :
    ∑ q, C q * f q = f p := by
  rw [Finset.sum_eq_single p]
  · simp [hC]
  · intro q _ hq
    simp [hC, hq]
  · simp

/-- A sum over two rows one after the other is the sum over each. -/
theorem sum_cat2 {m n l : ℕ} (h : m + n = l) (x : Fin m → EReal) (y : Fin n → EReal) (w : Fin l → EReal) :
    ∑ k, cat2 l x y k * w k =
      ∑ k : Fin m, x k * w ⟨k.val, by omega⟩ + ∑ k : Fin n, y k * w ⟨m + k.val, by omega⟩ := by
  subst h
  rw [Fin.sum_univ_add]
  congr 1
  · refine Finset.sum_congr rfl fun k _ => ?_
    have hk : cat2 (m + n) x y (Fin.castAdd n k) = x k := by simp [cat2]
    rw [hk]
    rfl
  · refine Finset.sum_congr rfl fun k _ => ?_
    have hk : cat2 (m + n) x y (Fin.natAdd m k) = y k := by simp [cat2]
    rw [hk]
    rfl

/-- The greatest of twelve values, as a chain of maxima. -/
theorem sup_twelve (f : Fin 12 → EReal) :
    Finset.univ.sup f = max (max (max (max (max (max (max (max (max (max (max (f 0) (f 1)) (f 2)) (f 3)) (f 4)) (f 5))
      (f 6)) (f 7)) (f 8)) (f 9)) (f 10)) (f 11) := by
  refine eq_of_forall_ge_iff fun x => ?_
  simp only [Finset.sup_le_iff, Finset.mem_univ, true_implies, max_le_iff]
  constructor
  · intro h
    simp only [h, and_self]
  · rintro ⟨⟨⟨⟨⟨⟨⟨⟨⟨⟨⟨h0, h1⟩, h2⟩, h3⟩, h4⟩, h5⟩, h6⟩, h7⟩, h8⟩, h9⟩, h10⟩, h11⟩ j
    fin_cases j <;> assumption

theorem all_twelve (q : Fin 12 → Prop) : (∀ j, q j) ↔ q 0 ∧ q 1 ∧ q 2 ∧ q 3 ∧ q 4 ∧ q 5 ∧ q 6 ∧ q 7 ∧ q 8 ∧ q 9 ∧ q 10 ∧ q 11 := by
  constructor
  · intro h
    simp only [h, and_self]
  · rintro ⟨h0, h1, h2, h3, h4, h5, h6, h7, h8, h9, h10, h11⟩ j
    fin_cases j <;> assumption

/-- Three rows of 256 one after the other, read at an entry. -/
theorem cat2_cat2 (x y z : Fin 256 → EReal) (k : Fin 768) :
    cat2 768 x (cat2 512 y z) k = if h : k.val < 256 then x ⟨k.val, h⟩ else
      if h' : k.val - 256 < 256 then y ⟨k.val - 256, h'⟩ else z ⟨k.val - 256 - 256, by omega⟩ := by
  unfold cat2
  split_ifs <;> first | rfl | omega

theorem relu_nonneg {n k : ℕ} (W : Fin n → Fin k → EReal) (b : Fin k → EReal) (x : Fin n → EReal) (c : Fin k) :
    0 ≤ lay W b x c := le_max_right _ _

end Cert.Spec

end
-- ==== Proof.BlockA.lean ====
/-
  What the first part of the kernel's body computes, row by row: the encoders, the relations of every pair of agents, and
  every agent's state before any agent has acted.
-/
module

public import proofs.«01_k».proof.Proof.Sums
public import proofs.«01_k».proof.Proof.Gen.KernelIdeal.Skeleton

@[expose] public section

set_option maxRecDepth 16384

noncomputable section

namespace Cert.KernelIdeal.Value

open Idealize.ShloMosaic
open Cert.Spec
open Cert.KernelIdeal.Gen

variable {N : Net} {P : Play} {β : Fin 16}

theorem sse_row {v1 : FVec Ideal S192x128 .f32} {v5 : FVec Ideal S128x256 .f32} {v7 : FVec Ideal S1x256 .f32}
    {v8 : FVec Ideal S256x256 .f32} {v10 : FVec Ideal S1x256 .f32}
    (h1 : ∀ i k, v1 (ix2 (row β i) k) = P.st i k)
    (h5 : ∀ k c, v5 (ix2 k c) = N.seW1 k c) (h7 : ∀ c, v7 (ix2 0 c) = N.seb1 c)
    (h8 : ∀ k c, v8 (ix2 k c) = N.seW2 k c) (h10 : ∀ c, v10 (ix2 0 c) = N.seb2 c) (i : Fin 12) (c : Fin 256) :
    k0_pay28 v1 v5 v7 v8 v10 (ix2 (row β i) c) = sse N P i c := by
  pointwise [k0_pay28]
  simp only [h1, h5, h7, h8, h10]
  rfl

/-- The row of the relation of agent `i` to agent `j`, in game `β`, among the 2304 rows. -/
abbrev rrow (j : Fin 12) (β : Fin 16) (i : Fin 12) : Fin 2304 := ⟨j.val * 192 + (β.val * 12 + i.val), by omega⟩

/-- The two relation layers, before the last rectifier, on the two pieces of their input. -/
def relLayers (X : FVec Ideal S2304x128 .f32) (Y : FVec Ideal S2304x256 .f32) (v11 : FVec Ideal S384x256 .f32)
    (v13 : FVec Ideal S1x256 .f32) (v14 : FVec Ideal S256x512 .f32) (v16 : FVec Ideal S1x512 .f32) :
    FVec Ideal S2304x512 .f32 :=
  addf (matmul dot_S2304x256_S256x512_S2304x512_1_0_0_1_n_n none
    (maximumf (addf (matmul dot_S2304x384_S384x256_S2304x256_1_0_0_1_n_n none
      (concatenate S2304x384 1 [⟨S2304x128, X⟩, ⟨S2304x256, Y⟩] concatenates_S2304x128_S2304x256_S2304x384_d1) v11
      (constant S2304x256 .f32 0x00000000#32)) (broadcastTo S2304x256 v13 broadcasts_S1x256_S2304x256))
      (broadcast S2304x256 (Scalar.ofBits .f32 0x00000000#32))) v14 (constant S2304x512 .f32 0x00000000#32))
    (broadcastTo S2304x512 v16 broadcasts_S1x512_S2304x512)

/-- Piece `j` of the relations: the columns `128 j ..` of the block. -/
def relPiece (v72 : FVec Ideal S192x1536 .f32) : Fin 12 → FVec Ideal S192x128 .f32
  | 0 => extractStridedSlice S192x128 ![0, 0] v72 slices_S192x1536_o0_0_S192x128
  | 1 => extractStridedSlice S192x128 ![0, 128] v72 slices_S192x1536_o0_128_S192x128
  | 2 => extractStridedSlice S192x128 ![0, 256] v72 slices_S192x1536_o0_256_S192x128
  | 3 => extractStridedSlice S192x128 ![0, 384] v72 slices_S192x1536_o0_384_S192x128
  | 4 => extractStridedSlice S192x128 ![0, 512] v72 slices_S192x1536_o0_512_S192x128
  | 5 => extractStridedSlice S192x128 ![0, 640] v72 slices_S192x1536_o0_640_S192x128
  | 6 => extractStridedSlice S192x128 ![0, 768] v72 slices_S192x1536_o0_768_S192x128
  | 7 => extractStridedSlice S192x128 ![0, 896] v72 slices_S192x1536_o0_896_S192x128
  | 8 => extractStridedSlice S192x128 ![0, 1024] v72 slices_S192x1536_o0_1024_S192x128
  | 9 => extractStridedSlice S192x128 ![0, 1152] v72 slices_S192x1536_o0_1152_S192x128
  | 10 => extractStridedSlice S192x128 ![0, 1280] v72 slices_S192x1536_o0_1280_S192x128
  | 11 => extractStridedSlice S192x128 ![0, 1408] v72 slices_S192x1536_o0_1408_S192x128

/-- The pieces one under another. -/
def relStack (v72 : FVec Ideal S192x1536 .f32) : FVec Ideal S2304x128 .f32 :=
  concatenate S2304x128 0 (List.ofFn fun j => ⟨S192x128, relPiece v72 j⟩)
    concatenates_S192x128_S192x128_S192x128_S192x128_S192x128_S192x128_S192x128_S192x128_S192x128_S192x128_S192x128_S192x128_S2304x128_d0

theorem relPiece_apply (v72 : FVec Ideal S192x1536 .f32) (j : Fin 12) (p : Fin 192) (k : Fin 128) :
    relPiece v72 j (ix2 p k) = v72 (ix2 p ⟨j.val * 128 + k.val, by omega⟩) := by
  fin_cases j <;>
    · simp only [relPiece]
      pointwise

theorem relStack_apply (v72 : FVec Ideal S192x1536 .f32) (j : Fin 12) (β : Fin 16) (i : Fin 12) (k : Fin 128) :
    relStack v72 (ix2 (rrow j β i) k) = v72 (ix2 (row β i) ⟨j.val * 128 + k.val, by omega⟩) := by
  rw [← relPiece_apply v72 j (row β i) k]
  refine concatenate_ofFn_apply (t := S2304x128) (s₁ := S192x128) 0 _ _ rfl 192 rfl _ j ?_ _ ?_ ?_
  · show (j.val * 192 + (β.val * 12 + i.val)) / 192 = j.val
    omega
  · show β.val * 12 + i.val = (j.val * 192 + (β.val * 12 + i.val)) % 192
    omega
  · intro b hb
    fin_cases b
    · exact absurd rfl hb
    · rfl

theorem relLayers_row {X : FVec Ideal S2304x128 .f32} {Y : FVec Ideal S2304x256 .f32} {v11 : FVec Ideal S384x256 .f32}
    {v13 : FVec Ideal S1x256 .f32} {v14 : FVec Ideal S256x512 .f32} {v16 : FVec Ideal S1x512 .f32} {i j : Fin 12}
    (hX : ∀ k, X (ix2 (rrow j β i) k) = P.rel i j k) (hY : ∀ k, Y (ix2 (rrow j β i) k) = sse N P j k)
    (h11 : ∀ k c, v11 (ix2 k c) = N.reW1 k c) (h13 : ∀ c, v13 (ix2 0 c) = N.reb1 c)
    (h14 : ∀ k c, v14 (ix2 k c) = N.reW2 k c) (h16 : ∀ c, v16 (ix2 0 c) = N.reb2 c) (c : Fin 512) (cst : EReal)
    (hc : cst = 0) :
    k0_pay30 (relLayers X Y v11 v13 v14 v16) cst (ix2 (rrow j β i) c) = relation N P i j c := by
  pointwise [k0_pay30, relLayers]
  simp only [hX, hY, h11, h13, h14, h16, hc, relation, lay, rel1, sum_cat2 (show 128 + 256 = 384 from rfl)]

/-- The rows of the relations: the kernel's own stack of pieces beside each `j`'s encoding, through the two layers. -/
theorem relation_row {v1 : FVec Ideal S192x128 .f32} {v5 : FVec Ideal S128x256 .f32} {v7 : FVec Ideal S1x256 .f32}
    {v8 : FVec Ideal S256x256 .f32} {v10 : FVec Ideal S1x256 .f32} {v11 : FVec Ideal S384x256 .f32}
    {v13 : FVec Ideal S1x256 .f32} {v14 : FVec Ideal S256x512 .f32} {v16 : FVec Ideal S1x512 .f32}
    {v41 : FVec Ideal S2304x192 .f32} {v72 : FVec Ideal S192x1536 .f32}
    (hS : ∀ i c, k0_pay28 v1 v5 v7 v8 v10 (ix2 (row β i) c) = sse N P i c)
    (h72 : ∀ i j : Fin 12, ∀ k : Fin 128, v72 (ix2 (row β i) ⟨j.val * 128 + k.val, by omega⟩) = P.rel i j k)
    (h41 : ∀ (j : Fin 12) (i : Fin 12) p, v41 (ix2 (rrow j β i) p) = if p = row β j then 1 else 0)
    (h11 : ∀ k c, v11 (ix2 k c) = N.reW1 k c) (h13 : ∀ c, v13 (ix2 0 c) = N.reb1 c)
    (h14 : ∀ k c, v14 (ix2 k c) = N.reW2 k c) (h16 : ∀ c, v16 (ix2 0 c) = N.reb2 c) {cst : EReal}
    (hc : cst = 0) (i j : Fin 12) (c : Fin 512) :
    k0_pay30 (k0_pay29 v1 v5 v7 v8 v10 v11 v13 v14 v16 v41 v72) cst (ix2 (rrow j β i) c) = relation N P i j c := by
  have e : k0_pay29 v1 v5 v7 v8 v10 v11 v13 v14 v16 v41 v72
      = relLayers (relStack (shapeCast S192x1536 v72 shapeCasts_S192x1536_S192x1536))
          (matmul dot_S2304x192_S192x256_S2304x256_1_0_0_1_n_n none v41 (k0_pay28 v1 v5 v7 v8 v10)
            (constant S2304x256 .f32 0x00000000#32)) v11 v13 v14 v16 := rfl
  rw [e]
  refine relLayers_row (N := N) (P := P) ?_ ?_ h11 h13 h14 h16 c cst hc
  · intro k
    rw [relStack_apply, shapeCast_self, h72]
  · intro k
    rw [← hS j k]
    generalize k0_pay28 v1 v5 v7 v8 v10 = S
    pointwise
    exact sum_pick (row β j) _ _ (h41 j i)

/-- The mean's sum and the maximum, over the agents. -/
theorem relSum_row {v96 : FVec Ideal S2304x512 .f32} {cst : EReal}
    (h : ∀ i j c, k0_pay30 v96 cst (ix2 (rrow j β i) c) = relation N P i j c) (i : Fin 12) (c : Fin 256) :
    k0_pay42 v96 cst (ix2 (row β i) c) = ∑ j, relation N P i j (lo c) := by
  generalize hv : k0_pay30 v96 cst = v at *
  simp only [Fin.sum_univ_ofNat, ← h]
  simp only [k0_pay42, k0_pay31, k0_pay32, k0_pay33, k0_pay34, k0_pay35, k0_pay36, k0_pay37, k0_pay38, k0_pay39,
    k0_pay40, k0_pay41, hv]
  pointwise
  have e0 : rrow 0 β i = ⟨β.val * 12 + i.val, by omega⟩ := Fin.ext (by simp [rrow])
  rw [e0]
  rfl

theorem relMax_row {v96 : FVec Ideal S2304x512 .f32} {cst : EReal}
    (h : ∀ i j c, k0_pay30 v96 cst (ix2 (rrow j β i) c) = relation N P i j c) (i : Fin 12) (c : Fin 256) :
    k0_pay43 v96 cst (ix2 (row β i) c) = rmax N P i c := by
  generalize hv : k0_pay30 v96 cst = v at *
  simp only [rmax, sup_twelve, ← h]
  simp only [k0_pay43, k0_pay31, k0_pay32, k0_pay33, k0_pay34, k0_pay35, k0_pay36, k0_pay37, k0_pay38, k0_pay39,
    k0_pay40, k0_pay41, hv]
  pointwise
  have e0 : rrow 0 β i = ⟨β.val * 12 + i.val, by omega⟩ := Fin.ext (by simp [rrow])
  rw [e0]
  rfl

/-- Every agent's state before any agent has acted. -/
theorem state_row {v17 : FVec Ideal S768x256 .f32} {v19 : FVec Ideal S1x256 .f32} {v71 v153 v155 : FVec Ideal S192x256 .f32}
    {cst : EReal} (hc : cst = ((1 / 12 : ℝ) : EReal))
    (h71 : ∀ i c, v71 (ix2 (row β i) c) = sse N P i c)
    (h153 : ∀ i c, v153 (ix2 (row β i) c) = ∑ j, relation N P i j (lo c))
    (h155 : ∀ i c, v155 (ix2 (row β i) c) = rmax N P i c)
    (h17 : ∀ k c, v17 (ix2 k c) = N.raW k c) (h19 : ∀ c, v19 (ix2 0 c) = N.rab c) (i : Fin 12) (c : Fin 256) :
    k0_pay44 v17 v19 v71 v153 v155 cst (ix2 (row β i) c) = st0 N P i c := by
  pointwise [k0_pay44]
  simp only [h71, h153, h155, h17, h19, hc, st0, lay, cat2_cat2, ravr]

/-- The action encoder on every agent's first state. -/
theorem ae_row {v17 : FVec Ideal S768x256 .f32} {v19 : FVec Ideal S1x256 .f32} {v71 v153 v155 : FVec Ideal S192x256 .f32}
    {cst : EReal} {v20 : FVec Ideal S256x256 .f32} {v22 : FVec Ideal S1x256 .f32} {v23 : FVec Ideal S256x4864 .f32}
    {v25 : FVec Ideal S1x4864 .f32}
    (hs : ∀ i c, k0_pay44 v17 v19 v71 v153 v155 cst (ix2 (row β i) c) = st0 N P i c)
    (h20 : ∀ k c, v20 (ix2 k c) = N.aeW1 k c) (h22 : ∀ c, v22 (ix2 0 c) = N.aeb1 c)
    (h23 : ∀ k c, v23 (ix2 k c) = N.aeW2 k c) (h25 : ∀ c, v25 (ix2 0 c) = N.aeb2 c) (i : Fin 12) (e : Fin 4864) :
    k0_pay45 v17 v19 v20 v22 v23 v25 v71 v153 v155 cst (ix2 (row β i) e) = ae N (st0 N P i) e := by
  simp only [k0_pay45]
  generalize k0_pay44 v17 v19 v71 v153 v155 cst = s at *
  pointwise
  simp only [hs, h20, h22, h23, h25]
  rfl

/-- The action each agent takes, as a row of zeros and a one. -/
theorem hot_row {v4 : IVec S192x1 32} (h4 : ∀ i, v4 (ix2 (row β i) 0) = BitVec.ofNat 32 (P.act i).val) (i : Fin 12)
    (a : Fin 19) :
    k0_pay46 (F := Ideal) v4 (ix2 (row β i) a) = if a = P.act i then 1 else 0 := by
  pointwise [k0_pay46]
  simp only [h4]
  by_cases ha : a = P.act i
  · subst ha
    simp only [IntOp.cmpi, beq_self_eq_true, BitVec.ofBool_true, if_true]
    show ((((1#32 : BitVec 32).toInt : ℤ) : ℝ) : EReal) = 1
    simp
  · have hne : ¬ BitVec.ofNat 32 (P.act i).val = BitVec.ofNat 32 a.val := fun h => ha <| Fin.ext <| by
      have := congrArg BitVec.toNat h
      simp only [BitVec.toNat_ofNat] at this
      omega
    simp only [IntOp.cmpi, beq_eq_false_iff_ne.mpr hne, BitVec.ofBool_false, if_neg ha]
    show ((((0#32 : BitVec 32).toInt : ℤ) : ℝ) : EReal) = 0
    simp

theorem acted_row {v2 : FVec Ideal S192x1 .f32} {v4 : IVec S192x1 32} {v17 : FVec Ideal S768x256 .f32}
    {v19 : FVec Ideal S1x256 .f32} {v71 v153 v155 : FVec Ideal S192x256 .f32}
    {cst : EReal} {v20 : FVec Ideal S256x256 .f32} {v22 : FVec Ideal S1x256 .f32} {v23 : FVec Ideal S256x4864 .f32}
    {v25 : FVec Ideal S1x4864 .f32} {v57 : FVec Ideal S19x4864 .f32}
    (ha : ∀ i e, k0_pay45 v17 v19 v20 v22 v23 v25 v71 v153 v155 cst (ix2 (row β i) e) = ae N (st0 N P i) e)
    (hh : ∀ i a, k0_pay46 (F := Ideal) v4 (ix2 (row β i) a) = if a = P.act i then 1 else 0)
    (h2 : ∀ i, v2 (ix2 (row β i) 0) = own P i)
    (h57 : ∀ a h b, v57 (ix2 a (blk b h)) = if a = b then 1 else 0) (i : Fin 12) (b : Fin 19) (h : Fin 256) :
    k0_pay47 v2 v4 v17 v19 v20 v22 v23 v25 v57 v71 v153 v155 cst (ix2 (row β i) (blk b h))
      = if b = P.act i then peg N P i h else 0 := by
  simp only [k0_pay47]
  generalize k0_pay45 v17 v19 v20 v22 v23 v25 v71 v153 v155 cst = s at *
  generalize k0_pay46 (F := Ideal) v4 = o at *
  pointwise
  simp only [ha, h2]
  rw [sum_pick (P.act i) _ _ (hh i), h57]
  by_cases hb : b = P.act i
  · simp [hb, peg]
  · simp [hb, Ne.symm hb]

end Cert.KernelIdeal.Value

end
-- ==== Proof.BlockB.lean ====
/-
  What the second part of the kernel's body computes, row by row: what the agents' actions add to the ball, the ball's state
  from which each agent acts, and the two decisions, before and after acting, of every agent.
-/
module

public import proofs.«01_k».proof.Proof.BlockA

@[expose] public section

set_option maxRecDepth 16384

noncomputable section

namespace Cert.KernelIdeal.Value

open Idealize.ShloMosaic
open Cert.Spec
open Cert.KernelIdeal.Gen

variable {N : Net} {P : Play} {β : Fin 16}
variable {v2 v59 v61 : FVec Ideal S192x1 .f32} {v4 : IVec S192x1 32} {v17 : FVec Ideal S768x256 .f32}
  {v19 v22 v30 : FVec Ideal S1x256 .f32} {v71 v153 v155 v163 v207 v208 : FVec Ideal S192x256 .f32}
  {v20 v28 : FVec Ideal S256x256 .f32} {v23 : FVec Ideal S256x4864 .f32} {v25 : FVec Ideal S1x4864 .f32}
  {v57 : FVec Ideal S19x4864 .f32} {v27 : FVec Ideal S19x256 .f32} {v31 : FVec Ideal S256x512 .f32}
  {v33 : FVec Ideal S1x512 .f32} {v43 v45 v47 v49 v51 : FVec Ideal S192x192 .f32} {v53 : FVec Ideal S16x192 .f32}
  {v55 : FVec Ideal S192x16 .f32} {v173 v182 : FVec Ideal S192x4864 .f32} {v178 : FVec Ideal S192x19 .f32}
  {v255 : FVec Ideal S384x256 .f32} {c0 : FVec Ideal S384x512 .f32} {cst : EReal}

/-- The ball's state once the agents before `i` have acted. -/
theorem ball_row
    (hs : ∀ i c, v163 (ix2 (row β i) c) = st0 N P i c)
    (hv : ∀ i b h, k0_pay47 v2 v4 v17 v19 v20 v22 v23 v25 v57 v71 v153 v155 cst (ix2 (row β i) (blk b h))
      = if b = P.act i then peg N P i h else 0)
    (h43 : ∀ i β' j, v43 (ix2 (row β i) (row β' j)) = if β' = β ∧ j < i then 1 else 0)
    (h45 : ∀ i β' j, v45 (ix2 (row β i) (row β' j)) = if β' = β ∧ j = 11 then 1 else 0) (i : Fin 12) (h : Fin 256) :
    k0_pay50 v43 v45 v163 (k0_pay47 v2 v4 v17 v19 v20 v22 v23 v25 v57 v71 v153 v155 cst)
        (k0_pay48 v2 v4 v17 v19 v20 v22 v23 v25 v57 v71 v153 v155 cst)
        (k0_pay49 v2 v4 v17 v19 v20 v22 v23 v25 v57 v71 v153 v155 cst) (ix2 (row β i) h)
      = ballAt N P i.val h := by
  simp only [k0_pay48, k0_pay49]
  generalize k0_pay47 v2 v4 v17 v19 v20 v22 v23 v25 v57 v71 v153 v155 cst = w at *
  pointwise [k0_pay50]
  rw [sum_game β (· = 11) _ _ (fun j => st0 N P j h) (h45 i) (fun j => hs j h),
    sum_game β (· < i) _ _ (fun j => peg N P j h) (h43 i)]
  · simp [ballAt]
  · intro j
    have hsum : ∑ b : Fin 19, w (ix2 (row β j) (blk b h)) = peg N P j h := by
      simp only [hv]
      simp
    rw [← hsum]
    simp only [Fin.sum_univ_ofNat]
    have e0 : blk 0 h = ⟨h.val, by omega⟩ := Fin.ext (by simp)
    rw [e0]
    rfl

/-- The ball's state before its own turn, one row a game. -/
theorem ball_eleven {v43 v45 : FVec Ideal S192x192 .f32} {v163 v207 v208 : FVec Ideal S192x256 .f32}
    (hb : ∀ i h, k0_pay50 v43 v45 v163 v182 v207 v208 (ix2 (row β i) h) = ballAt N P i.val h)
    (h53 : ∀ p, v53 (ix2 β p) = if p = row β 11 then 1 else 0) (h : Fin 256) :
    k0_pay51 v43 v45 v53 v163 v182 v207 v208 (ix2 β h) = ballAt N P 11 h := by
  rw [← show ballAt N P (11 : Fin 12).val h = ballAt N P 11 h from rfl, ← hb 11 h]
  simp only [k0_pay51]
  generalize k0_pay50 v43 v45 v163 v182 v207 v208 = s
  pointwise
  exact sum_pick (row β 11) _ _ h53

/-- What each of an agent's nineteen actions would add to the ball. -/
theorem pass_row
    (hb : ∀ h, k0_pay51 v43 v45 v53 v163 v182 v207 v208 (ix2 β h) = ballAt N P 11 h)
    (ha : ∀ i e, v173 (ix2 (row β i) e) = ae N (st0 N P i) e)
    (h2 : ∀ i, v2 (ix2 (row β i) 0) = own P i)
    (h20 : ∀ k c, v20 (ix2 k c) = N.aeW1 k c) (h22 : ∀ c, v22 (ix2 0 c) = N.aeb1 c)
    (h23 : ∀ k c, v23 (ix2 k c) = N.aeW2 k c) (h25 : ∀ c, v25 (ix2 0 c) = N.aeb2 c)
    (h55 : ∀ i t, v55 (ix2 (row β i) t) = if t = β then 1 else 0)
    (h59 : ∀ i : Fin 12, v59 (ix2 (row β i) 0) = if i.val = 11 then 1 else 0)
    (h61 : ∀ i : Fin 12, v61 (ix2 (row β i) 0) = if i.val = 11 then 0 else 1) (i : Fin 12) (e : Fin 4864) :
    k0_pay52 v2 v20 v22 v23 v25 v43 v45 v53 v55 v59 v61 v163 v173 v182 v207 v208 (ix2 (row β i) e)
      = ae N (cur N P i) e * own P i := by
  simp only [k0_pay52]
  generalize k0_pay51 v43 v45 v53 v163 v182 v207 v208 = s at *
  pointwise
  rw [sum_pick β _ _ (h55 i)]
  simp only [ha, h2, hb, h20, h22, h23, h25, h59, h61]
  by_cases hi : i.val = 11
  · simp only [hi, if_true, mul_zero, mul_one, zero_add, cur]
    rfl
  · simp only [hi, if_false, mul_zero, mul_one, add_zero, cur]

/-- The state from which each agent acts. -/
theorem cur_row
    (hb : ∀ h, k0_pay51 v43 v45 v53 v163 v182 v207 v208 (ix2 β h) = ballAt N P 11 h)
    (hs : ∀ i c, v163 (ix2 (row β i) c) = st0 N P i c)
    (h55 : ∀ i t, v55 (ix2 (row β i) t) = if t = β then 1 else 0)
    (h59 : ∀ i : Fin 12, v59 (ix2 (row β i) 0) = if i.val = 11 then 1 else 0)
    (h61 : ∀ i : Fin 12, v61 (ix2 (row β i) 0) = if i.val = 11 then 0 else 1) (i : Fin 12) (h : Fin 256) :
    k0_pay53 v43 v45 v53 v55 v59 v61 v163 v182 v207 v208 (ix2 (row β i) h) = cur N P i h := by
  simp only [k0_pay53]
  generalize k0_pay51 v43 v45 v53 v163 v182 v207 v208 = s at *
  pointwise
  rw [sum_pick β _ _ (h55 i)]
  simp only [hs, hb, h59, h61]
  by_cases hi : i.val = 11
  · simp only [hi, if_true, mul_zero, mul_one, zero_add, cur]
  · simp only [hi, if_false, mul_zero, mul_one, add_zero, cur]

/-- The decisions of agents that have not acted. -/
theorem pre_row
    (hs : ∀ i c, v163 (ix2 (row β i) c) = st0 N P i c)
    (h28 : ∀ k c, v28 (ix2 k c) = N.deW1 k c) (h30 : ∀ c, v30 (ix2 0 c) = N.deb1 c)
    (h31 : ∀ k c, v31 (ix2 k c) = N.deW2 k c) (h33 : ∀ c, v33 (ix2 0 c) = N.deb2 c)
    (hc : c0 = constant S384x512 .f32 0x00000000#32) (i : Fin 12) (c : Fin 512) :
    k0_pay56 v31 v33 (k0_pay54 v27 v28 v30 v163 v178) c0 (ix2 (row β i) c) = pre N P i c := by
  subst hc
  have hr : β.val * 12 + i.val < 192 := by omega
  pointwise [k0_pay56, k0_pay55, k0_pay54]
  simp only [hr, dif_pos, hs, h28, h30, h31, h33]
  rfl

/-- The decisions of agents that have acted. -/
theorem post_row
    (hs : ∀ i c, v163 (ix2 (row β i) c) = st0 N P i c)
    (hh : ∀ i a, v178 (ix2 (row β i) a) = if a = P.act i then 1 else 0)
    (h27 : ∀ a c, v27 (ix2 a c) = N.aemb a c)
    (h28 : ∀ k c, v28 (ix2 k c) = N.deW1 k c) (h30 : ∀ c, v30 (ix2 0 c) = N.deb1 c)
    (h31 : ∀ k c, v31 (ix2 k c) = N.deW2 k c) (h33 : ∀ c, v33 (ix2 0 c) = N.deb2 c)
    (hc : c0 = constant S384x512 .f32 0x00000000#32) (i : Fin 12) (c : Fin 512) :
    k0_pay57 v31 v33 (k0_pay54 v27 v28 v30 v163 v178) c0 (ix2 (row β i) c) = post N P i c := by
  subst hc
  have hr : ¬ 192 + (β.val * 12 + i.val) < 192 := by omega
  have hk : ∀ k, ∑ a, v178 (ix2 (row β i) a) * v27 (ix2 a k) = emb N P i k := fun k => by
    rw [sum_pick (P.act i) _ _ (hh i), h27]
    rfl
  pointwise [k0_pay57, k0_pay55, k0_pay54]
  simp only [hr, dif_neg, not_false_eq_true, hs, hk, h28, h30, h31, h33]
  rfl

end Cert.KernelIdeal.Value

end
-- ==== Proof.BlockC.lean ====
/-
  What the third part of the kernel's body computes, row by row: over the other agents, the sum of the lower halves of the
  decisions and the greatest of the upper halves.
-/
module

public import proofs.«01_k».proof.Proof.BlockB

@[expose] public section

set_option maxRecDepth 16384

noncomputable section

namespace Cert.KernelIdeal.Value

open Idealize.ShloMosaic
open Cert.Spec
open Cert.KernelIdeal.Gen

variable {N : Net} {P : Play} {β : Fin 16}
variable {v31 : FVec Ideal S256x512 .f32}
  {v33 : FVec Ideal S1x512 .f32} {v43 v47 v49 v51 : FVec Ideal S192x192 .f32}
  {v255 : FVec Ideal S384x256 .f32} {c0 : FVec Ideal S384x512 .f32}

/-- The sum, over the agents but the acting one and the ball, of the lower halves of the decisions. -/
theorem others_sum_row
    (hpre : ∀ i c, k0_pay56 v31 v33 v255 c0 (ix2 (row β i) c) = pre N P i c)
    (hpost : ∀ i c, k0_pay57 v31 v33 v255 c0 (ix2 (row β i) c) = post N P i c)
    (h43 : ∀ i β' j, v43 (ix2 (row β i) (row β' j)) = if β' = β ∧ j < i then 1 else 0)
    (h47 : ∀ i β' j, v47 (ix2 (row β i) (row β' j)) = if β' = β ∧ (i < j ∧ j ≠ 11) then 1 else 0)
    (i : Fin 12) (h : Fin 256) :
    k0_pay58 v31 v33 v43 v47 v255 c0 (ix2 (row β i) h)
      = (∑ j, if j < i then post N P j (lo h) else 0) + ∑ j, if i < j ∧ j ≠ 11 then pre N P j (lo h) else 0 := by
  simp only [k0_pay58]
  generalize k0_pay56 v31 v33 v255 c0 = a at *
  generalize k0_pay57 v31 v33 v255 c0 = b at *
  pointwise
  rw [sum_game β (· < i) _ _ (fun j => post N P j (lo h)) (h43 i) (fun j => hpost j (lo h)),
    sum_game β (fun j => i < j ∧ j ≠ 11) _ _ (fun j => pre N P j (lo h)) (h47 i) (fun j => hpre j (lo h))]

/-- The row of agent `i` of game `β` when the agents run slowest. -/
abbrev prow (i : Fin 12) (β : Fin 16) : Fin 192 := ⟨i.val * 16 + β.val, by omega⟩

/-- The upper halves of the decisions after acting, the agents running slowest. -/
theorem post_perm (hpost : ∀ i c, k0_pay57 v31 v33 v255 c0 (ix2 (row β i) c) = post N P i c)
    (h49 : ∀ j p, v49 (ix2 (prow j β) p) = if p = row β j then 1 else 0) (j : Fin 12) (h : Fin 256) :
    k0_pay59 v31 v33 v49 v255 c0 (ix2 (prow j β) h) = post N P j (hi h) := by
  simp only [k0_pay59]
  rw [← hpost]
  generalize k0_pay57 v31 v33 v255 c0 = b
  pointwise
  exact sum_pick (row β j) _ _ (h49 j)

/-- The upper halves of the decisions before acting, the agents running slowest. -/
theorem pre_perm (hpre : ∀ i c, k0_pay56 v31 v33 v255 c0 (ix2 (row β i) c) = pre N P i c)
    (h49 : ∀ j p, v49 (ix2 (prow j β) p) = if p = row β j then 1 else 0) (j : Fin 12) (h : Fin 256) :
    k0_pay60 v31 v33 v49 v255 c0 (ix2 (prow j β) h) = pre N P j (hi h) := by
  simp only [k0_pay60]
  rw [← hpre]
  generalize k0_pay56 v31 v33 v255 c0 = b
  pointwise
  exact sum_pick (row β j) _ _ (h49 j)

/-- The twelve pieces of the greatest over the others: those before the acting agent and those after. -/
def maxPiece (v31 : FVec Ideal S256x512 .f32) (v33 : FVec Ideal S1x512 .f32) (v49 : FVec Ideal S192x192 .f32)
    (v255 : FVec Ideal S384x256 .f32) (c0 : FVec Ideal S384x512 .f32) : Fin 12 → FVec Ideal S16x256 .f32
  | 0 => maximumf (k0_pay61 (F := Ideal)) (maximumf (maximumf (maximumf (k0_pay79 v31 v33 v49 v255 c0) (k0_pay80 v31 v33 v49 v255 c0)) (extractStridedSlice S16x256 ![32, 0] (k0_pay60 v31 v33 v49 v255 c0) slices_S192x256_o32_0_S16x256)) (extractStridedSlice S16x256 ![16, 0] (k0_pay60 v31 v33 v49 v255 c0) slices_S192x256_o16_0_S16x256))
  | 1 => maximumf (k0_pay62 v31 v33 v49 v255 c0) (maximumf (maximumf (k0_pay79 v31 v33 v49 v255 c0) (k0_pay80 v31 v33 v49 v255 c0)) (extractStridedSlice S16x256 ![32, 0] (k0_pay60 v31 v33 v49 v255 c0) slices_S192x256_o32_0_S16x256))
  | 2 => maximumf (k0_pay63 v31 v33 v49 v255 c0) (maximumf (k0_pay79 v31 v33 v49 v255 c0) (k0_pay80 v31 v33 v49 v255 c0))
  | 3 => maximumf (k0_pay64 v31 v33 v49 v255 c0) (k0_pay79 v31 v33 v49 v255 c0)
  | 4 => maximumf (k0_pay65 v31 v33 v49 v255 c0) (k0_pay78 v31 v33 v49 v255 c0)
  | 5 => maximumf (k0_pay66 v31 v33 v49 v255 c0) (k0_pay77 v31 v33 v49 v255 c0)
  | 6 => maximumf (k0_pay67 v31 v33 v49 v255 c0) (k0_pay76 v31 v33 v49 v255 c0)
  | 7 => maximumf (k0_pay68 v31 v33 v49 v255 c0) (k0_pay75 v31 v33 v49 v255 c0)
  | 8 => maximumf (k0_pay69 v31 v33 v49 v255 c0) (k0_pay74 v31 v33 v49 v255 c0)
  | 9 => maximumf (k0_pay70 v31 v33 v49 v255 c0) (k0_pay73 v31 v33 v49 v255 c0)
  | 10 => maximumf (k0_pay71 v31 v33 v49 v255 c0) (k0_pay61 (F := Ideal))
  | 11 => maximumf (k0_pay72 v31 v33 v49 v255 c0) (k0_pay61 (F := Ideal))

theorem maxPiece_le
    (hpre : ∀ j h, k0_pay60 v31 v33 v49 v255 c0 (ix2 (prow j β) h) = pre N P j (hi h))
    (hpost : ∀ j h, k0_pay59 v31 v33 v49 v255 c0 (ix2 (prow j β) h) = post N P j (hi h)) (i : Fin 12) (h : Fin 256) (x : EReal) :
    maxPiece v31 v33 v49 v255 c0 i (ix2 β h) ≤ x ↔ 0 ≤ x ∧ (∀ j, j < i → post N P j (hi h) ≤ x) ∧
      ∀ j, i < j → j ≠ 11 → pre N P j (hi h) ≤ x := by
  simp only [maxPiece, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
  generalize ha : k0_pay59 v31 v33 v49 v255 c0 = a at *
  generalize hb : k0_pay60 v31 v33 v49 v255 c0 = b at *
  have e0 : prow 0 β = ⟨β.val, by omega⟩ := Fin.ext (by simp)
  have hp0 : a (ix2 ⟨β.val, by omega⟩ h) = post N P 0 (hi h) := by rw [← hpost, e0]
  have p1 : ∀ hj, a (ix2 ⟨16 + β.val, hj⟩ h) = post N P 1 (hi h) := fun _ => hpost 1 h
  have q1 : ∀ hj, b (ix2 ⟨16 + β.val, hj⟩ h) = pre N P 1 (hi h) := fun _ => hpre 1 h
  have p2 : ∀ hj, a (ix2 ⟨32 + β.val, hj⟩ h) = post N P 2 (hi h) := fun _ => hpost 2 h
  have q2 : ∀ hj, b (ix2 ⟨32 + β.val, hj⟩ h) = pre N P 2 (hi h) := fun _ => hpre 2 h
  have p3 : ∀ hj, a (ix2 ⟨48 + β.val, hj⟩ h) = post N P 3 (hi h) := fun _ => hpost 3 h
  have q3 : ∀ hj, b (ix2 ⟨48 + β.val, hj⟩ h) = pre N P 3 (hi h) := fun _ => hpre 3 h
  have p4 : ∀ hj, a (ix2 ⟨64 + β.val, hj⟩ h) = post N P 4 (hi h) := fun _ => hpost 4 h
  have q4 : ∀ hj, b (ix2 ⟨64 + β.val, hj⟩ h) = pre N P 4 (hi h) := fun _ => hpre 4 h
  have p5 : ∀ hj, a (ix2 ⟨80 + β.val, hj⟩ h) = post N P 5 (hi h) := fun _ => hpost 5 h
  have q5 : ∀ hj, b (ix2 ⟨80 + β.val, hj⟩ h) = pre N P 5 (hi h) := fun _ => hpre 5 h
  have p6 : ∀ hj, a (ix2 ⟨96 + β.val, hj⟩ h) = post N P 6 (hi h) := fun _ => hpost 6 h
  have q6 : ∀ hj, b (ix2 ⟨96 + β.val, hj⟩ h) = pre N P 6 (hi h) := fun _ => hpre 6 h
  have p7 : ∀ hj, a (ix2 ⟨112 + β.val, hj⟩ h) = post N P 7 (hi h) := fun _ => hpost 7 h
  have q7 : ∀ hj, b (ix2 ⟨112 + β.val, hj⟩ h) = pre N P 7 (hi h) := fun _ => hpre 7 h
  have p8 : ∀ hj, a (ix2 ⟨128 + β.val, hj⟩ h) = post N P 8 (hi h) := fun _ => hpost 8 h
  have q8 : ∀ hj, b (ix2 ⟨128 + β.val, hj⟩ h) = pre N P 8 (hi h) := fun _ => hpre 8 h
  have p9 : ∀ hj, a (ix2 ⟨144 + β.val, hj⟩ h) = post N P 9 (hi h) := fun _ => hpost 9 h
  have q9 : ∀ hj, b (ix2 ⟨144 + β.val, hj⟩ h) = pre N P 9 (hi h) := fun _ => hpre 9 h
  have p10 : ∀ hj, a (ix2 ⟨160 + β.val, hj⟩ h) = post N P 10 (hi h) := fun _ => hpost 10 h
  have q10 : ∀ hj, b (ix2 ⟨160 + β.val, hj⟩ h) = pre N P 10 (hi h) := fun _ => hpre 10 h
  have hz : FloatOps.ofBits (F := Ideal) .f32 0x00000000#32 = 0 := Ideal.ofBits_zero_f32
  clear hpre hpost ha hb
  fin_cases i
  all_goals
    pointwise
    simp only [Fin.zero_eta, Fin.isValue, hp0, p1, p2, p3, p4, p5, p6, p7, p8, p9, p10, q1, q2, q3, q4, q5, q6, q7, q8, q9, q10, max_le_iff]
    simp [all_twelve, -and_congr_right_iff]
    constructor <;> (intro hx; simp only [hx, and_self])

/-- The pieces one under another. -/
def maxStack (v31 : FVec Ideal S256x512 .f32) (v33 : FVec Ideal S1x512 .f32) (v49 : FVec Ideal S192x192 .f32)
    (v255 : FVec Ideal S384x256 .f32) (c0 : FVec Ideal S384x512 .f32) : FVec Ideal S192x256 .f32 :=
  concatenate S192x256 0 (List.ofFn fun j => ⟨S16x256, maxPiece v31 v33 v49 v255 c0 j⟩) concatenates_S16x256_S16x256_S16x256_S16x256_S16x256_S16x256_S16x256_S16x256_S16x256_S16x256_S16x256_S16x256_S192x256_d0

theorem maxStack_apply (i : Fin 12) (h : Fin 256) :
    maxStack v31 v33 v49 v255 c0 (ix2 (prow i β) h) = maxPiece v31 v33 v49 v255 c0 i (ix2 β h) := by
  refine concatenate_ofFn_apply (t := S192x256) (s₁ := S16x256) 0 _ _ rfl 16 rfl _ i ?_ _ ?_ ?_
  · show (i.val * 16 + β.val) / 16 = i.val
    omega
  · show β.val = (i.val * 16 + β.val) % 16
    omega
  · intro b hb
    fin_cases b
    · exact absurd rfl hb
    · rfl

/-- The greatest, over the agents but the acting one and the ball, of the upper halves of the decisions, and zero. -/
theorem others_max_row
    (hpre : ∀ i c, k0_pay56 v31 v33 v255 c0 (ix2 (row β i) c) = pre N P i c)
    (hpost : ∀ i c, k0_pay57 v31 v33 v255 c0 (ix2 (row β i) c) = post N P i c)
    (h49 : ∀ j p, v49 (ix2 (prow j β) p) = if p = row β j then 1 else 0)
    (h51 : ∀ i q, v51 (ix2 (row β i) q) = if q = prow i β then 1 else 0)
    (i : Fin 12) (h : Fin 256) (x : EReal) :
    k0_pay81 v51 (k0_pay60 v31 v33 v49 v255 c0) (k0_pay61 (F := Ideal)) (k0_pay62 v31 v33 v49 v255 c0) (k0_pay63 v31 v33 v49 v255 c0) (k0_pay64 v31 v33 v49 v255 c0) (k0_pay65 v31 v33 v49 v255 c0) (k0_pay66 v31 v33 v49 v255 c0) (k0_pay67 v31 v33 v49 v255 c0) (k0_pay68 v31 v33 v49 v255 c0) (k0_pay69 v31 v33 v49 v255 c0) (k0_pay70 v31 v33 v49 v255 c0) (k0_pay71 v31 v33 v49 v255 c0) (k0_pay72 v31 v33 v49 v255 c0) (k0_pay73 v31 v33 v49 v255 c0) (k0_pay74 v31 v33 v49 v255 c0) (k0_pay75 v31 v33 v49 v255 c0) (k0_pay76 v31 v33 v49 v255 c0) (k0_pay77 v31 v33 v49 v255 c0) (k0_pay78 v31 v33 v49 v255 c0) (k0_pay79 v31 v33 v49 v255 c0) (k0_pay80 v31 v33 v49 v255 c0) (ix2 (row β i) h) ≤ x ↔
      0 ≤ x ∧ (∀ j, j < i → post N P j (hi h) ≤ x) ∧ ∀ j, i < j → j ≠ 11 → pre N P j (hi h) ≤ x := by
  have e : k0_pay81 v51 (k0_pay60 v31 v33 v49 v255 c0) (k0_pay61 (F := Ideal)) (k0_pay62 v31 v33 v49 v255 c0) (k0_pay63 v31 v33 v49 v255 c0) (k0_pay64 v31 v33 v49 v255 c0) (k0_pay65 v31 v33 v49 v255 c0) (k0_pay66 v31 v33 v49 v255 c0) (k0_pay67 v31 v33 v49 v255 c0) (k0_pay68 v31 v33 v49 v255 c0) (k0_pay69 v31 v33 v49 v255 c0) (k0_pay70 v31 v33 v49 v255 c0) (k0_pay71 v31 v33 v49 v255 c0) (k0_pay72 v31 v33 v49 v255 c0) (k0_pay73 v31 v33 v49 v255 c0) (k0_pay74 v31 v33 v49 v255 c0) (k0_pay75 v31 v33 v49 v255 c0) (k0_pay76 v31 v33 v49 v255 c0) (k0_pay77 v31 v33 v49 v255 c0) (k0_pay78 v31 v33 v49 v255 c0) (k0_pay79 v31 v33 v49 v255 c0) (k0_pay80 v31 v33 v49 v255 c0)
      = matmul dot_S192x192_S192x256_S192x256_1_0_0_1_n_n none v51 (maxStack v31 v33 v49 v255 c0)
          (constant S192x256 .f32 0x00000000#32) := rfl
  rw [e, ← maxPiece_le (pre_perm hpre h49) (post_perm hpost h49) i h x, ← maxStack_apply]
  generalize maxStack v31 v33 v49 v255 c0 = s
  pointwise
  rw [sum_pick (prow i β) _ _ (h51 i)]

end Cert.KernelIdeal.Value

end
-- ==== Proof.Combine.lean ====
/-
  The two ways to combine the decisions: over all twelve agents at once, and, as the kernel does, the others by tables, then
  the acting agent, then the ball.
-/
module

public import proofs.«01_k».proof.Proof.Sums

@[expose] public section

noncomputable section

namespace Cert.Spec

variable (N : Net) (P : Play)

theorem post_nonneg (j : Fin 12) (c : Fin 512) : 0 ≤ post N P j c := relu_nonneg _ _ _ _
theorem pre_nonneg (j : Fin 12) (c : Fin 512) : 0 ≤ pre N P j c := relu_nonneg _ _ _ _
theorem passive_nonneg (i : Fin 12) (a : Fin 19) (c : Fin 512) : 0 ≤ passive N P i a c := relu_nonneg _ _ _ _

/-- Agent `j`'s decision is one of four, the other three entering as zeros. -/
theorem decision_split (i : Fin 12) (a : Fin 19) (j : Fin 12) (c : Fin 512) :
    decision N P i a j c = (if j < i then post N P j c else 0) + (if i < j ∧ j ≠ 11 then pre N P j c else 0)
      + (if j = i then active N P i a c * (if i.val = 11 then 0 else 1) else 0)
      + (if j = 11 then passive N P i a c else 0) := by
  have h11 : j = 11 ↔ j.val = 11 := ⟨fun h => by rw [h]; rfl, fun h => Fin.ext h⟩
  unfold decision
  by_cases h : j.val = 11
  · have hj : j = 11 := h11.mpr h
    have hlt : ¬ j < i := fun hl => by have := Fin.lt_def.mp hl; omega
    by_cases hi : i.val = 11
    · simp [h, hj, hi, hlt, show ¬ (11 : Fin 12) < i from hj ▸ hlt]
    · have hne : ¬ (11 : Fin 12) = i := fun e => hi (by rw [← e]; rfl)
      simp [hj, hne, show ¬ (11 : Fin 12) < i from hj ▸ hlt]
  · have hj : ¬ j = 11 := fun e => h (h11.mp e)
    rcases lt_trichotomy j i with hl | hl | hl
    · simp [h, hj, hl, hl.ne, hl.le, not_lt_of_gt hl]
    · subst hl
      simp [h, hj]
    · simp [h, hj, hl, hl.ne', hl.not_gt]

/-- The sum of the decisions. -/
theorem decision_sum (i : Fin 12) (a : Fin 19) (c : Fin 512) :
    (∑ j, if j < i then post N P j c else 0) + (∑ j, if i < j ∧ j ≠ 11 then pre N P j c else 0)
        + active N P i a c * (if i.val = 11 then 0 else 1) + passive N P i a c
      = ∑ j, decision N P i a j c := by
  simp only [decision_split, Finset.sum_add_distrib]
  simp

/-- The greatest of the decisions. -/
theorem decision_sup (i : Fin 12) (a : Fin 19) (c : Fin 512) (M : EReal)
    (hM : ∀ x, M ≤ x ↔ 0 ≤ x ∧ (∀ j, j < i → post N P j c ≤ x) ∧ ∀ j, i < j → j ≠ 11 → pre N P j c ≤ x) :
    max (max M (active N P i a c * (if i.val = 11 then 0 else 1))) (passive N P i a c)
      = Finset.univ.sup fun j => decision N P i a j c := by
  refine eq_of_forall_ge_iff fun x => ?_
  simp only [max_le_iff, hM, Finset.sup_le_iff, Finset.mem_univ, true_implies]
  constructor
  · rintro ⟨⟨⟨_, hl, hg⟩, ha⟩, hp⟩ j
    unfold decision
    split_ifs with h1 h2 h3
    · exact hp
    · subst h2
      simpa [h1] using ha
    · exact hl j h3
    · refine hg j (lt_of_le_of_ne (not_lt.mp h3) (Ne.symm h2)) fun e => h1 (by rw [e]; rfl)
  · intro hd
    have hp : passive N P i a c ≤ x := by simpa [decision] using hd 11
    have h0 : 0 ≤ x := le_trans (passive_nonneg N P i a c) hp
    refine ⟨⟨⟨h0, fun j hj => ?_, fun j hj hj' => ?_⟩, ?_⟩, hp⟩
    · have := hd j
      have h1 : ¬ j.val = 11 := by have := Fin.lt_def.mp hj; omega
      simpa [decision, h1, hj, hj.ne] using this
    · have := hd j
      have h1 : ¬ j.val = 11 := fun e => hj' (Fin.ext e)
      simpa [decision, h1, hj.ne', hj.not_gt] using this
    · by_cases hi : i.val = 11
      · simpa [hi] using h0
      · have := hd i
        simpa [decision, hi] using this

end Cert.Spec

end
-- ==== Proof.BlockD.lean ====
/-
  What the last part of the kernel's body computes, row by row: the decisions of the acting agent and of the ball under
  each action, and the logit.
-/
module

public import proofs.«01_k».proof.Proof.BlockC
public import proofs.«01_k».proof.Proof.Combine

@[expose] public section

set_option maxRecDepth 16384

noncomputable section

namespace Cert.KernelIdeal.Value

open Idealize.ShloMosaic
open Cert.Spec
open Cert.KernelIdeal.Gen

variable {N : Net} {P : Play} {β : Fin 16}
variable {v61 : FVec Ideal S192x1 .f32} {v27 : FVec Ideal S19x256 .f32} {v28 : FVec Ideal S256x256 .f32}
  {v30 v36 : FVec Ideal S1x256 .f32} {v31 : FVec Ideal S256x512 .f32} {v33 : FVec Ideal S1x512 .f32}
  {v34 : FVec Ideal S512x256 .f32} {v37 : FVec Ideal S256x1 .f32} {v222 v247 v267 v328 : FVec Ideal S192x256 .f32}
  {v241 : FVec Ideal S192x4864 .f32} {v347 : FVec Ideal S3648x512 .f32} {v39 : FVec Ideal S1x1 .f32}

/-- The row of action `a` of agent `i` of game `β` among the 3648 rows. -/
abbrev arow (a : Fin 19) (β : Fin 16) (i : Fin 12) : Fin 3648 := ⟨a.val * 192 + (β.val * 12 + i.val), by omega⟩

/-- The acting agent's decision under each action. -/
theorem active_row (hc : ∀ i h, v247 (ix2 (row β i) h) = cur N P i h) (h27 : ∀ a c, v27 (ix2 a c) = N.aemb a c)
    (h28 : ∀ k c, v28 (ix2 k c) = N.deW1 k c) (h30 : ∀ c, v30 (ix2 0 c) = N.deb1 c)
    (h31 : ∀ k c, v31 (ix2 k c) = N.deW2 k c) (h33 : ∀ c, v33 (ix2 0 c) = N.deb2 c)
    (a : Fin 19) (i : Fin 12) (c : Fin 512) :
    k0_pay82 v27 v28 v30 v31 v33 v247 (ix2 (arow a β i) c) = active N P i a c := by
  have e1 : (a.val * 192 + (β.val * 12 + i.val)) / 192 = a.val := by omega
  have e2 : (a.val * 192 + (β.val * 12 + i.val)) % 192 = β.val * 12 + i.val := by omega
  pointwise [k0_pay82]
  simp only [e1, e2, hc, h27, h28, h30, h31, h33]
  rfl

/-- Action `a`'s columns of what the actions would add to the ball. -/
def passPiece (v241 : FVec Ideal S192x4864 .f32) : Fin 19 → FVec Ideal S192x256 .f32 :=
  ![extractStridedSlice S192x256 ![0, 0] v241 slices_S192x4864_o0_0_S192x256,
    extractStridedSlice S192x256 ![0, 256] v241 slices_S192x4864_o0_256_S192x256,
    extractStridedSlice S192x256 ![0, 512] v241 slices_S192x4864_o0_512_S192x256,
    extractStridedSlice S192x256 ![0, 768] v241 slices_S192x4864_o0_768_S192x256,
    extractStridedSlice S192x256 ![0, 1024] v241 slices_S192x4864_o0_1024_S192x256,
    extractStridedSlice S192x256 ![0, 1280] v241 slices_S192x4864_o0_1280_S192x256,
    extractStridedSlice S192x256 ![0, 1536] v241 slices_S192x4864_o0_1536_S192x256,
    extractStridedSlice S192x256 ![0, 1792] v241 slices_S192x4864_o0_1792_S192x256,
    extractStridedSlice S192x256 ![0, 2048] v241 slices_S192x4864_o0_2048_S192x256,
    extractStridedSlice S192x256 ![0, 2304] v241 slices_S192x4864_o0_2304_S192x256,
    extractStridedSlice S192x256 ![0, 2560] v241 slices_S192x4864_o0_2560_S192x256,
    extractStridedSlice S192x256 ![0, 2816] v241 slices_S192x4864_o0_2816_S192x256,
    extractStridedSlice S192x256 ![0, 3072] v241 slices_S192x4864_o0_3072_S192x256,
    extractStridedSlice S192x256 ![0, 3328] v241 slices_S192x4864_o0_3328_S192x256,
    extractStridedSlice S192x256 ![0, 3584] v241 slices_S192x4864_o0_3584_S192x256,
    extractStridedSlice S192x256 ![0, 3840] v241 slices_S192x4864_o0_3840_S192x256,
    extractStridedSlice S192x256 ![0, 4096] v241 slices_S192x4864_o0_4096_S192x256,
    extractStridedSlice S192x256 ![0, 4352] v241 slices_S192x4864_o0_4352_S192x256,
    extractStridedSlice S192x256 ![0, 4608] v241 slices_S192x4864_o0_4608_S192x256]

/-- The pieces one under another. -/
def passStack (v241 : FVec Ideal S192x4864 .f32) : FVec Ideal S3648x256 .f32 :=
  concatenate S3648x256 0 (List.ofFn fun j => ⟨S192x256, passPiece v241 j⟩)
    concatenates_S192x256_S192x256_S192x256_S192x256_S192x256_S192x256_S192x256_S192x256_S192x256_S192x256_S192x256_S192x256_S192x256_S192x256_S192x256_S192x256_S192x256_S192x256_S192x256_S3648x256_d0

theorem passPiece_apply (v241 : FVec Ideal S192x4864 .f32) (a : Fin 19) (p : Fin 192) (h : Fin 256) :
    passPiece v241 a (ix2 p h) = v241 (ix2 p (blk a h)) := by
  fin_cases a
  · simp only [passPiece, Fin.zero_eta, Fin.isValue, Matrix.cons_val]
    have e0 : blk 0 h = ⟨h.val, by omega⟩ := Fin.ext (by simp)
    pointwise
    exact congrArg (fun z => v241 (ix2 p z)) e0.symm
  all_goals
    simp only [passPiece, Fin.reduceFinMk, Fin.isValue, Matrix.cons_val]
    pointwise
    rfl

theorem passStack_apply (v241 : FVec Ideal S192x4864 .f32) (a : Fin 19) (β : Fin 16) (i : Fin 12) (h : Fin 256) :
    passStack v241 (ix2 (arow a β i) h) = v241 (ix2 (row β i) (blk a h)) := by
  rw [← passPiece_apply v241 a (row β i) h]
  refine concatenate_ofFn_apply (t := S3648x256) (s₁ := S192x256) 0 _ _ rfl 192 rfl _ a ?_ _ ?_ ?_
  · show (a.val * 192 + (β.val * 12 + i.val)) / 192 = a.val
    omega
  · show β.val * 12 + i.val = (a.val * 192 + (β.val * 12 + i.val)) % 192
    omega
  · intro b hb
    fin_cases b
    · exact absurd rfl hb
    · rfl

/-- The layers after the stack `X` of what the actions would add to the ball. -/
def lastLayers (v28 : FVec Ideal S256x256 .f32) (v30 : FVec Ideal S1x256 .f32) (v31 : FVec Ideal S256x512 .f32)
    (v33 : FVec Ideal S1x512 .f32) (v34 : FVec Ideal S512x256 .f32) (v36 : FVec Ideal S1x256 .f32)
    (v37 : FVec Ideal S256x1 .f32) (v61 : FVec Ideal S192x1 .f32) (v222 v267 v328 : FVec Ideal S192x256 .f32)
    (v347 : FVec Ideal S3648x512 .f32) (X : FVec Ideal S3648x256 .f32) : FVec Ideal S3648x1 .f32 :=
  have v368 : FVec Ideal S1x192x256 .f32 := shapeCast S1x192x256 v222 shapeCasts_S192x256_S1x192x256
  have v369 : FVec Ideal S1x192x256 .f32 := shapeCast S1x192x256 v368 shapeCasts_S1x192x256_S1x192x256
  have v370 : FVec Ideal S19x192x256 .f32 := broadcastTo S19x192x256 v369 broadcasts_S1x192x256_S19x192x256
  have v371 : FVec Ideal S3648x256 .f32 := shapeCast S3648x256 v370 shapeCasts_S19x192x256_S3648x256
  have v372 : FVec Ideal S3648x256 .f32 := addf v371 X
  have cst_112 : FVec Ideal S3648x256 .f32 := constant S3648x256 .f32 0x00000000#32
  have v373 : FVec Ideal S3648x256 .f32 := matmul dot_S3648x256_S256x256_S3648x256_1_0_0_1_n_n none v372 v28 cst_112
  have v374 : FVec Ideal S3648x256 .f32 := broadcastTo S3648x256 v30 broadcasts_S1x256_S3648x256
  have v375 : FVec Ideal S3648x256 .f32 := addf v373 v374
  have cst_113 : Ideal .f32 := Scalar.ofBits .f32 0x00000000#32
  have v376 : FVec Ideal S3648x256 .f32 := broadcast S3648x256 cst_113
  have v377 : FVec Ideal S3648x256 .f32 := maximumf v375 v376
  have cst_114 : FVec Ideal S3648x512 .f32 := constant S3648x512 .f32 0x00000000#32
  have v378 : FVec Ideal S3648x512 .f32 := matmul dot_S3648x256_S256x512_S3648x512_1_0_0_1_n_n none v377 v31 cst_114
  have v379 : FVec Ideal S3648x512 .f32 := broadcastTo S3648x512 v33 broadcasts_S1x512_S3648x512
  have v380 : FVec Ideal S3648x512 .f32 := addf v378 v379
  have cst_115 : Ideal .f32 := Scalar.ofBits .f32 0x00000000#32
  have v381 : FVec Ideal S3648x512 .f32 := broadcast S3648x512 cst_115
  have v382 : FVec Ideal S3648x512 .f32 := maximumf v380 v381
  have v383 : FVec Ideal S1x192x1 .f32 := shapeCast S1x192x1 v61 shapeCasts_S192x1_S1x192x1
  have v384 : FVec Ideal S1x192x1 .f32 := shapeCast S1x192x1 v383 shapeCasts_S1x192x1_S1x192x1
  have v385 : FVec Ideal S19x192x1 .f32 := broadcastTo S19x192x1 v384 broadcasts_S1x192x1_S19x192x1
  have v386 : FVec Ideal S3648x1 .f32 := shapeCast S3648x1 v385 shapeCasts_S19x192x1_S3648x1
  have v387 : FVec Ideal S1x192x256 .f32 := shapeCast S1x192x256 v267 shapeCasts_S192x256_S1x192x256
  have v388 : FVec Ideal S1x192x256 .f32 := shapeCast S1x192x256 v387 shapeCasts_S1x192x256_S1x192x256
  have v389 : FVec Ideal S19x192x256 .f32 := broadcastTo S19x192x256 v388 broadcasts_S1x192x256_S19x192x256
  have v390 : FVec Ideal S3648x256 .f32 := shapeCast S3648x256 v389 shapeCasts_S19x192x256_S3648x256
  have v391 : FVec Ideal S3648x256 .f32 := extractStridedSlice S3648x256 ![0, 0] v347 slices_S3648x512_o0_0_S3648x256
  have v392 : FVec Ideal S3648x256 .f32 := broadcastTo S3648x256 v386 broadcasts_S3648x1_S3648x256
  have v393 : FVec Ideal S3648x256 .f32 := mulf v391 v392
  have v394 : FVec Ideal S3648x256 .f32 := addf v390 v393
  have v395 : FVec Ideal S3648x256 .f32 := extractStridedSlice S3648x256 ![0, 0] v382 slices_S3648x512_o0_0_S3648x256
  have v396 : FVec Ideal S3648x256 .f32 := addf v394 v395
  have cst_116 : Ideal .f32 := Named.named κ "inv_n" 0x3DAAAAAB#32
  have v397 : FVec Ideal S3648x256 .f32 := broadcast S3648x256 cst_116
  have v398 : FVec Ideal S3648x256 .f32 := mulf v396 v397
  have v399 : FVec Ideal S1x192x256 .f32 := shapeCast S1x192x256 v328 shapeCasts_S192x256_S1x192x256
  have v400 : FVec Ideal S1x192x256 .f32 := shapeCast S1x192x256 v399 shapeCasts_S1x192x256_S1x192x256
  have v401 : FVec Ideal S19x192x256 .f32 := broadcastTo S19x192x256 v400 broadcasts_S1x192x256_S19x192x256
  have v402 : FVec Ideal S3648x256 .f32 := shapeCast S3648x256 v401 shapeCasts_S19x192x256_S3648x256
  have v403 : FVec Ideal S3648x256 .f32 := extractStridedSlice S3648x256 ![0, 256] v347 slices_S3648x512_o0_256_S3648x256
  have v404 : FVec Ideal S3648x256 .f32 := broadcastTo S3648x256 v386 broadcasts_S3648x1_S3648x256
  have v405 : FVec Ideal S3648x256 .f32 := mulf v403 v404
  have v406 : FVec Ideal S3648x256 .f32 := maximumf v402 v405
  have v407 : FVec Ideal S3648x256 .f32 := extractStridedSlice S3648x256 ![0, 256] v382 slices_S3648x512_o0_256_S3648x256
  have v408 : FVec Ideal S3648x256 .f32 := maximumf v406 v407
  have v409 : FVec Ideal S3648x512 .f32 := concatenate S3648x512 1 [⟨S3648x256, v398⟩, ⟨S3648x256, v408⟩] concatenates_S3648x256_S3648x256_S3648x512_d1
  have cst_117 : FVec Ideal S3648x256 .f32 := constant S3648x256 .f32 0x00000000#32
  have v410 : FVec Ideal S3648x256 .f32 := matmul dot_S3648x512_S512x256_S3648x256_1_0_0_1_n_n none v409 v34 cst_117
  have v411 : FVec Ideal S3648x256 .f32 := broadcastTo S3648x256 v36 broadcasts_S1x256_S3648x256
  have v412 : FVec Ideal S3648x256 .f32 := addf v410 v411
  have cst_118 : Ideal .f32 := Scalar.ofBits .f32 0x00000000#32
  have v413 : FVec Ideal S3648x256 .f32 := broadcast S3648x256 cst_118
  have v414 : FVec Ideal S3648x256 .f32 := maximumf v412 v413
  have cst_119 : FVec Ideal S3648x1 .f32 := constant S3648x1 .f32 0x00000000#32
  have v415 : FVec Ideal S3648x1 .f32 := matmul dot_S3648x256_S256x1_S3648x1_1_0_0_1_n_n none v414 v37 cst_119
  v415

theorem named_inv_n : (Named.named κ "inv_n" 0x3DAAAAAB#32 : Ideal .f32) = ((1 / 12 : ℝ) : EReal) :=
  IdealRules.named_const.ideal_named_scalar _ _ _ _ rfl

theorem lastLayers_row {X : FVec Ideal S3648x256 .f32} {a : Fin 19} {i : Fin 12}
    (hX : ∀ h, X (ix2 (arow a β i) h) = ae N (cur N P i) (blk a h) * own P i)
    (hb : ∀ h, v222 (ix2 (row β i) h) = ballAt N P i.val h)
    (hact : ∀ c, v347 (ix2 (arow a β i) c) = active N P i a c)
    (h28 : ∀ k c, v28 (ix2 k c) = N.deW1 k c) (h30 : ∀ c, v30 (ix2 0 c) = N.deb1 c)
    (h31 : ∀ k c, v31 (ix2 k c) = N.deW2 k c) (h33 : ∀ c, v33 (ix2 0 c) = N.deb2 c)
    (h34 : ∀ k c, v34 (ix2 k c) = N.leW1 k c) (h36 : ∀ c, v36 (ix2 0 c) = N.leb1 c)
    (h37 : ∀ k, v37 (ix2 k 0) = N.leW2 k)
    (h61 : v61 (ix2 (row β i) 0) = if i.val = 11 then 0 else 1) :
    lastLayers v28 v30 v31 v33 v34 v36 v37 v61 v222 v267 v328 v347 X (ix2 (arow a β i) 0) =
      ∑ k, lay N.leW1 N.leb1 (cat2 512
        (fun h => (v267 (ix2 (row β i) h) + active N P i a (lo h) * (if i.val = 11 then 0 else 1)
          + passive N P i a (lo h)) * ((1 / 12 : ℝ) : EReal))
        (fun h => max (max (v328 (ix2 (row β i) h)) (active N P i a (hi h) * (if i.val = 11 then 0 else 1)))
          (passive N P i a (hi h)))) k * N.leW2 k := by
  have e1 : (a.val * 192 + (β.val * 12 + i.val)) / 192 = a.val := by omega
  have e2 : (a.val * 192 + (β.val * 12 + i.val)) % 192 = β.val * 12 + i.val := by omega
  pointwise [lastLayers]
  simp only [e2, hX, hb, hact, h28, h30, h31, h33, h34, h36, h37, h61, named_inv_n, lay,
    sum_cat2 (show 256 + 256 = 512 from rfl)]
  rfl

/-- The output block's row: the logit. -/
theorem logit_row {a : Fin 19} {i : Fin 12}
    (hpass : ∀ i e, v241 (ix2 (row β i) e) = ae N (cur N P i) e * own P i)
    (hb : ∀ i h, v222 (ix2 (row β i) h) = ballAt N P i.val h)
    (hact : ∀ a i c, v347 (ix2 (arow a β i) c) = active N P i a c)
    (hsum : ∀ i h, v267 (ix2 (row β i) h)
      = (∑ j, if j < i then post N P j (lo h) else 0) + ∑ j, if i < j ∧ j ≠ 11 then pre N P j (lo h) else 0)
    (hmax : ∀ i h x, v328 (ix2 (row β i) h) ≤ x ↔
      0 ≤ x ∧ (∀ j, j < i → post N P j (hi h) ≤ x) ∧ ∀ j, i < j → j ≠ 11 → pre N P j (hi h) ≤ x)
    (h28 : ∀ k c, v28 (ix2 k c) = N.deW1 k c) (h30 : ∀ c, v30 (ix2 0 c) = N.deb1 c)
    (h31 : ∀ k c, v31 (ix2 k c) = N.deW2 k c) (h33 : ∀ c, v33 (ix2 0 c) = N.deb2 c)
    (h34 : ∀ k c, v34 (ix2 k c) = N.leW1 k c) (h36 : ∀ c, v36 (ix2 0 c) = N.leb1 c)
    (h37 : ∀ k, v37 (ix2 k 0) = N.leW2 k) (h39 : v39 (ix2 0 0) = N.leb2)
    (h61 : ∀ i : Fin 12, v61 (ix2 (row β i) 0) = if i.val = 11 then 0 else 1) :
    k0_pay1 (k0_pay100 v28 v30 v31 v33 v34 v36 v37 v61 v222 v241 v267 v328 v347 (k0_pay83 v241) (k0_pay84 v241) (k0_pay85 v241) (k0_pay86 v241) (k0_pay87 v241) (k0_pay88 v241) (k0_pay89 v241) (k0_pay90 v241) (k0_pay91 v241) (k0_pay92 v241) (k0_pay93 v241) (k0_pay94 v241) (k0_pay95 v241) (k0_pay96 v241) (k0_pay97 v241) (k0_pay98 v241) (k0_pay99 v241)) (k0_pay101 v39)
      (ix2 (arow a β i) 0) = logit N P i a := by
  have e : k0_pay100 v28 v30 v31 v33 v34 v36 v37 v61 v222 v241 v267 v328 v347 (k0_pay83 v241) (k0_pay84 v241) (k0_pay85 v241) (k0_pay86 v241) (k0_pay87 v241) (k0_pay88 v241) (k0_pay89 v241) (k0_pay90 v241) (k0_pay91 v241) (k0_pay92 v241) (k0_pay93 v241) (k0_pay94 v241) (k0_pay95 v241) (k0_pay96 v241) (k0_pay97 v241) (k0_pay98 v241) (k0_pay99 v241)
      = lastLayers v28 v30 v31 v33 v34 v36 v37 v61 v222 v267 v328 v347 (passStack v241) := rfl
  have hl := lastLayers_row (N := N) (P := P) (β := β) (v61 := v61) (v267 := v267) (v328 := v328)
    (X := passStack v241) (a := a) (i := i)
    (fun h => by rw [passStack_apply, hpass]) (hb i) (hact a i) h28 h30 h31 h33 h34 h36 h37 (h61 i)
  rw [e]
  generalize lastLayers v28 v30 v31 v33 v34 v36 v37 v61 v222 v267 v328 v347 (passStack v241) = L at *
  pointwise [k0_pay1, k0_pay101]
  have hs : ∀ h, v267 (ix2 (row β i) h) + active N P i a (lo h) * (if i.val = 11 then 0 else 1) + passive N P i a (lo h)
      = ∑ j, decision N P i a j (lo h) := fun h => by rw [hsum, decision_sum]
  have hm : ∀ h, max (max (v328 (ix2 (row β i) h)) (active N P i a (hi h) * (if i.val = 11 then 0 else 1)))
      (passive N P i a (hi h)) = dmax N P i a h := fun h => decision_sup N P i a (hi h) _ (hmax i h)
  simp only [hs, hm] at hl
  rw [hl, h39]
  rfl

end Cert.KernelIdeal.Value

end
-- ==== Proof.BlockOut.lean ====
/-
  The kernel's output block, as a function of the blocks it reads: each row is the logit of one action of one agent of one
  game. The blocks' contents are hypotheses here: the weights, sixteen games, and the tables of zeros and ones.
-/
module

public import proofs.«01_k».proof.Proof.BlockD
public import proofs.«01_k».proof.Proof.KernelIdealBlock
public import Idealize.ShloMosaic.Lib.Pipeline.ValueKit

@[expose] public section

set_option maxRecDepth 16384

noncomputable section

namespace Cert.KernelIdeal.Value

open Idealize.ShloMosaic Idealize.ShloMosaic.Pipeline
open Cert.Spec
open Cert.KernelIdeal.Gen

theorem zz : (![0, 0] : Fin 2 → Nat) = fun _ => 0 := funext fun a => by fin_cases a <;> rfl

/-- What the blocks hold: the weights of `N`, the sixteen games `P`, and the ten tables. -/
structure Blocks (N : Net) (P : Fin 16 → Play) (x0 : Vec Ideal S192x128 .f32) (x1 : Vec Ideal S192x1536 .f32) (x2 : Vec Ideal S192x1 .i32) (x3 : Vec Ideal S128x256 .f32) (x4 : Vec Ideal S1x256 .f32) (x5 : Vec Ideal S256x256 .f32) (x6 : Vec Ideal S1x256 .f32) (x7 : Vec Ideal S384x256 .f32) (x8 : Vec Ideal S1x256 .f32) (x9 : Vec Ideal S256x512 .f32) (x10 : Vec Ideal S1x512 .f32) (x11 : Vec Ideal S768x256 .f32) (x12 : Vec Ideal S1x256 .f32) (x13 : Vec Ideal S256x256 .f32) (x14 : Vec Ideal S1x256 .f32) (x15 : Vec Ideal S256x4864 .f32) (x16 : Vec Ideal S1x4864 .f32) (x17 : Vec Ideal S19x256 .f32) (x18 : Vec Ideal S256x256 .f32) (x19 : Vec Ideal S1x256 .f32) (x20 : Vec Ideal S256x512 .f32) (x21 : Vec Ideal S1x512 .f32) (x22 : Vec Ideal S512x256 .f32) (x23 : Vec Ideal S1x256 .f32) (x24 : Vec Ideal S256x1 .f32) (x25 : Vec Ideal S1x1 .f32) (x26 : Vec Ideal S2304x192 .f32) (x27 : Vec Ideal S192x192 .f32) (x28 : Vec Ideal S192x192 .f32) (x29 : Vec Ideal S192x192 .f32) (x30 : Vec Ideal S192x192 .f32) (x31 : Vec Ideal S192x192 .f32) (x32 : Vec Ideal S16x192 .f32) (x33 : Vec Ideal S192x16 .f32) (x34 : Vec Ideal S19x4864 .f32) (x35 : Vec Ideal S192x1 .f32) : Prop where
  st : ∀ β i k, x0 (ix2 (row β i) k) = (P β).st i k
  rel : ∀ β (i j : Fin 12) (k : Fin 128), x1 (ix2 (row β i) ⟨j.val * 128 + k.val, by omega⟩) = (P β).rel i j k
  act : ∀ β i, x2 (ix2 (row β i) 0) = BitVec.ofNat 32 ((P β).act i).val
  seW1 : ∀ k c, x3 (ix2 k c) = N.seW1 k c
  seW2 : ∀ k c, x5 (ix2 k c) = N.seW2 k c
  reW1 : ∀ k c, x7 (ix2 k c) = N.reW1 k c
  reW2 : ∀ k c, x9 (ix2 k c) = N.reW2 k c
  raW : ∀ k c, x11 (ix2 k c) = N.raW k c
  aeW1 : ∀ k c, x13 (ix2 k c) = N.aeW1 k c
  aeW2 : ∀ k c, x15 (ix2 k c) = N.aeW2 k c
  aemb : ∀ k c, x17 (ix2 k c) = N.aemb k c
  deW1 : ∀ k c, x18 (ix2 k c) = N.deW1 k c
  deW2 : ∀ k c, x20 (ix2 k c) = N.deW2 k c
  leW1 : ∀ k c, x22 (ix2 k c) = N.leW1 k c
  seb1 : ∀ c, x4 (ix2 0 c) = N.seb1 c
  seb2 : ∀ c, x6 (ix2 0 c) = N.seb2 c
  reb1 : ∀ c, x8 (ix2 0 c) = N.reb1 c
  reb2 : ∀ c, x10 (ix2 0 c) = N.reb2 c
  rab : ∀ c, x12 (ix2 0 c) = N.rab c
  aeb1 : ∀ c, x14 (ix2 0 c) = N.aeb1 c
  aeb2 : ∀ c, x16 (ix2 0 c) = N.aeb2 c
  deb1 : ∀ c, x19 (ix2 0 c) = N.deb1 c
  deb2 : ∀ c, x21 (ix2 0 c) = N.deb2 c
  leb1 : ∀ c, x23 (ix2 0 c) = N.leb1 c
  leW2 : ∀ k, x24 (ix2 k 0) = N.leW2 k
  leb2 : x25 (ix2 0 0) = N.leb2
  big : ∀ j β i p, x26 (ix2 (rrow j β i) p) = if p = row β j then 1 else 0
  lower : ∀ β i β' j, x27 (ix2 (row β i) (row β' j)) = if β' = β ∧ j < i then 1 else 0
  ball : ∀ β i β' j, x28 (ix2 (row β i) (row β' j)) = if β' = β ∧ j = 11 then 1 else 0
  upper : ∀ β i β' j, x29 (ix2 (row β i) (row β' j)) = if β' = β ∧ (i < j ∧ j ≠ 11) then 1 else 0
  perm : ∀ β j p, x30 (ix2 (prow j β) p) = if p = row β j then 1 else 0
  back : ∀ β i q, x31 (ix2 (row β i) q) = if q = prow i β then 1 else 0
  sel : ∀ β p, x32 (ix2 β p) = if p = row β 11 then 1 else 0
  spread : ∀ β i t, x33 (ix2 (row β i) t) = if t = β then 1 else 0
  cols : ∀ a h b, x34 (ix2 a (blk b h)) = if a = b then 1 else 0
  mask : ∀ β (i : Fin 12), x35 (ix2 (row β i) 0) = if i.val = 11 then 1 else 0

variable {N : Net} {P : Fin 16 → Play}
variable {x0 : Vec Ideal S192x128 .f32} {x1 : Vec Ideal S192x1536 .f32} {x2 : Vec Ideal S192x1 .i32} {x3 : Vec Ideal S128x256 .f32} {x4 : Vec Ideal S1x256 .f32} {x5 : Vec Ideal S256x256 .f32} {x6 : Vec Ideal S1x256 .f32} {x7 : Vec Ideal S384x256 .f32} {x8 : Vec Ideal S1x256 .f32} {x9 : Vec Ideal S256x512 .f32} {x10 : Vec Ideal S1x512 .f32} {x11 : Vec Ideal S768x256 .f32} {x12 : Vec Ideal S1x256 .f32} {x13 : Vec Ideal S256x256 .f32} {x14 : Vec Ideal S1x256 .f32} {x15 : Vec Ideal S256x4864 .f32} {x16 : Vec Ideal S1x4864 .f32} {x17 : Vec Ideal S19x256 .f32} {x18 : Vec Ideal S256x256 .f32} {x19 : Vec Ideal S1x256 .f32} {x20 : Vec Ideal S256x512 .f32} {x21 : Vec Ideal S1x512 .f32} {x22 : Vec Ideal S512x256 .f32} {x23 : Vec Ideal S1x256 .f32} {x24 : Vec Ideal S256x1 .f32} {x25 : Vec Ideal S1x1 .f32} {x26 : Vec Ideal S2304x192 .f32} {x27 : Vec Ideal S192x192 .f32} {x28 : Vec Ideal S192x192 .f32} {x29 : Vec Ideal S192x192 .f32} {x30 : Vec Ideal S192x192 .f32} {x31 : Vec Ideal S192x192 .f32} {x32 : Vec Ideal S16x192 .f32} {x33 : Vec Ideal S192x16 .f32} {x34 : Vec Ideal S19x4864 .f32} {x35 : Vec Ideal S192x1 .f32}

theorem pay102_eq : k0_pay102 x0 = x0 := by
  unfold k0_pay102 k0_pay2
  dsimp only
  rw [View.ld_unit_zero zz, shapeCast_self]

theorem pay104_eq : k0_pay104 x2 = x2 := by
  unfold k0_pay104 k0_pay4
  dsimp only
  rw [View.ld_unit_zero zz, shapeCast_self]

theorem pay105_eq : k0_pay105 x4 = x4 := by
  unfold k0_pay105 k0_pay5
  dsimp only
  rw [View.ld_unit_zero zz, shapeCast_self]

theorem pay106_eq : k0_pay106 x6 = x6 := by
  unfold k0_pay106 k0_pay6
  dsimp only
  rw [View.ld_unit_zero zz, shapeCast_self]

theorem pay107_eq : k0_pay107 x12 = x12 := by
  unfold k0_pay107 k0_pay9
  dsimp only
  rw [View.ld_unit_zero zz, shapeCast_self]

theorem pay108_eq : k0_pay108 x14 = x14 := by
  unfold k0_pay108 k0_pay10
  dsimp only
  rw [View.ld_unit_zero zz, shapeCast_self]

theorem pay109_eq : k0_pay109 x16 = x16 := by
  unfold k0_pay109 k0_pay11
  dsimp only
  rw [View.ld_unit_zero zz, shapeCast_self]

theorem pay110_eq : k0_pay110 x17 = x17 := by
  unfold k0_pay110 k0_pay12
  dsimp only
  rw [View.ld_unit_zero zz, shapeCast_self]

theorem pay111_eq : k0_pay111 x19 = x19 := by
  unfold k0_pay111 k0_pay13
  dsimp only
  rw [View.ld_unit_zero zz, shapeCast_self]

theorem pay112_eq : k0_pay112 x21 = x21 := by
  unfold k0_pay112 k0_pay14
  dsimp only
  rw [View.ld_unit_zero zz, shapeCast_self]

theorem pay113_eq : k0_pay113 x27 = x27 := by
  unfold k0_pay113 k0_pay18
  dsimp only
  rw [View.ld_unit_zero zz, shapeCast_self]

theorem pay114_eq : k0_pay114 x28 = x28 := by
  unfold k0_pay114 k0_pay19
  dsimp only
  rw [View.ld_unit_zero zz, shapeCast_self]

theorem pay115_eq : k0_pay115 x30 = x30 := by
  unfold k0_pay115 k0_pay21
  dsimp only
  rw [View.ld_unit_zero zz, shapeCast_self]

theorem pay116_eq : k0_pay116 x32 = x32 := by
  unfold k0_pay116 k0_pay23
  dsimp only
  rw [View.ld_unit_zero zz, shapeCast_self]

theorem pay117_eq : k0_pay117 x33 = x33 := by
  unfold k0_pay117 k0_pay24
  dsimp only
  rw [View.ld_unit_zero zz, shapeCast_self]

theorem pay118_eq : k0_pay118 x34 = x34 := by
  unfold k0_pay118 k0_pay25
  dsimp only
  rw [View.ld_unit_zero zz, shapeCast_self]

theorem pay119_eq : k0_pay119 x35 = x35 := by
  unfold k0_pay119 k0_pay26
  dsimp only
  rw [View.ld_unit_zero zz, shapeCast_self]

theorem pay7_eq (v : Vec Ideal S1x256 .f32) : k0_pay7 v = v := by
  unfold k0_pay7
  dsimp only
  rw [shapeCast_self]

theorem pay8_eq (v : Vec Ideal S1x512 .f32) : k0_pay8 v = v := by
  unfold k0_pay8
  dsimp only
  rw [shapeCast_self]

theorem pay15_eq (v : Vec Ideal S1x256 .f32) : k0_pay15 v = v := by
  unfold k0_pay15
  dsimp only
  rw [shapeCast_self]

theorem pay16_eq (v : Vec Ideal S1x1 .f32) : k0_pay16 v = v := by
  unfold k0_pay16
  dsimp only
  rw [shapeCast_self]

theorem pay17_eq (v : Vec Ideal S2304x192 .f32) : k0_pay17 v = v := by
  unfold k0_pay17
  dsimp only
  rw [shapeCast_self]

theorem pay20_eq (v : Vec Ideal S192x192 .f32) : k0_pay20 v = v := by
  unfold k0_pay20
  dsimp only
  rw [shapeCast_self]

theorem pay22_eq (v : Vec Ideal S192x192 .f32) : k0_pay22 v = v := by
  unfold k0_pay22
  dsimp only
  rw [shapeCast_self]

theorem own_row (hst : ∀ β i k, x0 (ix2 (row β i) k) = (P β).st i k) (β : Fin 16) (i : Fin 12) :
    k0_pay103 x0 (ix2 (row β i) 0) = own (P β) i := by
  unfold k0_pay103
  rw [View.ld_unit_zero zz]
  pointwise [k0_pay3, k0_pay2]
  exact hst β i 4

theorem unmask_row (hm : ∀ β (i : Fin 12), x35 (ix2 (row β i) 0) = if i.val = 11 then 1 else 0) (β : Fin 16) (i : Fin 12) :
    k0_pay120 x35 (ix2 (row β i) 0) = if i.val = 11 then 0 else 1 := by
  unfold k0_pay120
  rw [View.ld_unit_zero zz]
  pointwise [k0_pay27, k0_pay26]
  have hm' := hm β i
  simp only [row] at hm'
  rw [hm']
  by_cases hi : i.val = 11
  · simp only [hi, if_true]
    exact EReal.sub_self (EReal.coe_ne_top 1) (EReal.coe_ne_bot 1)
  · simp [hi]

section
variable (H : Blocks N P x0 x1 x2 x3 x4 x5 x6 x7 x8 x9 x10 x11 x12 x13 x14 x15 x16 x17 x18 x19 x20 x21 x22 x23 x24 x25 x26 x27 x28 x29 x30 x31 x32 x33 x34 x35)
include H

theorem h121 (β : Fin 16) (i : Fin 12) (c : Fin 256) : k0_pay121 x0 x3 x4 x5 x6 (ix2 (row β i) c) = sse N (P β) i c := by
  unfold k0_pay121
  rw [pay102_eq, pay105_eq, pay106_eq, View.ld_unit_zero zz, View.ld_unit_zero zz]
  exact sse_row (H.st β) H.seW1 H.seb1 H.seW2 H.seb2 i c

theorem h122 (β : Fin 16) (i j : Fin 12) (c : Fin 512) :
    k0_pay30 (k0_pay122 x0 x1 x3 x4 x5 x6 x7 x8 x9 x10 x26) (Scalar.ofBits .f32 0x00000000#32) (ix2 (rrow j β i) c) = relation N (P β) i j c := by
  have hs := h121 H β
  unfold k0_pay121 at hs
  unfold k0_pay122
  rw [pay7_eq, pay8_eq, pay17_eq, View.ld_unit_zero zz (X := x1), View.ld_unit_zero zz (X := x7), View.ld_unit_zero zz (X := x8),
    View.ld_unit_zero zz (X := x9), View.ld_unit_zero zz (X := x10), View.ld_unit_zero zz (X := x26)]
  exact relation_row hs (H.rel β) (fun j i => H.big j β i) H.reW1 H.reb1 H.reW2 H.reb2 Ideal.ofBits_zero_f32 i j c

theorem h123 (β : Fin 16) (i : Fin 12) (c : Fin 256) :
    k0_pay123 x0 x1 x3 x4 x5 x6 x7 x8 x9 x10 x26 (ix2 (row β i) c) = ∑ j, relation N (P β) i j (lo c) := relSum_row (h122 H β) i c

theorem h124 (β : Fin 16) (i : Fin 12) (c : Fin 256) :
    k0_pay124 x0 x1 x3 x4 x5 x6 x7 x8 x9 x10 x26 (ix2 (row β i) c) = rmax N (P β) i c := relMax_row (h122 H β) i c

theorem h125 (β : Fin 16) (i : Fin 12) (c : Fin 256) : k0_pay125 x0 x1 x3 x4 x5 x6 x7 x8 x9 x10 x11 x12 x26 (ix2 (row β i) c) = st0 N (P β) i c := by
  unfold k0_pay125
  rw [pay107_eq, View.ld_unit_zero zz]
  exact state_row named_inv_n (h121 H β) (h123 H β) (h124 H β) H.raW H.rab i c

theorem h45 (β : Fin 16) (i : Fin 12) (e : Fin 4864) :
    k0_pay45 x11 x12 x13 x14 x15 x16 (k0_pay121 x0 x3 x4 x5 x6) (k0_pay123 x0 x1 x3 x4 x5 x6 x7 x8 x9 x10 x26) (k0_pay124 x0 x1 x3 x4 x5 x6 x7 x8 x9 x10 x26) (Named.named κ "inv_n" 0x3DAAAAAB#32) (ix2 (row β i) e)
      = ae N (st0 N (P β) i) e := by
  have hs := h125 H β
  unfold k0_pay125 at hs
  rw [pay107_eq, View.ld_unit_zero zz] at hs
  exact ae_row hs H.aeW1 H.aeb1 H.aeW2 H.aeb2 i e

theorem h126 (β : Fin 16) (i : Fin 12) (b : Fin 19) (h : Fin 256) :
    k0_pay47 (k0_pay103 x0) x2 x11 x12 x13 x14 x15 x16 x34 (k0_pay121 x0 x3 x4 x5 x6) (k0_pay123 x0 x1 x3 x4 x5 x6 x7 x8 x9 x10 x26) (k0_pay124 x0 x1 x3 x4 x5 x6 x7 x8 x9 x10 x26) (Named.named κ "inv_n" 0x3DAAAAAB#32)
      (ix2 (row β i) (blk b h)) = if b = (P β).act i then peg N (P β) i h else 0 :=
  acted_row (h45 H β) (hot_row (H.act β)) (own_row H.st β) H.cols i b h

theorem h50 (β : Fin 16) (i : Fin 12) (h : Fin 256) :
    k0_pay50 x27 x28 (k0_pay125 x0 x1 x3 x4 x5 x6 x7 x8 x9 x10 x11 x12 x26) (k0_pay126 x0 x1 x2 x3 x4 x5 x6 x7 x8 x9 x10 x11 x12 x13 x14 x15 x16 x26 x34) (k0_pay127 x0 x1 x2 x3 x4 x5 x6 x7 x8 x9 x10 x11 x12 x13 x14 x15 x16 x26 x34) (k0_pay128 x0 x1 x2 x3 x4 x5 x6 x7 x8 x9 x10 x11 x12 x13 x14 x15 x16 x26 x34) (ix2 (row β i) h)
      = ballAt N (P β) i.val h := by
  unfold k0_pay126 k0_pay127 k0_pay128
  rw [pay104_eq, pay107_eq, pay108_eq, pay109_eq, pay118_eq, View.ld_unit_zero zz (X := x11), View.ld_unit_zero zz (X := x13),
    View.ld_unit_zero zz (X := x15)]
  exact ball_row (h125 H β) (h126 H β) (H.lower β) (H.ball β) i h

theorem h51 (β : Fin 16) (h : Fin 256) :
    k0_pay51 x27 x28 x32 (k0_pay125 x0 x1 x3 x4 x5 x6 x7 x8 x9 x10 x11 x12 x26) (k0_pay126 x0 x1 x2 x3 x4 x5 x6 x7 x8 x9 x10 x11 x12 x13 x14 x15 x16 x26 x34) (k0_pay127 x0 x1 x2 x3 x4 x5 x6 x7 x8 x9 x10 x11 x12 x13 x14 x15 x16 x26 x34) (k0_pay128 x0 x1 x2 x3 x4 x5 x6 x7 x8 x9 x10 x11 x12 x13 x14 x15 x16 x26 x34) (ix2 β h)
      = ballAt N (P β) 11 h := ball_eleven (h50 H β) (H.sel β) h

theorem h130 (β : Fin 16) (i : Fin 12) (e : Fin 4864) :
    k0_pay130 x0 x1 x2 x3 x4 x5 x6 x7 x8 x9 x10 x11 x12 x13 x14 x15 x16 x26 x27 x28 x32 x33 x34 x35 (ix2 (row β i) e) = ae N (cur N (P β) i) e * own (P β) i := by
  unfold k0_pay130
  rw [pay107_eq, pay108_eq, pay109_eq, pay113_eq, pay114_eq, pay116_eq, pay117_eq, pay119_eq, View.ld_unit_zero zz (X := x11),
    View.ld_unit_zero zz (X := x13), View.ld_unit_zero zz (X := x15)]
  exact pass_row (h51 H β) (h45 H β) (own_row H.st β) H.aeW1 H.aeb1 H.aeW2 H.aeb2 (H.spread β) (H.mask β)
    (unmask_row H.mask β) i e

theorem h53 (β : Fin 16) (i : Fin 12) (h : Fin 256) :
    k0_pay53 x27 x28 x32 x33 x35 (k0_pay120 x35) (k0_pay125 x0 x1 x3 x4 x5 x6 x7 x8 x9 x10 x11 x12 x26) (k0_pay126 x0 x1 x2 x3 x4 x5 x6 x7 x8 x9 x10 x11 x12 x13 x14 x15 x16 x26 x34) (k0_pay127 x0 x1 x2 x3 x4 x5 x6 x7 x8 x9 x10 x11 x12 x13 x14 x15 x16 x26 x34) (k0_pay128 x0 x1 x2 x3 x4 x5 x6 x7 x8 x9 x10 x11 x12 x13 x14 x15 x16 x26 x34)
      (ix2 (row β i) h) = cur N (P β) i h :=
  cur_row (h51 H β) (h125 H β) (H.spread β) (H.mask β) (unmask_row H.mask β) i h

theorem h56 (β : Fin 16) (i : Fin 12) (c : Fin 512) :
    k0_pay56 x20 x21 (k0_pay131 x0 x1 x2 x3 x4 x5 x6 x7 x8 x9 x10 x11 x12 x17 x18 x19 x26) k0_pay129 (ix2 (row β i) c) = pre N (P β) i c := by
  unfold k0_pay131
  rw [pay110_eq, pay111_eq, View.ld_unit_zero zz]
  exact pre_row (h125 H β) H.deW1 H.deb1 H.deW2 H.deb2 rfl i c

theorem h57 (β : Fin 16) (i : Fin 12) (c : Fin 512) :
    k0_pay57 x20 x21 (k0_pay131 x0 x1 x2 x3 x4 x5 x6 x7 x8 x9 x10 x11 x12 x17 x18 x19 x26) k0_pay129 (ix2 (row β i) c) = post N (P β) i c := by
  unfold k0_pay131
  rw [pay104_eq, pay110_eq, pay111_eq, View.ld_unit_zero zz]
  exact post_row (h125 H β) (hot_row (H.act β)) H.aemb H.deW1 H.deb1 H.deW2 H.deb2 rfl i c

/-- **The output block**: the row of action `a` of agent `i` of game `β` is that action's logit. -/
theorem out_row (a : Fin 19) (β : Fin 16) (i : Fin 12) :
    out0_36 x0 x1 x2 x3 x4 x5 x6 x7 x8 x9 x10 x11 x12 x13 x14 x15 x16 x17 x18 x19 x20 x21 x22 x23 x24 x25 x26 x27 x28 x29 x30 x31 x32 x33 x34 x35 (ix2 (arow a β i) 0) = logit N (P β) i a := by
  unfold out0_36
  rw [View.canon_unit_zero zz, pay110_eq, pay111_eq, pay112_eq, pay113_eq, pay114_eq, pay115_eq, pay116_eq, pay117_eq,
    pay119_eq, pay15_eq, pay16_eq, pay20_eq, pay22_eq, View.ld_unit_zero zz (X := x18), View.ld_unit_zero zz (X := x20),
    View.ld_unit_zero zz (X := x22), View.ld_unit_zero zz (X := x23), View.ld_unit_zero zz (X := x24),
    View.ld_unit_zero zz (X := x25), View.ld_unit_zero zz (X := x29), View.ld_unit_zero zz (X := x31)]
  exact logit_row (h130 H β) (h50 H β)
    (active_row (h53 H β) H.aemb H.deW1 H.deb1 H.deW2 H.deb2)
    (others_sum_row (h56 H β) (h57 H β) (H.lower β) (H.upper β))
    (others_max_row (h56 H β) (h57 H β) (H.perm β) (H.back β))
    H.deW1 H.deb1 H.deW2 H.deb2 H.leW1 H.leb1 H.leW2 H.leb2 (unmask_row H.mask β)

end

end Cert.KernelIdeal.Value

end
-- ==== Proof.Tables.lean ====
/-
  The tables the host builds for the kernel: each is zeros and ones, made of counters by division, remainder and comparison.
  Entry by entry, which entries are one.
-/
module

public import proofs.«01_k».proof.Proof.KernelIdealRun
public import proofs.«01_k».proof.Proof.BlockOut
public import Idealize.ShloMosaic.Lib.StableHlo.RunRead
public import Idealize.ShloMosaic.Lib.Pointwise
public import Idealize.ShloMosaic.Lib.WordCmp

@[expose] public section

set_option maxRecDepth 16384

noncomputable section

namespace Cert.KernelIdeal.Value

open Idealize.ShloMosaic Idealize.ShloMosaic.TcCoe Idealize.ShloMosaic.Tactic Idealize.ShloMosaic.Pipeline
open Idealize.ShloMosaic.WordCmp
open Cert.Spec
open Cert.KernelIdeal.Gen

/-! Words that count. -/

/-- Dividing a small count. -/
theorem div_count (n d : ℕ) (hn : n < 2 ^ 31) (hd : 0 < d ∧ d < 2 ^ 31) :
    IntOp.divsi .host (BitVec.ofNat 32 n) (BitVec.ofNat 32 d) = BitVec.ofNat 32 (n / d) := by
  have en : (BitVec.ofNat 32 n).toNat = n := toNat_ofNat_of_lt (by omega)
  have ed : (BitVec.ofNat 32 d).toNat = d := toNat_ofNat_of_lt (by omega)
  have mn : (BitVec.ofNat 32 n).msb = false := by rw [BitVec.msb_eq_false_iff_two_mul_lt, en]; omega
  have md : (BitVec.ofNat 32 d).msb = false := by rw [BitVec.msb_eq_false_iff_two_mul_lt, ed]; omega
  have hc : ¬ IntOp.SDivCorner (BitVec.ofNat 32 n) (BitVec.ofNat 32 d) := by
    unfold IntOp.SDivCorner
    rintro (h | h)
    · have := congrArg BitVec.toNat h; rw [ed] at this; simp at this; omega
    · have := congrArg BitVec.toNat h.1; rw [en] at this; simp [BitVec.toNat_intMin] at this; omega
  unfold IntOp.divsi
  rw [if_neg hc, BitVec.sdiv_eq, mn, md]
  apply BitVec.eq_of_toNat_eq
  show ((BitVec.ofNat 32 n) / (BitVec.ofNat 32 d)).toNat = _
  rw [BitVec.toNat_udiv, en, ed, toNat_ofNat_of_lt (lt_of_le_of_lt (Nat.div_le_self n d) (by omega))]

/-- The remainder of a small count. -/
theorem rem_count (n d : ℕ) (hn : n < 2 ^ 31) (hd : 0 < d ∧ d < 2 ^ 31) :
    IntOp.remsi .host (BitVec.ofNat 32 n) (BitVec.ofNat 32 d) = BitVec.ofNat 32 (n % d) := by
  have en : (BitVec.ofNat 32 n).toNat = n := toNat_ofNat_of_lt (by omega)
  have ed : (BitVec.ofNat 32 d).toNat = d := toNat_ofNat_of_lt (by omega)
  have mn : (BitVec.ofNat 32 n).msb = false := by rw [BitVec.msb_eq_false_iff_two_mul_lt, en]; omega
  have md : (BitVec.ofNat 32 d).msb = false := by rw [BitVec.msb_eq_false_iff_two_mul_lt, ed]; omega
  have hc : ¬ IntOp.SDivCorner (BitVec.ofNat 32 n) (BitVec.ofNat 32 d) := by
    unfold IntOp.SDivCorner
    rintro (h | h)
    · have := congrArg BitVec.toNat h; rw [ed] at this; simp at this; omega
    · have := congrArg BitVec.toNat h.1; rw [en] at this; simp [BitVec.toNat_intMin] at this; omega
  unfold IntOp.remsi
  rw [if_neg hc, BitVec.srem_eq, mn, md]
  apply BitVec.eq_of_toNat_eq
  show ((BitVec.ofNat 32 n) % (BitVec.ofNat 32 d)).toNat = _
  rw [BitVec.toNat_umod, en, ed, toNat_ofNat_of_lt (lt_of_le_of_lt (Nat.mod_le n d) (by omega))]

theorem mul_count (a b : ℕ) : IntOp.muli (BitVec.ofNat 32 a) (BitVec.ofNat 32 b) = BitVec.ofNat 32 (a * b) :=
  (BitVec.ofNat_mul ..).symm
theorem add_count (a b : ℕ) : IntOp.addi (BitVec.ofNat 32 a) (BitVec.ofNat 32 b) = BitVec.ofNat 32 (a + b) :=
  (BitVec.ofNat_add ..).symm
theorem and_bit (p q : Bool) : IntOp.andi (BitVec.ofBool p) (BitVec.ofBool q) = BitVec.ofBool (p && q) := by
  cases p <;> cases q <;> rfl

/-- A decided bit as a number. -/
theorem bit_number (p : Bool) : (FloatOps.uitofp .f32 (BitVec.ofBool p) : Ideal .f32) = if p = true then (1 : EReal) else 0 := by
  cases p
  · show ((((BitVec.ofBool false).toNat : ℕ) : ℝ) : EReal) = _
    simp
  · show ((((BitVec.ofBool true).toNat : ℕ) : ℝ) : EReal) = _
    simp

/-! The tables. -/

variable (m : (ℓ : Loc nD τ sig) → Buf (Elt Ideal) ℓ) (c : Dev nD)

set_option maxHeartbeats 2000000 in
/-- Play `j`'s copy of each agent's row, read in order. -/
theorem V_v100 (β : Fin 16) (i j : Fin 12) (p : Fin 192) :
    (V m c main_call0_v100 : Vec Ideal S2304x192 .f32) (ix2 (rrow j β i) p) = if p = row β j then (1 : EReal) else 0 := by
  dsimp only [V, V0]
  simp only [hostOps0, hostOps0_1, List.flatten_cons, List.flatten_nil, List.append_nil, List.cons_append, List.nil_append]
  after_reads_simp
  simp only [StableHlo.TRef.ofBuf_toBuf]
  dsimp only [StableHlo.TRef.ofBuf, StableHlo.TRef.toBuf, cast_eq]
  pointwise
  simp (disch := omega) only [div_count, rem_count, mul_count, add_count, cmpi_eq_ofNat, cmpi_slt_ofNat, cmpi_sgt_ofNat, cmpi_sle_ofNat, and_bit, bit_number]
  simp only [Bool.and_eq_true, decide_eq_true_eq]
  refine if_congr ?_ rfl rfl
  try simp only [Fin.ext_iff, Fin.val_ofNat, ne_eq]
  omega

set_option maxHeartbeats 2000000 in
/-- The agents before, in the same game. -/
theorem V_v27 (β β' : Fin 16) (i j : Fin 12) :
    (V m c main_call0_v27 : Vec Ideal S192x192 .f32) (ix2 (row β i) (row β' j)) = if β' = β ∧ j < i then (1 : EReal) else 0 := by
  dsimp only [V, V0]
  simp only [hostOps0, hostOps0_1, List.flatten_cons, List.flatten_nil, List.append_nil, List.cons_append, List.nil_append]
  after_reads_simp
  simp only [StableHlo.TRef.ofBuf_toBuf]
  dsimp only [StableHlo.TRef.ofBuf, StableHlo.TRef.toBuf, cast_eq]
  pointwise
  simp (disch := omega) only [div_count, rem_count, mul_count, add_count, cmpi_eq_ofNat, cmpi_slt_ofNat, cmpi_sgt_ofNat, cmpi_sle_ofNat, and_bit, bit_number]
  simp only [Bool.and_eq_true, decide_eq_true_eq]
  refine if_congr ?_ rfl rfl
  try simp only [Fin.ext_iff, Fin.val_ofNat, ne_eq]
  omega

set_option maxHeartbeats 2000000 in
/-- The last agent, in the same game. -/
theorem V_v33 (β β' : Fin 16) (i j : Fin 12) :
    (V m c main_call0_v33 : Vec Ideal S192x192 .f32) (ix2 (row β i) (row β' j)) = if β' = β ∧ j = 11 then (1 : EReal) else 0 := by
  dsimp only [V, V0]
  simp only [hostOps0, hostOps0_1, List.flatten_cons, List.flatten_nil, List.append_nil, List.cons_append, List.nil_append]
  after_reads_simp
  simp only [StableHlo.TRef.ofBuf_toBuf]
  dsimp only [StableHlo.TRef.ofBuf, StableHlo.TRef.toBuf, cast_eq]
  pointwise
  simp (disch := omega) only [div_count, rem_count, mul_count, add_count, cmpi_eq_ofNat, cmpi_slt_ofNat, cmpi_sgt_ofNat, cmpi_sle_ofNat, and_bit, bit_number]
  simp only [Bool.and_eq_true, decide_eq_true_eq]
  refine if_congr ?_ rfl rfl
  try simp only [Fin.ext_iff, Fin.val_ofNat, ne_eq]
  omega

set_option maxHeartbeats 2000000 in
/-- The agents after but the last, in the same game. -/
theorem V_v45 (β β' : Fin 16) (i j : Fin 12) :
    (V m c main_call0_v45 : Vec Ideal S192x192 .f32) (ix2 (row β i) (row β' j)) = if β' = β ∧ (i < j ∧ j ≠ 11) then (1 : EReal) else 0 := by
  dsimp only [V, V0]
  simp only [hostOps0, hostOps0_1, List.flatten_cons, List.flatten_nil, List.append_nil, List.cons_append, List.nil_append]
  after_reads_simp
  simp only [StableHlo.TRef.ofBuf_toBuf]
  dsimp only [StableHlo.TRef.ofBuf, StableHlo.TRef.toBuf, cast_eq]
  pointwise
  simp (disch := omega) only [div_count, rem_count, mul_count, add_count, cmpi_eq_ofNat, cmpi_slt_ofNat, cmpi_sgt_ofNat, cmpi_sle_ofNat, and_bit, bit_number]
  simp only [Bool.and_eq_true, decide_eq_true_eq]
  refine if_congr ?_ rfl rfl
  try simp only [Fin.ext_iff, Fin.val_ofNat, ne_eq]
  omega

set_option maxHeartbeats 2000000 in
/-- From rows by game to rows by agent. -/
theorem V_v75 (β : Fin 16) (j : Fin 12) (p : Fin 192) :
    (V m c main_call0_v75 : Vec Ideal S192x192 .f32) (ix2 (prow j β) p) = if p = row β j then (1 : EReal) else 0 := by
  dsimp only [V, V0]
  simp only [hostOps0, hostOps0_1, List.flatten_cons, List.flatten_nil, List.append_nil, List.cons_append, List.nil_append]
  after_reads_simp
  simp only [StableHlo.TRef.ofBuf_toBuf]
  dsimp only [StableHlo.TRef.ofBuf, StableHlo.TRef.toBuf, cast_eq]
  pointwise
  simp (disch := omega) only [div_count, rem_count, mul_count, add_count, cmpi_eq_ofNat, cmpi_slt_ofNat, cmpi_sgt_ofNat, cmpi_sle_ofNat, and_bit, bit_number]
  simp only [Bool.and_eq_true, decide_eq_true_eq]
  refine if_congr ?_ rfl rfl
  try simp only [Fin.ext_iff, Fin.val_ofNat, ne_eq]
  omega

set_option maxHeartbeats 2000000 in
/-- From rows by agent to rows by game. -/
theorem V_v84 (β : Fin 16) (i : Fin 12) (q : Fin 192) :
    (V m c main_call0_v84 : Vec Ideal S192x192 .f32) (ix2 (row β i) q) = if q = prow i β then (1 : EReal) else 0 := by
  dsimp only [V, V0]
  simp only [hostOps0, hostOps0_1, List.flatten_cons, List.flatten_nil, List.append_nil, List.cons_append, List.nil_append]
  after_reads_simp
  simp only [StableHlo.TRef.ofBuf_toBuf]
  dsimp only [StableHlo.TRef.ofBuf, StableHlo.TRef.toBuf, cast_eq]
  pointwise
  simp (disch := omega) only [div_count, rem_count, mul_count, add_count, cmpi_eq_ofNat, cmpi_slt_ofNat, cmpi_sgt_ofNat, cmpi_sle_ofNat, and_bit, bit_number]
  simp only [Bool.and_eq_true, decide_eq_true_eq]
  refine if_congr ?_ rfl rfl
  try simp only [Fin.ext_iff, Fin.val_ofNat, ne_eq]
  omega

set_option maxHeartbeats 2000000 in
/-- The last agent of each game. -/
theorem V_v56 (β : Fin 16) (p : Fin 192) :
    (V m c main_call0_v56 : Vec Ideal S16x192 .f32) (ix2 β p) = if p = row β 11 then (1 : EReal) else 0 := by
  dsimp only [V, V0]
  simp only [hostOps0, hostOps0_1, List.flatten_cons, List.flatten_nil, List.append_nil, List.cons_append, List.nil_append]
  after_reads_simp
  simp only [StableHlo.TRef.ofBuf_toBuf]
  dsimp only [StableHlo.TRef.ofBuf, StableHlo.TRef.toBuf, cast_eq]
  pointwise
  simp (disch := omega) only [div_count, rem_count, mul_count, add_count, cmpi_eq_ofNat, cmpi_slt_ofNat, cmpi_sgt_ofNat, cmpi_sle_ofNat, and_bit, bit_number]
  simp only [Bool.and_eq_true, decide_eq_true_eq]
  refine if_congr ?_ rfl rfl
  try simp only [Fin.ext_iff, Fin.val_ofNat, ne_eq]
  omega

set_option maxHeartbeats 2000000 in
/-- A game's row for each of its agents. -/
theorem V_v62 (β t : Fin 16) (i : Fin 12) :
    (V m c main_call0_v62 : Vec Ideal S192x16 .f32) (ix2 (row β i) t) = if t = β then (1 : EReal) else 0 := by
  dsimp only [V, V0]
  simp only [hostOps0, hostOps0_1, List.flatten_cons, List.flatten_nil, List.append_nil, List.cons_append, List.nil_append]
  after_reads_simp
  simp only [StableHlo.TRef.ofBuf_toBuf]
  dsimp only [StableHlo.TRef.ofBuf, StableHlo.TRef.toBuf, cast_eq]
  pointwise
  simp (disch := omega) only [div_count, rem_count, mul_count, add_count, cmpi_eq_ofNat, cmpi_slt_ofNat, cmpi_sgt_ofNat, cmpi_sle_ofNat, and_bit, bit_number]
  simp only [Bool.and_eq_true, decide_eq_true_eq]
  refine if_congr ?_ rfl rfl
  try simp only [Fin.ext_iff, Fin.val_ofNat, ne_eq]
  omega

set_option maxHeartbeats 2000000 in
/-- Each action's columns. -/
theorem V_v110 (a b : Fin 19) (h : Fin 256) :
    (V m c main_call0_v110 : Vec Ideal S19x4864 .f32) (ix2 a (blk b h)) = if a = b then (1 : EReal) else 0 := by
  dsimp only [V, V0]
  simp only [hostOps0, hostOps0_1, List.flatten_cons, List.flatten_nil, List.append_nil, List.cons_append, List.nil_append]
  after_reads_simp
  simp only [StableHlo.TRef.ofBuf_toBuf]
  dsimp only [StableHlo.TRef.ofBuf, StableHlo.TRef.toBuf, cast_eq]
  pointwise
  simp (disch := omega) only [div_count, rem_count, mul_count, add_count, cmpi_eq_ofNat, cmpi_slt_ofNat, cmpi_sgt_ofNat, cmpi_sle_ofNat, and_bit, bit_number]
  simp only [Bool.and_eq_true, decide_eq_true_eq]
  refine if_congr ?_ rfl rfl
  try simp only [Fin.ext_iff, Fin.val_ofNat, ne_eq]
  omega

set_option maxHeartbeats 2000000 in
/-- The last agent. -/
theorem V_v114 (β : Fin 16) (i : Fin 12) :
    (V m c main_call0_v114 : Vec Ideal S192x1 .f32) (ix2 (row β i) 0) = if i.val = 11 then (1 : EReal) else 0 := by
  dsimp only [V, V0]
  simp only [hostOps0, hostOps0_1, List.flatten_cons, List.flatten_nil, List.append_nil, List.cons_append, List.nil_append]
  after_reads_simp
  simp only [StableHlo.TRef.ofBuf_toBuf]
  dsimp only [StableHlo.TRef.ofBuf, StableHlo.TRef.toBuf, cast_eq]
  pointwise
  simp (disch := omega) only [div_count, rem_count, mul_count, add_count, cmpi_eq_ofNat, cmpi_slt_ofNat, cmpi_sgt_ofNat, cmpi_sle_ofNat, and_bit, bit_number]
  simp only [Bool.and_eq_true, decide_eq_true_eq]
  refine if_congr ?_ rfl rfl
  try simp only [Fin.ext_iff, Fin.val_ofNat, ne_eq]
  omega

end Cert.KernelIdeal.Value
-- ==== Proof.Args.lean ====
/-
  The weights and the games as the programs' arguments give them.
-/
module

public import proofs.«01_k».proof.Proof.Spec
public import Idealize.ShloMosaic.Lib.Pointwise

@[expose] public section

noncomputable section

namespace Cert.Spec

open Idealize.ShloMosaic

/-- The weights, out of the arguments that hold them. -/
def netOf (a5 : Vec Ideal ⟨2, ![128, 256]⟩ .f32) (a6 : Vec Ideal ⟨1, ![256]⟩ .f32) (a7 : Vec Ideal ⟨2, ![256, 256]⟩ .f32) (a8 : Vec Ideal ⟨1, ![256]⟩ .f32) (a9 : Vec Ideal ⟨2, ![384, 256]⟩ .f32) (a10 : Vec Ideal ⟨1, ![256]⟩ .f32) (a11 : Vec Ideal ⟨2, ![256, 512]⟩ .f32) (a12 : Vec Ideal ⟨1, ![512]⟩ .f32) (a13 : Vec Ideal ⟨2, ![768, 256]⟩ .f32) (a14 : Vec Ideal ⟨1, ![256]⟩ .f32) (a15 : Vec Ideal ⟨2, ![256, 256]⟩ .f32) (a16 : Vec Ideal ⟨1, ![256]⟩ .f32) (a17 : Vec Ideal ⟨2, ![256, 4864]⟩ .f32) (a18 : Vec Ideal ⟨1, ![4864]⟩ .f32) (a19 : Vec Ideal ⟨4, ![1, 1, 19, 256]⟩ .f32) (a20 : Vec Ideal ⟨2, ![256, 256]⟩ .f32) (a21 : Vec Ideal ⟨1, ![256]⟩ .f32) (a22 : Vec Ideal ⟨2, ![256, 512]⟩ .f32) (a23 : Vec Ideal ⟨1, ![512]⟩ .f32) (a24 : Vec Ideal ⟨2, ![512, 256]⟩ .f32) (a25 : Vec Ideal ⟨1, ![256]⟩ .f32) (a26 : Vec Ideal ⟨2, ![256, 1]⟩ .f32) (a27 : Vec Ideal ⟨1, ![1]⟩ .f32) : Net where
  seW1 := fun k h => a5 (ix2 k h)
  seb1 := fun h => a6 (ix1 h)
  seW2 := fun k h => a7 (ix2 k h)
  seb2 := fun h => a8 (ix1 h)
  reW1 := fun k h => a9 (ix2 k h)
  reb1 := fun h => a10 (ix1 h)
  reW2 := fun k h => a11 (ix2 k h)
  reb2 := fun h => a12 (ix1 h)
  raW := fun k h => a13 (ix2 k h)
  rab := fun h => a14 (ix1 h)
  aeW1 := fun k h => a15 (ix2 k h)
  aeb1 := fun h => a16 (ix1 h)
  aeW2 := fun k h => a17 (ix2 k h)
  aeb2 := fun h => a18 (ix1 h)
  aemb := fun a h => a19 (ix4 0 0 a h)
  deW1 := fun k h => a20 (ix2 k h)
  deb1 := fun h => a21 (ix1 h)
  deW2 := fun k h => a22 (ix2 k h)
  deb2 := fun h => a23 (ix1 h)
  leW1 := fun k h => a24 (ix2 k h)
  leb1 := fun h => a25 (ix1 h)
  leW2 := fun k => a26 (ix2 k 0)
  leb2 := a27 (ix1 0)

/-- Game `b`, out of the agents' states, the relations and the actions. -/
def playOf (a0 : Vec Ideal ⟨3, ![64, 12, 128]⟩ .f32) (a1 : Vec Ideal ⟨4, ![64, 12, 12, 128]⟩ .f32) (a4 : Vec Ideal ⟨2, ![64, 12]⟩ .i32) (b : Fin 64) : Play where
  st i k := a0 (ix3 b i k)
  rel i j k := a1 (ix4 b i j k)
  act i := ⟨(a4 (ix2 b i) : BitVec 32).toNat % 19, Nat.mod_lt _ (by norm_num)⟩

/-- An action in range is the word of its number. -/
theorem act_word (a0 : Vec Ideal ⟨3, ![64, 12, 128]⟩ .f32) (a1 : Vec Ideal ⟨4, ![64, 12, 12, 128]⟩ .f32) (a4 : Vec Ideal ⟨2, ![64, 12]⟩ .i32) (b : Fin 64) (i : Fin 12)
    (h : (a4 (ix2 b i) : BitVec 32).toNat < 19) : (a4 (ix2 b i) : BitVec 32) = BitVec.ofNat 32 ((playOf a0 a1 a4 b).act i).val := by
  show _ = BitVec.ofNat 32 ((a4 (ix2 b i) : BitVec 32).toNat % 19)
  rw [Nat.mod_eq_of_lt h, BitVec.ofNat_toNat, BitVec.setWidth_eq]

end Cert.Spec

end
-- ==== Proof.KernelArgs.lean ====
/-
  The arguments of the kernel's run: the weights and games they hold, and the host's rearrangements of them.
-/
module

public import proofs.«01_k».proof.Proof.Tables
public import proofs.«01_k».proof.Proof.Args

@[expose] public section

set_option maxRecDepth 16384

noncomputable section

namespace Cert.KernelIdeal.Value

open Idealize.ShloMosaic Idealize.ShloMosaic.TcCoe Idealize.ShloMosaic.Tactic Idealize.ShloMosaic.Pipeline
open Idealize.SL.Sem
open Cert.Spec
open Cert.KernelIdeal.Gen

variable (m : (ℓ : Loc nD τ sig) → Buf (Elt Ideal) ℓ) (ρ : Dev nD → PrngReg) (c : Dev nD)

/-- Argument `r`, as the run finds it. -/
abbrev arg (r : Ref sig .tc) : Buf (Elt Ideal) ((c : Thread nD τ).loc r) := m ((c : Thread nD τ).loc r)

/-- The weights of a run. -/
abbrev net : Net := netOf (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25) (arg m c main_arg26) (arg m c main_arg27)

/-- Game `b` of a run. -/
abbrev play (b : Fin 64) : Play := playOf (arg m c main_arg0) (arg m c main_arg1) (arg m c main_arg4) b

/-! The arguments as the kernel takes them: rearranged, row by row. -/

theorem V_states (b : Fin 64) (i : Fin 12) (k : Fin 128) :
    (V m c main_v0 : Vec Ideal S768x128 .f32) (ix2 ⟨b.val * 12 + i.val, by omega⟩ k) = (arg m c main_arg0 : Vec Ideal S64x12x128 .f32) (ix3 b i k) := by
  dsimp only [V, V0]
  simp only [hostOps0, hostOps0_1, List.flatten_cons, List.flatten_nil, List.append_nil, List.cons_append, List.nil_append]
  after_reads_simp
  pointwise

theorem V_relations (b : Fin 64) (i j : Fin 12) (k : Fin 128) :
    (V m c main_v1 : Vec Ideal S768x1536 .f32) (ix2 ⟨b.val * 12 + i.val, by omega⟩ ⟨j.val * 128 + k.val, by omega⟩) = (arg m c main_arg1 : Vec Ideal S64x12x12x128 .f32) (ix4 b i j k) := by
  dsimp only [V, V0]
  simp only [hostOps0, hostOps0_1, List.flatten_cons, List.flatten_nil, List.append_nil, List.cons_append, List.nil_append]
  after_reads_simp
  pointwise

theorem V_actions (b : Fin 64) (i : Fin 12) :
    (V m c main_v2 : Vec Ideal S768x1 .i32) (ix2 ⟨b.val * 12 + i.val, by omega⟩ 0) = (arg m c main_arg4 : Vec Ideal S64x12 .i32) (ix2 b i) := by
  dsimp only [V, V0]
  simp only [hostOps0, hostOps0_1, List.flatten_cons, List.flatten_nil, List.append_nil, List.cons_append, List.nil_append]
  after_reads_simp
  pointwise

theorem V_embeddings (a : Fin 19) (h : Fin 256) :
    (V m c main_v3 : Vec Ideal S19x256 .f32) (ix2 a h) = (arg m c main_arg19 : Vec Ideal S1x1x19x256 .f32) (ix4 0 0 a h) := by
  dsimp only [V, V0]
  simp only [hostOps0, hostOps0_1, List.flatten_cons, List.flatten_nil, List.append_nil, List.cons_append, List.nil_append]
  after_reads_simp
  pointwise

theorem V_v0 (h : Fin 256) : (V m c main_call0_v0 : Vec Ideal S1x256 .f32) (ix2 0 h) = (arg m c main_arg6 : Vec Ideal S256 .f32) (ix1 h) := by
  dsimp only [V, V0]
  simp only [hostOps0, hostOps0_1, List.flatten_cons, List.flatten_nil, List.append_nil, List.cons_append, List.nil_append]
  after_reads_simp
  pointwise

theorem V_v1 (h : Fin 256) : (V m c main_call0_v1 : Vec Ideal S1x256 .f32) (ix2 0 h) = (arg m c main_arg8 : Vec Ideal S256 .f32) (ix1 h) := by
  dsimp only [V, V0]
  simp only [hostOps0, hostOps0_1, List.flatten_cons, List.flatten_nil, List.append_nil, List.cons_append, List.nil_append]
  after_reads_simp
  pointwise

theorem V_v2 (h : Fin 256) : (V m c main_call0_v2 : Vec Ideal S1x256 .f32) (ix2 0 h) = (arg m c main_arg10 : Vec Ideal S256 .f32) (ix1 h) := by
  dsimp only [V, V0]
  simp only [hostOps0, hostOps0_1, List.flatten_cons, List.flatten_nil, List.append_nil, List.cons_append, List.nil_append]
  after_reads_simp
  pointwise

theorem V_v3 (h : Fin 512) : (V m c main_call0_v3 : Vec Ideal S1x512 .f32) (ix2 0 h) = (arg m c main_arg12 : Vec Ideal S512 .f32) (ix1 h) := by
  dsimp only [V, V0]
  simp only [hostOps0, hostOps0_1, List.flatten_cons, List.flatten_nil, List.append_nil, List.cons_append, List.nil_append]
  after_reads_simp
  pointwise

theorem V_v4 (h : Fin 256) : (V m c main_call0_v4 : Vec Ideal S1x256 .f32) (ix2 0 h) = (arg m c main_arg14 : Vec Ideal S256 .f32) (ix1 h) := by
  dsimp only [V, V0]
  simp only [hostOps0, hostOps0_1, List.flatten_cons, List.flatten_nil, List.append_nil, List.cons_append, List.nil_append]
  after_reads_simp
  pointwise

theorem V_v5 (h : Fin 256) : (V m c main_call0_v5 : Vec Ideal S1x256 .f32) (ix2 0 h) = (arg m c main_arg16 : Vec Ideal S256 .f32) (ix1 h) := by
  dsimp only [V, V0]
  simp only [hostOps0, hostOps0_1, List.flatten_cons, List.flatten_nil, List.append_nil, List.cons_append, List.nil_append]
  after_reads_simp
  pointwise

theorem V_v6 (h : Fin 4864) : (V m c main_call0_v6 : Vec Ideal S1x4864 .f32) (ix2 0 h) = (arg m c main_arg18 : Vec Ideal S4864 .f32) (ix1 h) := by
  dsimp only [V, V0]
  simp only [hostOps0, hostOps0_1, List.flatten_cons, List.flatten_nil, List.append_nil, List.cons_append, List.nil_append]
  after_reads_simp
  pointwise

theorem V_v7 (h : Fin 256) : (V m c main_call0_v7 : Vec Ideal S1x256 .f32) (ix2 0 h) = (arg m c main_arg21 : Vec Ideal S256 .f32) (ix1 h) := by
  dsimp only [V, V0]
  simp only [hostOps0, hostOps0_1, List.flatten_cons, List.flatten_nil, List.append_nil, List.cons_append, List.nil_append]
  after_reads_simp
  pointwise

theorem V_v8 (h : Fin 512) : (V m c main_call0_v8 : Vec Ideal S1x512 .f32) (ix2 0 h) = (arg m c main_arg23 : Vec Ideal S512 .f32) (ix1 h) := by
  dsimp only [V, V0]
  simp only [hostOps0, hostOps0_1, List.flatten_cons, List.flatten_nil, List.append_nil, List.cons_append, List.nil_append]
  after_reads_simp
  pointwise

theorem V_v9 (h : Fin 256) : (V m c main_call0_v9 : Vec Ideal S1x256 .f32) (ix2 0 h) = (arg m c main_arg25 : Vec Ideal S256 .f32) (ix1 h) := by
  dsimp only [V, V0]
  simp only [hostOps0, hostOps0_1, List.flatten_cons, List.flatten_nil, List.append_nil, List.cons_append, List.nil_append]
  after_reads_simp
  pointwise

theorem V_v10 (h : Fin 1) : (V m c main_call0_v10 : Vec Ideal S1x1 .f32) (ix2 0 h) = (arg m c main_arg27 : Vec Ideal S1 .f32) (ix1 h) := by
  obtain rfl : h = 0 := Subsingleton.elim _ _
  dsimp only [V, V0]
  simp only [hostOps0, hostOps0_1, List.flatten_cons, List.flatten_nil, List.append_nil, List.cons_append, List.nil_append]
  after_reads_simp
  pointwise

end Cert.KernelIdeal.Value

end
-- ==== Proof.KernelBlocks.lean ====
/-
  The blocks each grid point of the kernel reads, out of the arguments.
-/
module

public import proofs.«01_k».proof.Proof.KernelArgs

@[expose] public section

set_option maxRecDepth 16384

noncomputable section

namespace Cert.KernelIdeal.Value

open Idealize.ShloMosaic Idealize.ShloMosaic.TcCoe Idealize.ShloMosaic.Tactic Idealize.ShloMosaic.Pipeline
open Idealize.SL.Sem
open Cert.Spec
open Cert.KernelIdeal.Gen

variable (m : (ℓ : Loc nD τ sig) → Buf (Elt Ideal) ℓ) (ρ : Dev nD → PrngReg) (c : Dev nD)

/-! The blocks. -/

/-! Which block of its array each window reads at each point: three of them the point's own, every other the whole array. -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![0, 0] := (by decide +kernel : ∀ t : Fin grid0.N, _)
theorem idx19 : ∀ t : Fin cfg0.N, win0_19.index t = ![0, 0] := (by decide +kernel : ∀ t : Fin grid0.N, _)
theorem idx20 : ∀ t : Fin cfg0.N, win0_20.index t = ![0, 0] := (by decide +kernel : ∀ t : Fin grid0.N, _)
theorem idx21 : ∀ t : Fin cfg0.N, win0_21.index t = ![0, 0] := (by decide +kernel : ∀ t : Fin grid0.N, _)
theorem idx22 : ∀ t : Fin cfg0.N, win0_22.index t = ![0, 0] := (by decide +kernel : ∀ t : Fin grid0.N, _)
theorem idx23 : ∀ t : Fin cfg0.N, win0_23.index t = ![0, 0] := (by decide +kernel : ∀ t : Fin grid0.N, _)
theorem idx24 : ∀ t : Fin cfg0.N, win0_24.index t = ![0, 0] := (by decide +kernel : ∀ t : Fin grid0.N, _)
theorem idx25 : ∀ t : Fin cfg0.N, win0_25.index t = ![0, 0] := (by decide +kernel : ∀ t : Fin grid0.N, _)
theorem idx26 : ∀ t : Fin cfg0.N, win0_26.index t = ![0, 0] := (by decide +kernel : ∀ t : Fin grid0.N, _)
theorem idx27 : ∀ t : Fin cfg0.N, win0_27.index t = ![0, 0] := (by decide +kernel : ∀ t : Fin grid0.N, _)
theorem idx28 : ∀ t : Fin cfg0.N, win0_28.index t = ![0, 0] := (by decide +kernel : ∀ t : Fin grid0.N, _)
theorem idx29 : ∀ t : Fin cfg0.N, win0_29.index t = ![0, 0] := (by decide +kernel : ∀ t : Fin grid0.N, _)
theorem idx30 : ∀ t : Fin cfg0.N, win0_30.index t = ![0, 0] := (by decide +kernel : ∀ t : Fin grid0.N, _)
theorem idx31 : ∀ t : Fin cfg0.N, win0_31.index t = ![0, 0] := (by decide +kernel : ∀ t : Fin grid0.N, _)
theorem idx32 : ∀ t : Fin cfg0.N, win0_32.index t = ![0, 0] := (by decide +kernel : ∀ t : Fin grid0.N, _)
theorem idx33 : ∀ t : Fin cfg0.N, win0_33.index t = ![0, 0] := (by decide +kernel : ∀ t : Fin grid0.N, _)
theorem idx34 : ∀ t : Fin cfg0.N, win0_34.index t = ![0, 0] := (by decide +kernel : ∀ t : Fin grid0.N, _)
theorem idx35 : ∀ t : Fin cfg0.N, win0_35.index t = ![0, 0] := (by decide +kernel : ∀ t : Fin grid0.N, _)
theorem idx36 : ∀ t : Fin cfg0.N, win0_36.index t = ![t.val, 0] := (by decide +kernel : ∀ t : Fin grid0.N, _)

theorem point_lt (t : Fin cfg0.N) : t.val < 4 := lt_of_lt_of_le t.isLt (by decide)

/-- Game `β` of the sixteen that point `t` reads. -/
abbrev game (t : Fin cfg0.N) (β : Fin 16) : Fin 64 := ⟨t.val * 16 + β.val, by have := point_lt t; omega⟩

theorem blk_states (t : Fin cfg0.N) (β : Fin 16) (i : Fin 12) (k : Fin 128) : (iblk m c 0 t : Vec Ideal S192x128 .f32) (ix2 (row β i) k)
    = (V m c main_v0 : Vec Ideal S768x128 .f32) (ix2 ⟨(game t β).val * 12 + i.val, by omega⟩ k) := by
  blk_ext [iblk, idx0 t]

theorem blk_relations (t : Fin cfg0.N) (β : Fin 16) (i : Fin 12) (k : Fin 1536) : (iblk m c 1 t : Vec Ideal S192x1536 .f32) (ix2 (row β i) k)
    = (V m c main_v1 : Vec Ideal S768x1536 .f32) (ix2 ⟨(game t β).val * 12 + i.val, by omega⟩ k) := by
  blk_ext [iblk, idx1 t]

theorem blk_actions (t : Fin cfg0.N) (β : Fin 16) (i : Fin 12) : (iblk m c 2 t : Vec Ideal S192x1 .i32) (ix2 (row β i) 0)
    = (V m c main_v2 : Vec Ideal S768x1 .i32) (ix2 ⟨(game t β).val * 12 + i.val, by omega⟩ 0) := by
  blk_ext [iblk, idx2 t]

set_option maxHeartbeats 1600000 in
theorem blk3 (t : Fin cfg0.N) : (iblk m c 3 t : Vec Ideal S128x256 .f32) = V m c main_arg5 := by
  blk_ext! [iblk, idx3 t]
set_option maxHeartbeats 1600000 in
theorem blk4 (t : Fin cfg0.N) : (iblk m c 4 t : Vec Ideal S1x256 .f32) = V m c main_call0_v0 := by
  blk_ext! [iblk, idx4 t]
set_option maxHeartbeats 1600000 in
theorem blk5 (t : Fin cfg0.N) : (iblk m c 5 t : Vec Ideal S256x256 .f32) = V m c main_arg7 := by
  blk_ext! [iblk, idx5 t]
set_option maxHeartbeats 1600000 in
theorem blk6 (t : Fin cfg0.N) : (iblk m c 6 t : Vec Ideal S1x256 .f32) = V m c main_call0_v1 := by
  blk_ext! [iblk, idx6 t]
set_option maxHeartbeats 1600000 in
theorem blk7 (t : Fin cfg0.N) : (iblk m c 7 t : Vec Ideal S384x256 .f32) = V m c main_arg9 := by
  blk_ext! [iblk, idx7 t]
set_option maxHeartbeats 1600000 in
theorem blk8 (t : Fin cfg0.N) : (iblk m c 8 t : Vec Ideal S1x256 .f32) = V m c main_call0_v2 := by
  blk_ext! [iblk, idx8 t]
set_option maxHeartbeats 1600000 in
theorem blk9 (t : Fin cfg0.N) : (iblk m c 9 t : Vec Ideal S256x512 .f32) = V m c main_arg11 := by
  blk_ext! [iblk, idx9 t]
set_option maxHeartbeats 1600000 in
theorem blk10 (t : Fin cfg0.N) : (iblk m c 10 t : Vec Ideal S1x512 .f32) = V m c main_call0_v3 := by
  blk_ext! [iblk, idx10 t]
set_option maxHeartbeats 1600000 in
theorem blk11 (t : Fin cfg0.N) : (iblk m c 11 t : Vec Ideal S768x256 .f32) = V m c main_arg13 := by
  blk_ext! [iblk, idx11 t]
set_option maxHeartbeats 1600000 in
theorem blk12 (t : Fin cfg0.N) : (iblk m c 12 t : Vec Ideal S1x256 .f32) = V m c main_call0_v4 := by
  blk_ext! [iblk, idx12 t]
set_option maxHeartbeats 1600000 in
theorem blk13 (t : Fin cfg0.N) : (iblk m c 13 t : Vec Ideal S256x256 .f32) = V m c main_arg15 := by
  blk_ext! [iblk, idx13 t]
set_option maxHeartbeats 1600000 in
theorem blk14 (t : Fin cfg0.N) : (iblk m c 14 t : Vec Ideal S1x256 .f32) = V m c main_call0_v5 := by
  blk_ext! [iblk, idx14 t]
set_option maxHeartbeats 1600000 in
theorem blk15 (t : Fin cfg0.N) : (iblk m c 15 t : Vec Ideal S256x4864 .f32) = V m c main_arg17 := by
  blk_ext! [iblk, idx15 t]
set_option maxHeartbeats 1600000 in
theorem blk16 (t : Fin cfg0.N) : (iblk m c 16 t : Vec Ideal S1x4864 .f32) = V m c main_call0_v6 := by
  blk_ext! [iblk, idx16 t]
set_option maxHeartbeats 1600000 in
theorem blk17 (t : Fin cfg0.N) : (iblk m c 17 t : Vec Ideal S19x256 .f32) = V m c main_v3 := by
  blk_ext! [iblk, idx17 t]
set_option maxHeartbeats 1600000 in
theorem blk18 (t : Fin cfg0.N) : (iblk m c 18 t : Vec Ideal S256x256 .f32) = V m c main_arg20 := by
  blk_ext! [iblk, idx18 t]
set_option maxHeartbeats 1600000 in
theorem blk19 (t : Fin cfg0.N) : (iblk m c 19 t : Vec Ideal S1x256 .f32) = V m c main_call0_v7 := by
  blk_ext! [iblk, idx19 t]
set_option maxHeartbeats 1600000 in
theorem blk20 (t : Fin cfg0.N) : (iblk m c 20 t : Vec Ideal S256x512 .f32) = V m c main_arg22 := by
  blk_ext! [iblk, idx20 t]
set_option maxHeartbeats 1600000 in
theorem blk21 (t : Fin cfg0.N) : (iblk m c 21 t : Vec Ideal S1x512 .f32) = V m c main_call0_v8 := by
  blk_ext! [iblk, idx21 t]
set_option maxHeartbeats 1600000 in
theorem blk22 (t : Fin cfg0.N) : (iblk m c 22 t : Vec Ideal S512x256 .f32) = V m c main_arg24 := by
  blk_ext! [iblk, idx22 t]
set_option maxHeartbeats 1600000 in
theorem blk23 (t : Fin cfg0.N) : (iblk m c 23 t : Vec Ideal S1x256 .f32) = V m c main_call0_v9 := by
  blk_ext! [iblk, idx23 t]
set_option maxHeartbeats 1600000 in
theorem blk24 (t : Fin cfg0.N) : (iblk m c 24 t : Vec Ideal S256x1 .f32) = V m c main_arg26 := by
  blk_ext! [iblk, idx24 t]
set_option maxHeartbeats 1600000 in
theorem blk25 (t : Fin cfg0.N) : (iblk m c 25 t : Vec Ideal S1x1 .f32) = V m c main_call0_v10 := by
  blk_ext! [iblk, idx25 t]
set_option maxHeartbeats 1600000 in
theorem blk26 (t : Fin cfg0.N) : (iblk m c 26 t : Vec Ideal S2304x192 .f32) = V m c main_call0_v100 := by
  blk_ext! [iblk, idx26 t]
set_option maxHeartbeats 1600000 in
theorem blk27 (t : Fin cfg0.N) : (iblk m c 27 t : Vec Ideal S192x192 .f32) = V m c main_call0_v27 := by
  blk_ext! [iblk, idx27 t]
set_option maxHeartbeats 1600000 in
theorem blk28 (t : Fin cfg0.N) : (iblk m c 28 t : Vec Ideal S192x192 .f32) = V m c main_call0_v33 := by
  blk_ext! [iblk, idx28 t]
set_option maxHeartbeats 1600000 in
theorem blk29 (t : Fin cfg0.N) : (iblk m c 29 t : Vec Ideal S192x192 .f32) = V m c main_call0_v45 := by
  blk_ext! [iblk, idx29 t]
set_option maxHeartbeats 1600000 in
theorem blk30 (t : Fin cfg0.N) : (iblk m c 30 t : Vec Ideal S192x192 .f32) = V m c main_call0_v75 := by
  blk_ext! [iblk, idx30 t]
set_option maxHeartbeats 1600000 in
theorem blk31 (t : Fin cfg0.N) : (iblk m c 31 t : Vec Ideal S192x192 .f32) = V m c main_call0_v84 := by
  blk_ext! [iblk, idx31 t]
set_option maxHeartbeats 1600000 in
theorem blk32 (t : Fin cfg0.N) : (iblk m c 32 t : Vec Ideal S16x192 .f32) = V m c main_call0_v56 := by
  blk_ext! [iblk, idx32 t]
set_option maxHeartbeats 1600000 in
theorem blk33 (t : Fin cfg0.N) : (iblk m c 33 t : Vec Ideal S192x16 .f32) = V m c main_call0_v62 := by
  blk_ext! [iblk, idx33 t]
set_option maxHeartbeats 1600000 in
theorem blk34 (t : Fin cfg0.N) : (iblk m c 34 t : Vec Ideal S19x4864 .f32) = V m c main_call0_v110 := by
  blk_ext! [iblk, idx34 t]
set_option maxHeartbeats 1600000 in
theorem blk35 (t : Fin cfg0.N) : (iblk m c 35 t : Vec Ideal S192x1 .f32) = V m c main_call0_v114 := by
  blk_ext! [iblk, idx35 t]

/-- **What the blocks hold** at point `t`. -/
theorem blocks (hact : ∀ b i, ((arg m c main_arg4 : Vec Ideal S64x12 .i32) (ix2 b i) : BitVec 32).toNat < 19) (t : Fin cfg0.N) :
    Blocks (net m c) (fun β => play m c (game t β)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) where
  st := fun β i k => (blk_states m c t β i k).trans (V_states m c (game t β) i k)
  rel := fun β i j k => (blk_relations m c t β i _).trans (V_relations m c (game t β) i j k)
  act := fun β i => ((blk_actions m c t β i).trans (V_actions m c (game t β) i)).trans (act_word _ _ _ _ _ (hact _ _))
  seW1 := fun k h => congrFun ((blk3 m c t).trans (V_input m c main_arg5 (by decide))) _
  seb1 := fun h => (congrFun (blk4 m c t) _).trans (V_v0 m c h)
  seW2 := fun k h => congrFun ((blk5 m c t).trans (V_input m c main_arg7 (by decide))) _
  seb2 := fun h => (congrFun (blk6 m c t) _).trans (V_v1 m c h)
  reW1 := fun k h => congrFun ((blk7 m c t).trans (V_input m c main_arg9 (by decide))) _
  reb1 := fun h => (congrFun (blk8 m c t) _).trans (V_v2 m c h)
  reW2 := fun k h => congrFun ((blk9 m c t).trans (V_input m c main_arg11 (by decide))) _
  reb2 := fun h => (congrFun (blk10 m c t) _).trans (V_v3 m c h)
  raW := fun k h => congrFun ((blk11 m c t).trans (V_input m c main_arg13 (by decide))) _
  rab := fun h => (congrFun (blk12 m c t) _).trans (V_v4 m c h)
  aeW1 := fun k h => congrFun ((blk13 m c t).trans (V_input m c main_arg15 (by decide))) _
  aeb1 := fun h => (congrFun (blk14 m c t) _).trans (V_v5 m c h)
  aeW2 := fun k h => congrFun ((blk15 m c t).trans (V_input m c main_arg17 (by decide))) _
  aeb2 := fun h => (congrFun (blk16 m c t) _).trans (V_v6 m c h)
  aemb := fun a h => (congrFun (blk17 m c t) _).trans (V_embeddings m c a h)
  deW1 := fun k h => congrFun ((blk18 m c t).trans (V_input m c main_arg20 (by decide))) _
  deb1 := fun h => (congrFun (blk19 m c t) _).trans (V_v7 m c h)
  deW2 := fun k h => congrFun ((blk20 m c t).trans (V_input m c main_arg22 (by decide))) _
  deb2 := fun h => (congrFun (blk21 m c t) _).trans (V_v8 m c h)
  leW1 := fun k h => congrFun ((blk22 m c t).trans (V_input m c main_arg24 (by decide))) _
  leb1 := fun h => (congrFun (blk23 m c t) _).trans (V_v9 m c h)
  leW2 := fun k => congrFun ((blk24 m c t).trans (V_input m c main_arg26 (by decide))) _
  leb2 := (congrFun (blk25 m c t) _).trans (V_v10 m c 0)
  big := fun j β i p => (congrFun (blk26 m c t) _).trans (V_v100 m c β i j p)
  lower := fun β i β' j => (congrFun (blk27 m c t) _).trans (V_v27 m c β β' i j)
  ball := fun β i β' j => (congrFun (blk28 m c t) _).trans (V_v33 m c β β' i j)
  upper := fun β i β' j => (congrFun (blk29 m c t) _).trans (V_v45 m c β β' i j)
  perm := fun β j p => (congrFun (blk30 m c t) _).trans (V_v75 m c β j p)
  back := fun β i q => (congrFun (blk31 m c t) _).trans (V_v84 m c β i q)
  sel := fun β p => (congrFun (blk32 m c t) _).trans (V_v56 m c β p)
  spread := fun β i t' => (congrFun (blk33 m c t) _).trans (V_v62 m c β t' i)
  cols := fun a h b => (congrFun (blk34 m c t) _).trans (V_v110 m c a b h)
  mask := fun β i => (congrFun (blk35 m c t) _).trans (V_v114 m c β i)

end Cert.KernelIdeal.Value

end
-- ==== Proof.KernelValue.lean ====
/-
  What the kernel's run leaves in its result: the output array, point by point, and the host's rearrangement of it into games
  by agents by actions.
-/
module

public import proofs.«01_k».proof.Proof.KernelBlocks

@[expose] public section

set_option maxRecDepth 16384

noncomputable section

namespace Cert.KernelIdeal.Value

open Idealize.ShloMosaic Idealize.ShloMosaic.TcCoe Idealize.ShloMosaic.Tactic Idealize.ShloMosaic.Pipeline
open Idealize.SL.Sem
open Cert.Spec
open Cert.KernelIdeal.Gen

variable (m : (ℓ : Loc nD τ sig) → Buf (Elt Ideal) ℓ) (ρ : Dev nD → PrngReg) (c : Dev nD)

/-- The output array's rows: sixteen games at a time, then action by action, then game by game, agent by agent. -/
def rows (y : S14592x1.Idx) : EReal :=
  logit (net m c) (play m c ⟨(y 0).val / 3648 * 16 + (y 0).val % 192 / 12, by have : (y 0).val < 14592 := (y 0).isLt; omega⟩)
    ⟨(y 0).val % 12, by omega⟩ ⟨(y 0).val % 3648 / 192, by omega⟩

theorem rows_at (r : Fin 14592) : rows m c (ix2 r 0) =
    logit (net m c) (play m c ⟨r.val / 3648 * 16 + r.val % 192 / 12, by omega⟩) ⟨r.val % 12, by omega⟩ ⟨r.val % 3648 / 192, by omega⟩ := rfl

/-- A row of a point's block, named. -/
theorem row_split (r : Fin 3648) : r = arow ⟨r.val / 192, by omega⟩ ⟨r.val % 192 / 12, by omega⟩ ⟨r.val % 12, by omega⟩ :=
  Fin.ext (by show r.val = r.val / 192 * 192 + (r.val % 192 / 12 * 12 + r.val % 12); omega)

set_option maxHeartbeats 1600000 in
/-- **The output array** after the run. -/
theorem out_array (hact : ∀ b i, ((arg m c main_arg4 : Vec Ideal S64x12 .i32) (ix2 b i) : BitVec 32).toNat < 19) :
    (dats m 0 c).arrAt 36 (cfgs 0).N = rows m c := by
  refine (dats m 0 c).arrAt_eq_of_covers 36 _ (by decide +kernel) fun t _ y => ?_
  blk_simp
  rw [after0_36]
  idx_vars y
  obtain rfl : y1 = 0 := Subsingleton.elim _ _
  rw [row_split y0]
  refine (out_row (blocks m c hact t) _ _ _).trans ?_
  unfold rows
  blk_simp [idx36 t]
  refine congr (congr (congrArg (logit (net m c)) (congrArg (play m c) (Fin.ext ?_))) (Fin.ext ?_)) (Fin.ext ?_)
  all_goals simp only [arow, game]; omega

/-- The logits, game by game, agent by agent, action by action. -/
def result : Vec Ideal S64x12x19 .f32 := fun y => logit (net m c) (play m c (y 0)) (y 1) (y 2)

set_option maxHeartbeats 1600000 in
/-- The host's rearrangement of the output array. -/
theorem tail (hact : ∀ b i, ((arg m c main_arg4 : Vec Ideal S64x12 .i32) (ix2 b i) : BitVec 32).toNat < 19) :
    Pipeline.afterTail₀ cfgs (dats m) 0 (V0 m) [hostOps1] c main_v4 = result m c := by
  unfold Pipeline.afterTail₀
  simp only [hostOps1, List.flatten_cons, List.flatten_nil, List.append_nil]
  after_reads_simp
  dsimp only [StableHlo.TRef.ofBuf, StableHlo.TRef.toBuf, cast_eq]
  rw [show withArrays (cfgs 0).spec c (V0 m c) (fun w => (dats m 0 c).arrAt w (cfgs 0).N) (Proc.devRef .tc main_call0_v115) = rows m c from
    (withArrays_arr spec0 launch0.win.arr_inj c (V0 m c) (fun w => (dats m 0 c).arrAt w (cfgs 0).N) 36).trans (out_array m c hact)]
  funext y
  idx_vars y
  pointwise
  rw [rows_at]
  show _ = logit (net m c) (play m c y0) y1 y2
  refine congr (congr (congrArg (logit (net m c)) (congrArg (play m c) (Fin.ext ?_))) (Fin.ext ?_)) (Fin.ext ?_)
  all_goals simp only; omega

end Cert.KernelIdeal.Value

end
-- ==== Proof.KernelEnd.lean ====
/-
  The idealized kernel's run: its result holds every game's logits, and its arguments end as they began.
-/
module

public import proofs.«01_k».proof.Proof.KernelValue

@[expose] public section

set_option maxRecDepth 16384

noncomputable section

namespace Cert.KernelIdeal.Value

open Idealize.ShloMosaic Idealize.ShloMosaic.TcCoe Idealize.ShloMosaic.Tactic Idealize.ShloMosaic.Pipeline
open Idealize.SL.Sem
open Cert.Spec
open Cert.KernelIdeal.Gen

variable (m : (ℓ : Loc nD τ sig) → Buf (Elt Ideal) ℓ) (ρ : Dev nD → PrngReg)

set_option maxHeartbeats 4000000 in
/-- **The kernel's run.** -/
theorem run_value (hact : ∀ c b i, ((arg m c main_arg4 : Vec Ideal S64x12 .i32) (ix2 b i) : BitVec 32).toNat < 19) :
    θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg4) = arg m c main_arg4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun _ h c => ⟨((h c).2 main_v4 (Pipeline.mem_restRefs_of main_v4 (by decide) (by decide))).trans (tail m c (hact c)),
      (((h c).2 main_arg4 (Pipeline.mem_restRefs_of main_arg4 (by decide) (by decide))).trans (W_unstaged m (dats m) c _ (by decide))),
      (((h c).2 main_arg0 (Pipeline.mem_restRefs_of main_arg0 (by decide) (by decide))).trans (W_unstaged m (dats m) c _ (by decide))),
      (((h c).2 main_arg1 (Pipeline.mem_restRefs_of main_arg1 (by decide) (by decide))).trans (W_unstaged m (dats m) c _ (by decide))),
      (((h c).2 main_arg2 (Pipeline.mem_restRefs_of main_arg2 (by decide) (by decide))).trans (W_unstaged m (dats m) c _ (by decide))),
      (((h c).2 main_arg3 (Pipeline.mem_restRefs_of main_arg3 (by decide) (by decide))).trans (W_unstaged m (dats m) c _ (by decide))),
      (((h c).2 main_arg4 (Pipeline.mem_restRefs_of main_arg4 (by decide) (by decide))).trans (W_unstaged m (dats m) c _ (by decide))),
      ((h c).1 3).trans (((dats m 0 c).arrAt_in 3 rfl _).trans ((A_eq m c 3).trans (V_input m c _ (by decide)))),
      (((h c).2 main_arg6 (Pipeline.mem_restRefs_of main_arg6 (by decide) (by decide))).trans (W_unstaged m (dats m) c _ (by decide))),
      ((h c).1 5).trans (((dats m 0 c).arrAt_in 5 rfl _).trans ((A_eq m c 5).trans (V_input m c _ (by decide)))),
      (((h c).2 main_arg8 (Pipeline.mem_restRefs_of main_arg8 (by decide) (by decide))).trans (W_unstaged m (dats m) c _ (by decide))),
      ((h c).1 7).trans (((dats m 0 c).arrAt_in 7 rfl _).trans ((A_eq m c 7).trans (V_input m c _ (by decide)))),
      (((h c).2 main_arg10 (Pipeline.mem_restRefs_of main_arg10 (by decide) (by decide))).trans (W_unstaged m (dats m) c _ (by decide))),
      ((h c).1 9).trans (((dats m 0 c).arrAt_in 9 rfl _).trans ((A_eq m c 9).trans (V_input m c _ (by decide)))),
      (((h c).2 main_arg12 (Pipeline.mem_restRefs_of main_arg12 (by decide) (by decide))).trans (W_unstaged m (dats m) c _ (by decide))),
      ((h c).1 11).trans (((dats m 0 c).arrAt_in 11 rfl _).trans ((A_eq m c 11).trans (V_input m c _ (by decide)))),
      (((h c).2 main_arg14 (Pipeline.mem_restRefs_of main_arg14 (by decide) (by decide))).trans (W_unstaged m (dats m) c _ (by decide))),
      ((h c).1 13).trans (((dats m 0 c).arrAt_in 13 rfl _).trans ((A_eq m c 13).trans (V_input m c _ (by decide)))),
      (((h c).2 main_arg16 (Pipeline.mem_restRefs_of main_arg16 (by decide) (by decide))).trans (W_unstaged m (dats m) c _ (by decide))),
      ((h c).1 15).trans (((dats m 0 c).arrAt_in 15 rfl _).trans ((A_eq m c 15).trans (V_input m c _ (by decide)))),
      (((h c).2 main_arg18 (Pipeline.mem_restRefs_of main_arg18 (by decide) (by decide))).trans (W_unstaged m (dats m) c _ (by decide))),
      (((h c).2 main_arg19 (Pipeline.mem_restRefs_of main_arg19 (by decide) (by decide))).trans (W_unstaged m (dats m) c _ (by decide))),
      ((h c).1 18).trans (((dats m 0 c).arrAt_in 18 rfl _).trans ((A_eq m c 18).trans (V_input m c _ (by decide)))),
      (((h c).2 main_arg21 (Pipeline.mem_restRefs_of main_arg21 (by decide) (by decide))).trans (W_unstaged m (dats m) c _ (by decide))),
      ((h c).1 20).trans (((dats m 0 c).arrAt_in 20 rfl _).trans ((A_eq m c 20).trans (V_input m c _ (by decide)))),
      (((h c).2 main_arg23 (Pipeline.mem_restRefs_of main_arg23 (by decide) (by decide))).trans (W_unstaged m (dats m) c _ (by decide))),
      ((h c).1 22).trans (((dats m 0 c).arrAt_in 22 rfl _).trans ((A_eq m c 22).trans (V_input m c _ (by decide)))),
      (((h c).2 main_arg25 (Pipeline.mem_restRefs_of main_arg25 (by decide) (by decide))).trans (W_unstaged m (dats m) c _ (by decide))),
      ((h c).1 24).trans (((dats m 0 c).arrAt_in 24 rfl _).trans ((A_eq m c 24).trans (V_input m c _ (by decide)))),
      (((h c).2 main_arg27 (Pipeline.mem_restRefs_of main_arg27 (by decide) (by decide))).trans (W_unstaged m (dats m) c _ (by decide)))⟩) (run_main m ρ)

end Cert.KernelIdeal.Value

end
-- ==== Proof.RefFirst.lean ====
/-
  What the reference computes before its loop, for one game: the encoders, the relations of every pair of agents, and every
  agent's state before any agent has acted.
-/
module

public import proofs.«01_k».proof.Proof.Sums
public import proofs.«01_k».proof.Proof.Args
public import proofs.«01_k».proof.Proof.Gen.ReferenceIdeal.Step

@[expose] public section

set_option maxRecDepth 16384

noncomputable section

namespace Cert.ReferenceIdeal.Value

open Idealize.ShloMosaic Idealize.ShloMosaic.Tactic
open Cert.Spec
open Cert.ReferenceIdeal Cert.ReferenceIdeal.Gen Cert.ReferenceIdeal.Step

variable {N : Net} {P : Play} {b : Fin 64}
variable {a0 : FVec Ideal S64x12x128 .f32} {a1 : FVec Ideal S64x12x12x128 .f32} {a2 : FVec Ideal S64x12 .f32}
  {a5 : FVec Ideal S128x256 .f32} {a6 : FVec Ideal S256 .f32} {a7 : FVec Ideal S256x256 .f32} {a8 : FVec Ideal S256 .f32}
  {a9 : FVec Ideal S384x256 .f32} {a10 : FVec Ideal S256 .f32} {a11 : FVec Ideal S256x512 .f32} {a12 : FVec Ideal S512 .f32}
  {a13 : FVec Ideal S768x256 .f32} {a14 : FVec Ideal S256 .f32} {a19 : FVec Ideal S1x1x19x256 .f32}

theorem twelve : Ideal.ofBits .f32 0x41400000#32 = ((12 : ℝ) : EReal) := by
  simp [Ideal.ofBits, Ideal.ieee, -EReal.coe_mul]
  norm_num

theorem least : Ideal.ofBits .f32 0xFF800000#32 = ⊥ := by
  simp [Ideal.ofBits, Ideal.ieee]

/-- The greatest of a row of values, from the least value of all. -/
theorem greatest (f : Fin 12 → EReal) :
    Finset.fold max (Ideal.ofBits .f32 0xFF800000#32) f Finset.univ = Finset.univ.sup f := by
  rw [least]
  rfl

/-- The state encoder. -/
theorem sse_at (h0 : ∀ i k, a0 (ix3 b i k) = P.st i k)
    (h5 : ∀ k c, a5 (ix2 k c) = N.seW1 k c) (h6 : ∀ c, a6 (ix1 c) = N.seb1 c)
    (h7 : ∀ k c, a7 (ix2 k c) = N.seW2 k c) (h8 : ∀ c, a8 (ix1 c) = N.seb2 c) (i : Fin 12) (c : Fin 256) :
    A_main_v13 (F := Ideal) a0 a1 a2 a5 a6 a7 a8 a9 a10 a11 a12 a13 a14 a19 (ix3 b i c) = sse N P i c := by
  pointwise [A_main_v13, A_main_v11, A_main_v10, A_main_v9, A_main_v8, A_main_v7, A_main_v5, A_main_v4, A_main_v3, A_main_v2,
    K_main_v6, K_main_cst, K_main_v12, K_main_cst_0]
  simp only [h0, h5, h6, h7, h8]
  rfl

/-- The relation encoder. -/
theorem relation_at (h1 : ∀ i j k, a1 (ix4 b i j k) = P.rel i j k)
    (hs : ∀ i c, A_main_v13 (F := Ideal) a0 a1 a2 a5 a6 a7 a8 a9 a10 a11 a12 a13 a14 a19 (ix3 b i c) = sse N P i c)
    (h9 : ∀ k c, a9 (ix2 k c) = N.reW1 k c) (h10 : ∀ c, a10 (ix1 c) = N.reb1 c)
    (h11 : ∀ k c, a11 (ix2 k c) = N.reW2 k c) (h12 : ∀ c, a12 (ix1 c) = N.reb2 c) (i j : Fin 12) (c : Fin 512) :
    A_main_v28 (F := Ideal) a0 a1 a2 a5 a6 a7 a8 a9 a10 a11 a12 a13 a14 a19 (ix4 b i j c) = relation N P i j c := by
  simp only [A_main_v28, A_main_v26, A_main_v25, A_main_v24, A_main_v23, A_main_v22, A_main_v20, A_main_v19, A_main_v18, A_main_v17,
    A_main_v16, A_main_v15, A_main_v14]
  generalize (A_main_v13 (F := Ideal) a0 a1 a2 a5 a6 a7 a8 a9 a10 a11 a12 a13 a14 a19 : FVec Ideal S64x12x256 .f32) = S at *
  pointwise [K_main_v21, K_main_cst_1, K_main_v27, K_main_cst_2]
  simp only [h1, h9, h10, h11, h12, hs, relation, lay, rel1, sum_cat2 (show 128 + 256 = 384 from rfl)]

/-- The mean of the lower halves. -/
theorem ravr_at (h2 : ∀ i, a2 (ix2 b i) = 1)
    (hr : ∀ i j c, A_main_v28 (F := Ideal) a0 a1 a2 a5 a6 a7 a8 a9 a10 a11 a12 a13 a14 a19 (ix4 b i j c) = relation N P i j c) (i : Fin 12) (c : Fin 256) :
    A_main_v36 (F := Ideal) a0 a1 a2 a5 a6 a7 a8 a9 a10 a11 a12 a13 a14 a19 (ix3 b i c) = ravr N P i c := by
  simp only [A_main_v36, A_main_v34, A_main_v33, A_main_v32, A_main_v31, A_main_v29]
  generalize (A_main_v28 (F := Ideal) a0 a1 a2 a5 a6 a7 a8 a9 a10 a11 a12 a13 a14 a19 : FVec Ideal S64x12x12x512 .f32) = S at *
  pointwise [K_main_v35, K_main_cst_3, K_main_cst_4]
  simp only [h2, hr, mul_one]
  rw [twelve, Ideal.div_coe (by norm_num : (12 : ℝ) ≠ 0)]
  rfl

/-- The greatest of the upper halves. -/
theorem rmax_at (h2 : ∀ i, a2 (ix2 b i) = 1)
    (hr : ∀ i j c, A_main_v28 (F := Ideal) a0 a1 a2 a5 a6 a7 a8 a9 a10 a11 a12 a13 a14 a19 (ix4 b i j c) = relation N P i j c) (i : Fin 12) (c : Fin 256) :
    A_main_v39 (F := Ideal) a0 a1 a2 a5 a6 a7 a8 a9 a10 a11 a12 a13 a14 a19 (ix3 b i c) = rmax N P i c := by
  simp only [A_main_v39, A_main_v38, A_main_v37, A_main_v31, A_main_v30]
  generalize (A_main_v28 (F := Ideal) a0 a1 a2 a5 a6 a7 a8 a9 a10 a11 a12 a13 a14 a19 : FVec Ideal S64x12x12x512 .f32) = S at *
  pointwise [K_main_cst_5]
  simp only [h2, hr, mul_one]
  exact greatest _

/-- Every agent's state before any agent has acted. -/
theorem state_at (hs : ∀ i c, A_main_v13 (F := Ideal) a0 a1 a2 a5 a6 a7 a8 a9 a10 a11 a12 a13 a14 a19 (ix3 b i c) = sse N P i c)
    (ha : ∀ i c, A_main_v36 (F := Ideal) a0 a1 a2 a5 a6 a7 a8 a9 a10 a11 a12 a13 a14 a19 (ix3 b i c) = ravr N P i c)
    (hm : ∀ i c, A_main_v39 (F := Ideal) a0 a1 a2 a5 a6 a7 a8 a9 a10 a11 a12 a13 a14 a19 (ix3 b i c) = rmax N P i c)
    (h13 : ∀ k c, a13 (ix2 k c) = N.raW k c) (h14 : ∀ c, a14 (ix1 c) = N.rab c) (i : Fin 12) (c : Fin 256) :
    A_main_v46 (F := Ideal) a0 a1 a2 a5 a6 a7 a8 a9 a10 a11 a12 a13 a14 a19 (ix3 b i c) = st0 N P i c := by
  simp only [A_main_v46, A_main_v44, A_main_v43, A_main_v42, A_main_v41, A_main_v40]
  generalize (A_main_v13 (F := Ideal) a0 a1 a2 a5 a6 a7 a8 a9 a10 a11 a12 a13 a14 a19 : FVec Ideal S64x12x256 .f32) = S at *
  generalize (A_main_v36 (F := Ideal) a0 a1 a2 a5 a6 a7 a8 a9 a10 a11 a12 a13 a14 a19 : FVec Ideal S64x12x256 .f32) = T at *
  generalize (A_main_v39 (F := Ideal) a0 a1 a2 a5 a6 a7 a8 a9 a10 a11 a12 a13 a14 a19 : FVec Ideal S64x12x256 .f32) = U at *
  pointwise [K_main_v45, K_main_cst_6]
  simp only [h13, h14, hs, ha, hm, st0, lay, cat2_cat2]

end Cert.ReferenceIdeal.Value

end
-- ==== Proof.RefStep.lean ====
/-
  What one trip of the reference's loop computes, for one game, from any states of its twelve agents: the acting agent's
  embeddings, every agent's decision, and the logits.
-/
module

public import proofs.«01_k».proof.Proof.RefFirst
public import Idealize.ShloMosaic.Lib.WordCmp
public import proofs.«01_k».proof.Proof.Gen.ReferenceIdeal.Step

@[expose] public section

set_option maxRecDepth 16384

noncomputable section

namespace Cert.ReferenceIdeal.Value

open Idealize.ShloMosaic Idealize.ShloMosaic.Tactic
open Cert.Spec Idealize.ShloMosaic.WordCmp
open Cert.ReferenceIdeal Cert.ReferenceIdeal.Gen Cert.ReferenceIdeal.Step

variable {N : Net} {P : Play} {b : Fin 64} {X : Fin 12 → Fin 256 → EReal} {s : State Ideal}

/-- The weights and the game, as a state of the loop holds them. -/
structure Fixed (N : Net) (P : Play) (b : Fin 64) (s : State Ideal) : Prop where
  aeW1 : ∀ k c, s.main_v51_0 (ix2 k c) = N.aeW1 k c
  aeb1 : ∀ c, s.main_v51_1 (ix1 c) = N.aeb1 c
  aeW2 : ∀ k c, s.main_v51_2 (ix2 k c) = N.aeW2 k c
  aeb2 : ∀ c, s.main_v51_3 (ix1 c) = N.aeb2 c
  own : ∀ i, s.main_v51_4 (ix2 b i) = own P i
  deW1 : ∀ k c, s.main_v51_5 (ix2 k c) = N.deW1 k c
  deb1 : ∀ c, s.main_v51_6 (ix1 c) = N.deb1 c
  deW2 : ∀ k c, s.main_v51_7 (ix2 k c) = N.deW2 k c
  deb2 : ∀ c, s.main_v51_8 (ix1 c) = N.deb2 c
  aemb : ∀ a h, s.main_v51_9 (ix4 b 0 a h) = N.aemb a h
  alive : ∀ i, s.main_v51_11 (ix4 b i 0 0) = 1
  leW1 : ∀ k c, s.main_v51_12 (ix2 k c) = N.leW1 k c
  leb1 : ∀ c, s.main_v51_13 (ix1 c) = N.leb1 c
  leW2 : ∀ k, s.main_v51_14 (ix2 k 0) = N.leW2 k
  leb2 : s.main_v51_15 (ix1 0) = N.leb2
  act : ∀ i, s.main_v51_16 (ix2 b i) = BitVec.ofNat 32 (P.act i).val

variable (j : Fin 12) (H : Fixed N P b s) (hX : ∀ i h, s.main_v51_19 (ix3 b i h) = X i h)

/-- The acting agent's number, as the loop's words have it. -/
theorem number (j : Fin 12) (s : State Ideal) : b7 j.val s = fun _ => BitVec.ofNat 32 j.val := by
  funext i
  fin_cases j <;> rfl

theorem slice3 (j : Fin 12) : S64x12x256.Slices ![0, j.val, 0] S64x1x256 := by
  fin_cases j <;> decide

theorem slice2 (j : Fin 12) : S64x12.Slices ![0, j.val] S64x1 := by
  fin_cases j <;> decide

theorem word_int (j : Fin 12) : (BitVec.ofNat 32 j.val).toInt = (j.val : Int) := by
  fin_cases j <;> rfl

include hX in
/-- The acting agent's state. -/
theorem acting_at (h : Fin 256) : b11 j.val s (ix2 b h) = X j h := by
  have e : b10 j.val s = extractStridedSlice S64x1x256 ![0, j.val, 0] s.main_v51_19 (slice3 j) := by
    refine dynamicSlice_eq_extract _ _ _ _ _ _ fun a => ?_
    match a with
    | ⟨0, _⟩ => rfl
    | ⟨1, _⟩ => exact (congrArg BitVec.toInt (congrFun (number j s) _)).trans (word_int j)
    | ⟨2, _⟩ => rfl
  pointwise [b11, e]
  simp only [hX]

include H in
/-- The acting agent's share of the ball. -/
theorem own_at : b34 j.val s (ix2 b 0) = own P j := by
  have e : b34 j.val s = extractStridedSlice S64x1 ![0, j.val] s.main_v51_4 (slice2 j) := by
    refine dynamicSlice_eq_extract _ _ _ _ _ _ fun a => ?_
    match a with
    | ⟨0, _⟩ => rfl
    | ⟨1, _⟩ => exact (congrArg BitVec.toInt (congrFun (number j s) _)).trans (word_int j)
  pointwise [e]
  simp only [H.own]

include H in
/-- The acting agent's action. -/
theorem action_at : b134 j.val s (ix1 b) = BitVec.ofNat 32 (P.act j).val := by
  have e : b133 j.val s = extractStridedSlice S64x1 ![0, j.val] s.main_v51_16 (slice2 j) := by
    refine dynamicSlice_eq_extract _ _ _ _ _ _ fun a => ?_
    match a with
    | ⟨0, _⟩ => rfl
    | ⟨1, _⟩ => exact (congrArg BitVec.toInt (congrFun (number j s) _)).trans (word_int j)
  pointwise [b134, e]
  simp only [H.act]

include H hX in
/-- The action encoder on the acting agent's state. -/
theorem ae_at (a : Fin 19) (h : Fin 256) : b26 j.val s (ix4 b 0 a h) = ae N (X j) (blk a h) := by
  have h11 := acting_at j hX
  simp only [b26, b25, b24, b23, b22, b21, b20, b19, b18, b17, b16, b15, b14, b13, b12]
  generalize b11 j.val s = x at *
  pointwise
  simp only [h11, H.aeW1, H.aeb1, H.aeW2, H.aeb2]
  rfl

include H hX in
/-- What each action would add to the ball. -/
theorem pass_at (a : Fin 19) (h : Fin 256) : b37 j.val s (ix4 b 0 a h) = ae N (X j) (blk a h) * own P j := by
  have h26 := ae_at j H hX
  have h34 := own_at j H
  simp only [b37, b36, b35]
  generalize b26 j.val s = x at *
  generalize b34 j.val s = y at *
  pointwise
  simp only [h26, h34]

include H hX in
/-- Every agent's decision, as it stands. -/
theorem dec_at (i : Fin 12) (c : Fin 512) : b51 j.val s (ix3 b i c) = dec N (X i) c := by
  simp only [b51, b50, b49, b48, b47, b46, b45, b44, b43, b42, b41, b40, b39, b38]
  pointwise
  simp only [hX, H.deW1, H.deb1, H.deW2, H.deb2]
  rfl

include H hX in
/-- The acting agent's decision, were its action `a`. -/
theorem active_at (a : Fin 19) (c : Fin 512) : b70 j.val s (ix4 b 0 a c) = dec N (fun h => X j h + N.aemb a h) c := by
  have h11 := acting_at j hX
  simp only [b70, b69, b68, b67, b66, b65, b64, b63, b62, b61, b60, b59, b58, b57, b56, b55, b54]
  generalize b11 j.val s = x at *
  pointwise
  simp only [h11, H.aemb, H.deW1, H.deb1, H.deW2, H.deb2]
  rfl

include H hX in
/-- The ball's decision, were the acting agent's action `a`. -/
theorem passive_at (a : Fin 19) (c : Fin 512) :
    b94 j.val s (ix4 b 0 a c) = dec N (fun h => X 11 h + ae N (X j) (blk a h) * own P j) c := by
  have h37 := pass_at j H hX
  simp only [b94, b93, b92, b91, b90, b89, b88, b87, b86, b85, b84, b83, b82, b81, b80, b79, b78, b77, b76]
  generalize b37 j.val s = x at *
  pointwise
  simp only [h37, hX, H.deW1, H.deb1, H.deW2, H.deb2]
  rfl

/-- Two agents' numbers compared as words. -/
theorem number_eq (i k : Fin 12) : IntOp.cmpi .eq (BitVec.ofNat 32 i.val) (BitVec.ofNat 32 k.val) = BitVec.ofBool (decide (i = k)) := by
  rw [cmpi_eq_ofNat (by omega) (by omega)]
  simp only [Fin.ext_iff]

/-- Every agent's decision were the acting agent's action `a`. -/
def decisions (N : Net) (P : Play) (X : Fin 12 → Fin 256 → EReal) (j : Fin 12) (a : Fin 19) (i : Fin 12) : Fin 512 → EReal :=
  if i = 11 then dec N (fun h => X 11 h + ae N (X j) (blk a h) * own P j)
  else if i = j then dec N (fun h => X j h + N.aemb a h) else dec N (X i)

include H hX in
theorem decisions_at (i : Fin 12) (a : Fin 19) (c : Fin 512) : b99 j.val s (ix4 b i a c) = decisions N P X j a i c := by
  have h51 := dec_at j H hX
  have h70 := active_at j H hX
  have h94 := passive_at j H hX
  simp only [b99, b98, b97, b96, b95, b75, b74, b73, b72, b71, b53, b52]
  generalize b51 j.val s = x at *
  generalize b70 j.val s = y at *
  generalize b94 j.val s = z at *
  pointwise [K_main_v48]
  simp only [h51, h70, h94, decisions]
  rw [show id (constantI S_ 32 (BitVec.ofNat 32 j.val)) ix0 = BitVec.ofNat 32 j.val from rfl,
    show (11#32 : BitVec 32) = BitVec.ofNat 32 (11 : Fin 12).val from rfl, number_eq, number_eq, select_decide, select_decide]
  split_ifs <;> rfl

include H hX in
/-- The mean of the lower halves of the decisions. -/
theorem davr_at (a : Fin 19) (h : Fin 256) :
    b108 j.val s (ix3 b a h) = (∑ i, decisions N P X j a i (lo h)) * ((1 / 12 : ℝ) : EReal) := by
  have h99 := decisions_at j H hX
  simp only [b108, b107, b106, b105, b104, b103, b102, b100]
  generalize b99 j.val s = x at *
  pointwise
  simp only [h99, H.alive, mul_one]
  rw [twelve, Ideal.div_coe (by norm_num : (12 : ℝ) ≠ 0)]

include H hX in
/-- The greatest of the upper halves of the decisions. -/
theorem dmax_at (a : Fin 19) (h : Fin 256) :
    b112 j.val s (ix3 b a h) = Finset.univ.sup fun i => decisions N P X j a i (hi h) := by
  have h99 := decisions_at j H hX
  simp only [b112, b111, b110, b109, b101]
  generalize b99 j.val s = x at *
  pointwise
  simp only [h99, H.alive, mul_one]
  exact greatest _

include H hX in
/-- The logits of the acting agent's actions. -/
theorem logit_at (a : Fin 19) :
    b125 j.val s (ix2 b a) = (∑ k : Fin 256, lay N.leW1 N.leb1 (cat2 512
      (fun h => (∑ i, decisions N P X j a i (lo h)) * ((1 / 12 : ℝ) : EReal))
      (fun h => Finset.univ.sup fun i => decisions N P X j a i (hi h))) k * N.leW2 k) + N.leb2 := by
  have h108 := davr_at j H hX
  have h112 := dmax_at j H hX
  simp only [b125, b124, b123, b122, b121, b120, b119, b118, b117, b116, b115, b114, b113]
  generalize b108 j.val s = x at *
  generalize b112 j.val s = y at *
  pointwise
  simp only [h108, h112, H.leW1, H.leb1, H.leW2, H.leb2, lay, sum_cat2 (show 256 + 256 = 512 from rfl)]

end Cert.ReferenceIdeal.Value

end
-- ==== Proof.RefMove.lean ====
/-
  What one trip of the reference's loop leaves, for one game: the agents' states after the acting agent has moved, and the
  logits with the acting agent's row filled in.
-/
module

public import proofs.«01_k».proof.Proof.RefStep
public import proofs.«01_k».proof.Proof.Gen.ReferenceIdeal.Step

@[expose] public section

set_option maxRecDepth 16384

noncomputable section

namespace Cert.ReferenceIdeal.Value

open Idealize.ShloMosaic Idealize.ShloMosaic.Tactic
open Cert.Spec Idealize.ShloMosaic.WordCmp
open Cert.ReferenceIdeal Cert.ReferenceIdeal.Gen Cert.ReferenceIdeal.Step

variable {N : Net} {P : Play} {b : Fin 64} {X : Fin 12 → Fin 256 → EReal} {s : State Ideal}
variable (j : Fin 12) (H : Fixed N P b s) (hX : ∀ i h, s.main_v51_19 (ix3 b i h) = X i h)

/-- The selection of one action's row, game by game. -/
theorem gather_at (x : FVec Ideal S64x1x19x256 .f32) (idx : IVec S64x1x1 32) (b : Fin 64) (a : Fin 19) (h : Fin 256)
    (hi : idx (ix3 b 0 0) = BitVec.ofNat 32 a.val) :
    Host.gather gather_S64x1x19x256_S64x1x1_S64x1x1x256_13_2_0_0_2_2_111256 x idx (ix4 b 0 0 h) = x (ix4 b 0 a h) := by
  unfold Host.gather
  congr 1
  funext k
  refine Fin.ext ?_
  show gather_S64x1x19x256_S64x1x1_S64x1x1x256_13_2_0_0_2_2_111256.start (ix4 b 0 0 h) idx k + gather_S64x1x19x256_S64x1x1_S64x1x1x256_13_2_0_0_2_2_111256.batchCoord (ix4 b 0 0 h) k + gather_S64x1x19x256_S64x1x1_S64x1x1x256_13_2_0_0_2_2_111256.offCoord (ix4 b 0 0 h) k = _
  have hk : ∀ k : Fin 4, k = 0 ∨ k = 1 ∨ k = 2 ∨ k = 3 := by decide
  rcases hk k with rfl | rfl | rfl | rfl
  · rw [GatherDims.start_batching _ _ _ _ (by decide), GatherDims.offCoord_eq_zero _ _ _ (by decide)]
    unfold GatherDims.batchCoord
    rw [dif_pos (by decide)]
    simp only [Nat.zero_add, Nat.add_zero]
    rfl
  · rw [GatherDims.batchCoord_eq_zero _ _ _ (by decide)]
    unfold GatherDims.start GatherDims.offCoord
    rw [dif_neg (by decide), dif_pos (by decide)]
    simp only [Nat.zero_add, Nat.add_zero]
    rfl
  · rw [GatherDims.batchCoord_eq_zero _ _ _ (by decide), GatherDims.offCoord_eq_zero _ _ _ (by decide)]
    unfold GatherDims.start
    rw [dif_pos (by decide)]
    have hs : gather_S64x1x19x256_S64x1x1_S64x1x1x256_13_2_0_0_2_2_111256.siIdx (ix4 b 0 0 h) ⟨List.idxOf (2 : Fin 4) gather_S64x1x19x256_S64x1x1_S64x1x1x256_13_2_0_0_2_2_111256.startIndexMap, by decide⟩ = ix3 b 0 0 := by
      funext l
      refine Fin.ext ?_
      match l with
      | ⟨0, _⟩ => rfl
      | ⟨1, _⟩ => rfl
      | ⟨2, _⟩ => rfl
    simp only [Nat.add_zero]
    refine (congrArg (fun w : BitVec 32 => min w.toInt.toNat 18) ((congrArg idx hs).trans hi)).trans ?_
    show min (BitVec.ofNat 32 a.val).toInt.toNat 18 = a.val
    rw [toInt_ofNat_of_lt (by omega)]
    omega
  · rw [GatherDims.batchCoord_eq_zero _ _ _ (by decide)]
    unfold GatherDims.start GatherDims.offCoord
    rw [dif_neg (by decide), dif_pos (by decide)]
    simp only [Nat.zero_add, Nat.add_zero]
    rfl

include H in
/-- The acting agent's action, wrapped, as the selection's index. -/
theorem index_at_135 : b143 j.val s (ix3 b 0 0) = BitVec.ofNat 32 (P.act j).val := by
  have h134 := action_at j H
  have hlt := (P.act j).isLt
  simp only [b143, b142, b141, b140, b139, b138, b137, b136, b135]
  generalize b134 j.val s = x at *
  pointwise
  simp only [h134]
  rw [show (0#32 : BitVec 32) = BitVec.ofNat 32 0 from rfl, cmpi_slt_ofNat (by omega) (by omega)]
  simp [select_zero]

include H in
/-- The index is in range. -/
theorem inside_at_135 : b153 j.val s (ix2 b 0) = 1#1 := by
  have hi := index_at_135 j H
  have hlt := (P.act j).isLt
  simp only [b153, b152, b151, b150, b149, b148, b147, b146, b145, b144]
  generalize b143 j.val s = x at *
  pointwise
  rw [Finset.univ_unique, Finset.fold_singleton, Fin.default_eq_zero, hi, show (0#32 : BitVec 32) = BitVec.ofNat 32 0 from rfl,
    show (18#32 : BitVec 32) = BitVec.ofNat 32 18 from rfl, cmpi_sge_ofNat (by omega) (by omega), cmpi_sle_ofNat (by omega) (by omega),
    decide_eq_true (by omega), decide_eq_true (by omega)]
  rfl

include H in
/-- The acting agent's action, wrapped, as the selection's index. -/
theorem index_at_160 : b168 j.val s (ix3 b 0 0) = BitVec.ofNat 32 (P.act j).val := by
  have h134 := action_at j H
  have hlt := (P.act j).isLt
  simp only [b168, b167, b166, b165, b164, b163, b162, b161, b160]
  generalize b134 j.val s = x at *
  pointwise
  simp only [h134]
  rw [show (0#32 : BitVec 32) = BitVec.ofNat 32 0 from rfl, cmpi_slt_ofNat (by omega) (by omega)]
  simp [select_zero]

include H in
/-- The index is in range. -/
theorem inside_at_160 : b178 j.val s (ix2 b 0) = 1#1 := by
  have hi := index_at_160 j H
  have hlt := (P.act j).isLt
  simp only [b178, b177, b176, b175, b174, b173, b172, b171, b170, b169]
  generalize b168 j.val s = x at *
  pointwise
  rw [Finset.univ_unique, Finset.fold_singleton, Fin.default_eq_zero, hi, show (0#32 : BitVec 32) = BitVec.ofNat 32 0 from rfl,
    show (18#32 : BitVec 32) = BitVec.ofNat 32 18 from rfl, cmpi_sge_ofNat (by omega) (by omega), cmpi_sle_ofNat (by omega) (by omega),
    decide_eq_true (by omega), decide_eq_true (by omega)]
  rfl

include H in
/-- What the acting agent's action adds to its own state. -/
theorem embedding_at (h : Fin 256) : b159 j.val s (ix2 b h) = emb N P j h := by
  have e := gather_at s.main_v51_9 (b143 j.val s) b (P.act j) h (index_at_135 j H)
  have hin := inside_at_135 j H
  simp only [b159, b158, b157, b156, b155, b154]
  generalize Host.gather gather_S64x1x19x256_S64x1x1_S64x1x1x256_13_2_0_0_2_2_111256 s.main_v51_9 (b143 j.val s) = x at *
  generalize b153 j.val s = y at *
  pointwise
  rw [hin, select_one, e, H.aemb]
  rfl

include H hX in
/-- What the acting agent's action adds to the ball. -/
theorem effect_at (h : Fin 256) : b184 j.val s (ix2 b h) = ae N (X j) (blk (P.act j) h) * own P j := by
  have e := gather_at (b37 j.val s) (b168 j.val s) b (P.act j) h (index_at_160 j H)
  have hin := inside_at_160 j H
  have h37 := pass_at j H hX
  simp only [b184, b183, b182, b181, b180, b179]
  generalize Host.gather gather_S64x1x19x256_S64x1x1_S64x1x1x256_13_2_0_0_2_2_111256 (b37 j.val s) (b168 j.val s) = x at *
  generalize b178 j.val s = y at *
  pointwise
  rw [hin, select_one, e, h37]

include H hX in
/-- The agents' states after the acting agent has moved. -/
theorem moved_at (i : Fin 12) (h : Fin 256) :
    b199 j.val s (ix3 b i h) = (if i = j then X i h + emb N P j h else X i h) +
      (if i = 11 then ae N (X j) (blk (P.act j) h) * own P j else 0) := by
  have h159 := embedding_at j H
  have h184 := effect_at j H hX
  simp only [b199, b198, b197, b196, b195, b194, b193, b192, b191, b190, b189, b188, b187, b186, b185]
  generalize b159 j.val s = x at *
  generalize b184 j.val s = y at *
  pointwise
  simp only [h159, h184, hX]
  rw [show id (constantI S_ 32 (BitVec.ofNat 32 j.val)) ix0 = BitVec.ofNat 32 j.val from rfl,
    show (11#32 : BitVec 32) = BitVec.ofNat 32 (11 : Fin 12).val from rfl, number_eq, number_eq, select_decide, select_decide]
  split_ifs <;> simp

/-- The logits, the acting agent's row filled in. -/
theorem filled_at (i : Fin 12) (a : Fin 19) :
    b206 j.val s (ix3 b i a) = if i = j then b125 j.val s (ix2 b a) else s.main_v51_20 (ix3 b i a) := by
  simp only [b206, b205, b204, b203, b202, b201, b200]
  generalize b125 j.val s = x at *
  pointwise
  rw [show id (constantI S_ 32 (BitVec.ofNat 32 j.val)) ix0 = BitVec.ofNat 32 j.val from rfl, number_eq, select_decide]

end Cert.ReferenceIdeal.Value

end
-- ==== Proof.RefTrip.lean ====
/- One trip of the reference's loop, as the run leaves its buffers, is `step` of the state: value by value, then whole. -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_19 : V0 (Proc.devRef .tc main_v51_19) = s.main_v51_19
  f_20 : V0 (Proc.devRef .tc main_v51_20) = s.main_v51_20
  f_0 : V0 (Proc.devRef .tc main_v51_0) = s.main_v51_0
  f_1 : V0 (Proc.devRef .tc main_v51_1) = s.main_v51_1
  f_2 : V0 (Proc.devRef .tc main_v51_2) = s.main_v51_2
  f_3 : V0 (Proc.devRef .tc main_v51_3) = s.main_v51_3
  f_4 : V0 (Proc.devRef .tc main_v51_4) = s.main_v51_4
  f_5 : V0 (Proc.devRef .tc main_v51_5) = s.main_v51_5
  f_6 : V0 (Proc.devRef .tc main_v51_6) = s.main_v51_6
  f_7 : V0 (Proc.devRef .tc main_v51_7) = s.main_v51_7
  f_8 : V0 (Proc.devRef .tc main_v51_8) = s.main_v51_8
  f_9 : V0 (Proc.devRef .tc main_v51_9) = s.main_v51_9
  f_11 : V0 (Proc.devRef .tc main_v51_11) = s.main_v51_11
  f_12 : V0 (Proc.devRef .tc main_v51_12) = s.main_v51_12
  f_13 : V0 (Proc.devRef .tc main_v51_13) = s.main_v51_13
  f_14 : V0 (Proc.devRef .tc main_v51_14) = s.main_v51_14
  f_15 : V0 (Proc.devRef .tc main_v51_15) = s.main_v51_15
  f_16 : V0 (Proc.devRef .tc main_v51_16) = s.main_v51_16
  n_17 : V0 (Proc.devRef .tc main_v51_17) = constantI S_ 32 (BitVec.ofNat 32 j)
  n_18 : V0 (Proc.devRef .tc main_v51_18) = constantI S_ 32 (BitVec.ofNat 32 j)
  k_10 : V0 (Proc.devRef .tc main_v51_10) = Cert.ReferenceIdeal.Step.K_main_v48 (F := F)

variable {V0 s j}

set_option maxRecDepth 8192 in
theorem al_0 (h : Holds V0 s j) : (constantI S_ 32 1#32 : (Proc.devRef .tc main_while0b_c_29 : DevRef τ sig).ty.Contents (Elt F)) = Cert.ReferenceIdeal.Step.b0 j s := by
  unfold Cert.ReferenceIdeal.Step.b0
  rfl
set_option maxRecDepth 8192 in
theorem al_1 (h : Holds V0 s j) : (addi (V0 (Proc.devRef .tc main_v51_18)) (constantI S_ 32 1#32) : (Proc.devRef .tc main_while0b_v53 : DevRef τ sig).ty.Contents (Elt F)) = Cert.ReferenceIdeal.Step.b1 j s := by
  unfold Cert.ReferenceIdeal.Step.b1
  rw [← al_0 h, h.n_18]
  try rfl
set_option maxRecDepth 8192 in
theorem al_2 (h : Holds V0 s j) : (constantI S_ 32 0#32 : (Proc.devRef .tc main_while0b_c_30 : DevRef τ sig).ty.Contents (Elt F)) = Cert.ReferenceIdeal.Step.b2 j s := by
  unfold Cert.ReferenceIdeal.Step.b2
  rfl
set_option maxRecDepth 8192 in
theorem al_3 (h : Holds V0 s j) : (cmpi .slt (V0 (Proc.devRef .tc main_v51_18)) (constantI S_ 32 0#32) : (Proc.devRef .tc main_while0b_v54 : DevRef τ sig).ty.Contents (Elt F)) = Cert.ReferenceIdeal.Step.b3 j s := by
  unfold Cert.ReferenceIdeal.Step.b3
  rw [← al_2 h, h.n_18]
  try rfl
set_option maxRecDepth 8192 in
theorem al_4 (h : Holds V0 s j) : (id (V0 (Proc.devRef .tc main_v51_18)) : (Proc.devRef .tc main_while0b_v55 : DevRef τ sig).ty.Contents (Elt F)) = Cert.ReferenceIdeal.Step.b4 j s := by
  unfold Cert.ReferenceIdeal.Step.b4
  rw [h.n_18]
  try rfl
set_option maxRecDepth 8192 in
theorem al_5 (h : Holds V0 s j) : (constantI S_ 32 12#32 : (Proc.devRef .tc main_while0b_c_31 : DevRef τ sig).ty.Contents (Elt F)) = Cert.ReferenceIdeal.Step.b5 j s := by
  unfold Cert.ReferenceIdeal.Step.b5
  rfl
set_option maxRecDepth 8192 in
theorem al_6 (h : Holds V0 s j) : (addi (id (V0 (Proc.devRef .tc main_v51_18))) (constantI S_ 32 12#32) : (Proc.devRef .tc main_while0b_v56 : DevRef τ sig).ty.Contents (Elt F)) = Cert.ReferenceIdeal.Step.b6 j s := by
  unfold Cert.ReferenceIdeal.Step.b6
  rw [← al_4 h, ← al_5 h]
  try rfl
set_option maxRecDepth 8192 in
theorem al_7 (h : Holds V0 s j) : (select (cmpi .slt (V0 (Proc.devRef .tc main_v51_18)) (constantI S_ 32 0#32)) (addi (id (V0 (Proc.devRef .tc main_v51_18))) (constantI S_ 32 12#32)) (V0 (Proc.devRef .tc main_v51_18)) : (Proc.devRef .tc main_while0b_v57 : DevRef τ sig).ty.Contents (Elt F)) = Cert.ReferenceIdeal.Step.b7 j s := by
  unfold Cert.ReferenceIdeal.Step.b7
  rw [← al_3 h, ← al_6 h, h.n_18]
  try rfl
set_option maxRecDepth 8192 in
theorem al_8 (h : Holds V0 s j) : (constantI S_ 32 0#32 : (Proc.devRef .tc main_while0b_c_32 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_c_33 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S64x1x256 (V0 (Proc.devRef .tc main_v51_19)) (fun k => (((![constantI S_ 32 0#32, select (cmpi .slt (V0 (Proc.devRef .tc main_v51_18)) (constantI S_ 32 0#32)) (addi (id (V0 (Proc.devRef .tc main_v51_18))) (constantI S_ 32 12#32)) (V0 (Proc.devRef .tc main_v51_18)), constantI S_ 32 0#32] : Fin 3 → (⟨S_, .i32⟩ : BufTy).Contents (Elt F))) k (Shape.Idx.first h_S_)).toInt) sliceFits_S64x12x256_S64x1x256 : (Proc.devRef .tc main_while0b_v58 : DevRef τ sig).ty.Contents (Elt F)) = Cert.ReferenceIdeal.Step.b10 j s := by
  unfold Cert.ReferenceIdeal.Step.b10
  rw [← al_8 h, ← al_7 h, ← al_9 h, h.f_19]
  try rfl
set_option maxRecDepth 8192 in
theorem al_11 (h : Holds V0 s j) : (res_main_while0b_v59 V0 : (Proc.devRef .tc main_while0b_v59 : DevRef τ sig).ty.Contents (Elt F)) = Cert.ReferenceIdeal.Step.b11 j s := by
  unfold res_main_while0b_v59 Cert.ReferenceIdeal.Step.b11
  rw [← al_10 h]
  try rfl
set_option maxRecDepth 8192 in
theorem al_12 (h : Holds V0 s j) : (Host.dotGeneral dot_S64x256_S256x256_S64x256_1_0_0_1_n_n none (res_main_while0b_v59 V0) (V0 (Proc.devRef .tc main_v51_0)) : (Proc.devRef .tc main_while0b_v60 : DevRef τ sig).ty.Contents (Elt F)) = Cert.ReferenceIdeal.Step.b12 j s := by
  unfold Cert.ReferenceIdeal.Step.b12
  rw [← al_11 h, h.f_0]
  try rfl
set_option maxRecDepth 8192 in
theorem al_13 (h : Holds V0 s j) : (broadcastInDim S1x256 ![1] bcast_S256_S1x256_1 (V0 (Proc.devRef .tc main_v51_1)) : (Proc.devRef .tc main_while0b_v61 : DevRef τ sig).ty.Contents (Elt F)) = Cert.ReferenceIdeal.Step.b13 j s := by
  unfold Cert.ReferenceIdeal.Step.b13
  rw [h.f_1]
  try rfl
set_option maxRecDepth 8192 in
theorem al_14 (h : Holds V0 s j) : (broadcastInDim S64x256 ![0, 1] bcast_S1x256_S64x256_0_1 (broadcastInDim S1x256 ![1] bcast_S256_S1x256_1 (V0 (Proc.devRef .tc main_v51_1))) : (Proc.devRef .tc main_while0b_v62 : DevRef τ sig).ty.Contents (Elt F)) = Cert.ReferenceIdeal.Step.b14 j s := by
  unfold Cert.ReferenceIdeal.Step.b14
  rw [← al_13 h]
  try rfl
set_option maxRecDepth 8192 in
theorem al_15 (h : Holds V0 s j) : (addf (Host.dotGeneral dot_S64x256_S256x256_S64x256_1_0_0_1_n_n none (res_main_while0b_v59 V0) (V0 (Proc.devRef .tc main_v51_0))) (broadcastInDim S64x256 ![0, 1] bcast_S1x256_S64x256_0_1 (broadcastInDim S1x256 ![1] bcast_S256_S1x256_1 (V0 (Proc.devRef .tc main_v51_1)))) : (Proc.devRef .tc main_while0b_v63 : DevRef τ sig).ty.Contents (Elt F)) = Cert.ReferenceIdeal.Step.b15 j s := by
  unfold Cert.ReferenceIdeal.Step.b15
  rw [← al_12 h, ← al_14 h]
  try rfl
set_option maxRecDepth 8192 in
theorem al_16 (h : Holds V0 s j) : (constant S_ .f32 0x00000000#32 : (Proc.devRef .tc main_while0b_cst_34 : DevRef τ sig).ty.Contents (Elt F)) = Cert.ReferenceIdeal.Step.b16 j s := by
  unfold Cert.ReferenceIdeal.Step.b16
  rfl
set_option maxRecDepth 8192 in
theorem al_17 (h : Holds V0 s j) : (broadcastInDim S64x256 ![] bcast_S_S64x256 (constant S_ .f32 0x00000000#32) : (Proc.devRef .tc main_while0b_v64 : DevRef τ sig).ty.Contents (Elt F)) = Cert.ReferenceIdeal.Step.b17 j s := by
  unfold Cert.ReferenceIdeal.Step.b17
  rw [← al_16 h]
  try rfl
set_option maxRecDepth 8192 in
theorem al_18 (h : Holds V0 s j) : (maximumf (addf (Host.dotGeneral dot_S64x256_S256x256_S64x256_1_0_0_1_n_n none (res_main_while0b_v59 V0) (V0 (Proc.devRef .tc main_v51_0))) (broadcastInDim S64x256 ![0, 1] bcast_S1x256_S64x256_0_1 (broadcastInDim S1x256 ![1] bcast_S256_S1x256_1 (V0 (Proc.devRef .tc main_v51_1))))) (broadcastInDim S64x256 ![] bcast_S_S64x256 (constant S_ .f32 0x00000000#32)) : (Proc.devRef .tc main_while0b_v65 : DevRef τ sig).ty.Contents (Elt F)) = Cert.ReferenceIdeal.Step.b18 j s := by
  unfold Cert.ReferenceIdeal.Step.b18
  rw [← al_15 h, ← al_17 h]
  try rfl
set_option maxRecDepth 8192 in
theorem al_19 (h : Holds V0 s j) : (Host.dotGeneral dot_S64x256_S256x4864_S64x4864_1_0_0_1_n_n none (maximumf (addf (Host.dotGeneral dot_S64x256_S256x256_S64x256_1_0_0_1_n_n none (res_main_while0b_v59 V0) (V0 (Proc.devRef .tc main_v51_0))) (broadcastInDim S64x256 ![0, 1] bcast_S1x256_S64x256_0_1 (broadcastInDim S1x256 ![1] bcast_S256_S1x256_1 (V0 (Proc.devRef .tc main_v51_1))))) (broadcastInDim S64x256 ![] bcast_S_S64x256 (constant S_ .f32 0x00000000#32))) (V0 (Proc.devRef .tc main_v51_2)) : (Proc.devRef .tc main_while0b_v66 : DevRef τ sig).ty.Contents (Elt F)) = Cert.ReferenceIdeal.Step.b19 j s := by
  unfold Cert.ReferenceIdeal.Step.b19
  rw [← al_18 h, h.f_2]
  try rfl
set_option maxRecDepth 8192 in
theorem al_20 (h : Holds V0 s j) : (broadcastInDim S1x4864 ![1] bcast_S4864_S1x4864_1 (V0 (Proc.devRef .tc main_v51_3)) : (Proc.devRef .tc main_while0b_v67 : DevRef τ sig).ty.Contents (Elt F)) = Cert.ReferenceIdeal.Step.b20 j s := by
  unfold Cert.ReferenceIdeal.Step.b20
  rw [h.f_3]
  try rfl
set_option maxRecDepth 8192 in
theorem al_21 (h : Holds V0 s j) : (broadcastInDim S64x4864 ![0, 1] bcast_S1x4864_S64x4864_0_1 (broadcastInDim S1x4864 ![1] bcast_S4864_S1x4864_1 (V0 (Proc.devRef .tc main_v51_3))) : (Proc.devRef .tc main_while0b_v68 : DevRef τ sig).ty.Contents (Elt F)) = Cert.ReferenceIdeal.Step.b21 j s := by
  unfold Cert.ReferenceIdeal.Step.b21
  rw [← al_20 h]
  try rfl
set_option maxRecDepth 8192 in
theorem al_22 (h : Holds V0 s j) : (addf (Host.dotGeneral dot_S64x256_S256x4864_S64x4864_1_0_0_1_n_n none (maximumf (addf (Host.dotGeneral dot_S64x256_S256x256_S64x256_1_0_0_1_n_n none (res_main_while0b_v59 V0) (V0 (Proc.devRef .tc main_v51_0))) (broadcastInDim S64x256 ![0, 1] bcast_S1x256_S64x256_0_1 (broadcastInDim S1x256 ![1] bcast_S256_S1x256_1 (V0 (Proc.devRef .tc main_v51_1))))) (broadcastInDim S64x256 ![] bcast_S_S64x256 (constant S_ .f32 0x00000000#32))) (V0 (Proc.devRef .tc main_v51_2))) (broadcastInDim S64x4864 ![0, 1] bcast_S1x4864_S64x4864_0_1 (broadcastInDim S1x4864 ![1] bcast_S4864_S1x4864_1 (V0 (Proc.devRef .tc main_v51_3)))) : (Proc.devRef .tc main_while0b_v69 : DevRef τ sig).ty.Contents (Elt F)) = Cert.ReferenceIdeal.Step.b22 j s := by
  unfold Cert.ReferenceIdeal.Step.b22
  rw [← al_19 h, ← al_21 h]
  try rfl
set_option maxRecDepth 8192 in
theorem al_23 (h : Holds V0 s j) : (constant S_ .f32 0x00000000#32 : (Proc.devRef .tc main_while0b_cst_35 : DevRef τ sig).ty.Contents (Elt F)) = Cert.ReferenceIdeal.Step.b23 j s := by
  unfold Cert.ReferenceIdeal.Step.b23
  rfl
set_option maxRecDepth 8192 in
theorem al_24 (h : Holds V0 s j) : (broadcastInDim S64x4864 ![] bcast_S_S64x4864 (constant S_ .f32 0x00000000#32) : (Proc.devRef .tc main_while0b_v70 : DevRef τ sig).ty.Contents (Elt F)) = Cert.ReferenceIdeal.Step.b24 j s := by
  unfold Cert.ReferenceIdeal.Step.b24
  rw [← al_23 h]
  try rfl
set_option maxRecDepth 8192 in
theorem al_25 (h : Holds V0 s j) : (maximumf (addf (Host.dotGeneral dot_S64x256_S256x4864_S64x4864_1_0_0_1_n_n none (maximumf (addf (Host.dotGeneral dot_S64x256_S256x256_S64x256_1_0_0_1_n_n none (res_main_while0b_v59 V0) (V0 (Proc.devRef .tc main_v51_0))) (broadcastInDim S64x256 ![0, 1] bcast_S1x256_S64x256_0_1 (broadcastInDim S1x256 ![1] bcast_S256_S1x256_1 (V0 (Proc.devRef .tc main_v51_1))))) (broadcastInDim S64x256 ![] bcast_S_S64x256 (constant S_ .f32 0x00000000#32))) (V0 (Proc.devRef .tc main_v51_2))) (broadcastInDim S64x4864 ![0, 1] bcast_S1x4864_S64x4864_0_1 (broadcastInDim S1x4864 ![1] bcast_S4864_S1x4864_1 (V0 (Proc.devRef .tc main_v51_3))))) (broadcastInDim S64x4864 ![] bcast_S_S64x4864 (constant S_ .f32 0x00000000#32)) : (Proc.devRef .tc main_while0b_v71 : DevRef τ sig).ty.Contents (Elt F)) = Cert.ReferenceIdeal.Step.b25 j s := by
  unfold Cert.ReferenceIdeal.Step.b25
  rw [← al_22 h, ← al_24 h]
  try rfl
set_option maxRecDepth 8192 in
theorem al_26 (h : Holds V0 s j) : (shapeCast S64x1x19x256 (maximumf (addf (Host.dotGeneral dot_S64x256_S256x4864_S64x4864_1_0_0_1_n_n none (maximumf (addf (Host.dotGeneral dot_S64x256_S256x256_S64x256_1_0_0_1_n_n none (res_main_while0b_v59 V0) (V0 (Proc.devRef .tc main_v51_0))) (broadcastInDim S64x256 ![0, 1] bcast_S1x256_S64x256_0_1 (broadcastInDim S1x256 ![1] bcast_S256_S1x256_1 (V0 (Proc.devRef .tc main_v51_1))))) (broadcastInDim S64x256 ![] bcast_S_S64x256 (constant S_ .f32 0x00000000#32))) (V0 (Proc.devRef .tc main_v51_2))) (broadcastInDim S64x4864 ![0, 1] bcast_S1x4864_S64x4864_0_1 (broadcastInDim S1x4864 ![1] bcast_S4864_S1x4864_1 (V0 (Proc.devRef .tc main_v51_3))))) (broadcastInDim S64x4864 ![] bcast_S_S64x4864 (constant S_ .f32 0x00000000#32))) shapeCasts_S64x4864_S64x1x19x256 : (Proc.devRef .tc main_while0b_v72 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (constantI S_ 32 0#32 : (Proc.devRef .tc main_while0b_c_36 : DevRef τ sig).ty.Contents (Elt F)) = Cert.ReferenceIdeal.Step.b27 j s := by
  unfold Cert.ReferenceIdeal.Step.b27
  rfl
set_option maxRecDepth 8192 in
theorem al_28 (h : Holds V0 s j) : (cmpi .slt (V0 (Proc.devRef .tc main_v51_18)) (constantI S_ 32 0#32) : (Proc.devRef .tc main_while0b_v73 : DevRef τ sig).ty.Contents (Elt F)) = Cert.ReferenceIdeal.Step.b28 j s := by
  unfold Cert.ReferenceIdeal.Step.b28
  rw [← al_27 h, h.n_18]
  try rfl
set_option maxRecDepth 8192 in
theorem al_29 (h : Holds V0 s j) : (id (V0 (Proc.devRef .tc main_v51_18)) : (Proc.devRef .tc main_while0b_v74 : DevRef τ sig).ty.Contents (Elt F)) = Cert.ReferenceIdeal.Step.b29 j s := by
  unfold Cert.ReferenceIdeal.Step.b29
  rw [h.n_18]
  try rfl
set_option maxRecDepth 8192 in
theorem al_30 (h : Holds V0 s j) : (constantI S_ 32 12#32 : (Proc.devRef .tc main_while0b_c_37 : DevRef τ sig).ty.Contents (Elt F)) = Cert.ReferenceIdeal.Step.b30 j s := by
  unfold Cert.ReferenceIdeal.Step.b30
  rfl
set_option maxRecDepth 8192 in
theorem al_31 (h : Holds V0 s j) : (addi (id (V0 (Proc.devRef .tc main_v51_18))) (constantI S_ 32 12#32) : (Proc.devRef .tc main_while0b_v75 : DevRef τ sig).ty.Contents (Elt F)) = Cert.ReferenceIdeal.Step.b31 j s := by
  unfold Cert.ReferenceIdeal.Step.b31
  rw [← al_29 h, ← al_30 h]
  try rfl
set_option maxRecDepth 8192 in
theorem al_32 (h : Holds V0 s j) : (select (cmpi .slt (V0 (Proc.devRef .tc main_v51_18)) (constantI S_ 32 0#32)) (addi (id (V0 (Proc.devRef .tc main_v51_18))) (constantI S_ 32 12#32)) (V0 (Proc.devRef .tc main_v51_18)) : (Proc.devRef .tc main_while0b_v76 : DevRef τ sig).ty.Contents (Elt F)) = Cert.ReferenceIdeal.Step.b32 j s := by
  unfold Cert.ReferenceIdeal.Step.b32
  rw [← al_28 h, ← al_31 h, h.n_18]
  try rfl
set_option maxRecDepth 8192 in
theorem al_33 (h : Holds V0 s j) : (constantI S_ 32 0#32 : (Proc.devRef .tc main_while0b_c_38 : DevRef τ sig).ty.Contents (Elt F)) = Cert.ReferenceIdeal.Step.b33 j s := by
  unfold Cert.ReferenceIdeal.Step.b33
  rfl
set_option maxRecDepth 8192 in
theorem al_34 (h : Holds V0 s j) : (Host.dynamicSlice S64x1 (V0 (Proc.devRef .tc main_v51_4)) (fun k => (((![constantI S_ 32 0#32, select (cmpi .slt (V0 (Proc.devRef .tc main_v51_18)) (constantI S_ 32 0#32)) (addi (id (V0 (Proc.devRef .tc main_v51_18))) (constantI S_ 32 12#32)) (V0 (Proc.devRef .tc main_v51_18))] : Fin 2 → (⟨S_, .i32⟩ : BufTy).Contents (Elt F))) k (Shape.Idx.first h_S_)).toInt) sliceFits_S64x12_S64x1 : (Proc.devRef .tc main_while0b_v77 : DevRef τ sig).ty.Contents (Elt F)) = Cert.ReferenceIdeal.Step.b34 j s := by
  unfold Cert.ReferenceIdeal.Step.b34
  rw [← al_33 h, ← al_32 h, h.f_4]
  try rfl
set_option maxRecDepth 8192 in
theorem al_35 (h : Holds V0 s j) : (broadcastInDim S64x1x1x1 ![0, 1] bcast_S64x1_S64x1x1x1_0_1 (Host.dynamicSlice S64x1 (V0 (Proc.devRef .tc main_v51_4)) (fun k => (((![constantI S_ 32 0#32, select (cmpi .slt (V0 (Proc.devRef .tc main_v51_18)) (constantI S_ 32 0#32)) (addi (id (V0 (Proc.devRef .tc main_v51_18))) (constantI S_ 32 12#32)) (V0 (Proc.devRef .tc main_v51_18))] : Fin 2 → (⟨S_, .i32⟩ : BufTy).Contents (Elt F))) k (Shape.Idx.first h_S_)).toInt) sliceFits_S64x12_S64x1) : (Proc.devRef .tc main_while0b_v78 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (broadcastInDim S64x1x19x256 ![0, 1, 2, 3] bcast_S64x1x1x1_S64x1x19x256_0_1_2_3 (broadcastInDim S64x1x1x1 ![0, 1] bcast_S64x1_S64x1x1x1_0_1 (Host.dynamicSlice S64x1 (V0 (Proc.devRef .tc main_v51_4)) (fun k => (((![constantI S_ 32 0#32, select (cmpi .slt (V0 (Proc.devRef .tc main_v51_18)) (constantI S_ 32 0#32)) (addi (id (V0 (Proc.devRef .tc main_v51_18))) (constantI S_ 32 12#32)) (V0 (Proc.devRef .tc main_v51_18))] : Fin 2 → (⟨S_, .i32⟩ : BufTy).Contents (Elt F))) k (Shape.Idx.first h_S_)).toInt) sliceFits_S64x12_S64x1)) : (Proc.devRef .tc main_while0b_v79 : DevRef τ sig).ty.Contents (Elt F)) = Cert.ReferenceIdeal.Step.b36 j s := by
  unfold Cert.ReferenceIdeal.Step.b36
  rw [← al_35 h]
  try rfl
set_option maxRecDepth 8192 in
theorem al_37 (h : Holds V0 s j) : (res_main_while0b_v80 V0 : (Proc.devRef .tc main_while0b_v80 : DevRef τ sig).ty.Contents (Elt F)) = Cert.ReferenceIdeal.Step.b37 j s := by
  unfold res_main_while0b_v80 Cert.ReferenceIdeal.Step.b37
  rw [← al_26 h, ← al_36 h]
  try rfl
set_option maxRecDepth 8192 in
theorem al_38 (h : Holds V0 s j) : (Host.dotGeneral dot_S64x12x256_S256x256_S64x12x256_2_0_01_1_n_n none (V0 (Proc.devRef .tc main_v51_19)) (V0 (Proc.devRef .tc main_v51_5)) : (Proc.devRef .tc main_while0b_v81 : DevRef τ sig).ty.Contents (Elt F)) = Cert.ReferenceIdeal.Step.b38 j s := by
  unfold Cert.ReferenceIdeal.Step.b38
  rw [h.f_19, h.f_5]
  try rfl
set_option maxRecDepth 8192 in
theorem al_39 (h : Holds V0 s j) : (broadcastInDim S1x1x256 ![2] bcast_S256_S1x1x256_2 (V0 (Proc.devRef .tc main_v51_6)) : (Proc.devRef .tc main_while0b_v82 : DevRef τ sig).ty.Contents (Elt F)) = Cert.ReferenceIdeal.Step.b39 j s := by
  unfold Cert.ReferenceIdeal.Step.b39
  rw [h.f_6]
  try rfl
set_option maxRecDepth 8192 in
theorem al_40 (h : Holds V0 s j) : (broadcastInDim S64x12x256 ![0, 1, 2] bcast_S1x1x256_S64x12x256_0_1_2 (broadcastInDim S1x1x256 ![2] bcast_S256_S1x1x256_2 (V0 (Proc.devRef .tc main_v51_6))) : (Proc.devRef .tc main_while0b_v83 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (addf (Host.dotGeneral dot_S64x12x256_S256x256_S64x12x256_2_0_01_1_n_n none (V0 (Proc.devRef .tc main_v51_19)) (V0 (Proc.devRef .tc main_v51_5))) (broadcastInDim S64x12x256 ![0, 1, 2] bcast_S1x1x256_S64x12x256_0_1_2 (broadcastInDim S1x1x256 ![2] bcast_S256_S1x1x256_2 (V0 (Proc.devRef .tc main_v51_6)))) : (Proc.devRef .tc main_while0b_v84 : DevRef τ sig).ty.Contents (Elt F)) = Cert.ReferenceIdeal.Step.b41 j s := by
  unfold Cert.ReferenceIdeal.Step.b41
  rw [← al_38 h, ← al_40 h]
  try rfl
set_option maxRecDepth 8192 in
theorem al_42 (h : Holds V0 s j) : (constant S_ .f32 0x00000000#32 : (Proc.devRef .tc main_while0b_cst_39 : DevRef τ sig).ty.Contents (Elt F)) = Cert.ReferenceIdeal.Step.b42 j s := by
  unfold Cert.ReferenceIdeal.Step.b42
  rfl
set_option maxRecDepth 8192 in
theorem al_43 (h : Holds V0 s j) : (broadcastInDim S64x12x256 ![] bcast_S_S64x12x256 (constant S_ .f32 0x00000000#32) : (Proc.devRef .tc main_while0b_v85 : DevRef τ sig).ty.Contents (Elt F)) = Cert.ReferenceIdeal.Step.b43 j s := by
  unfold Cert.ReferenceIdeal.Step.b43
  rw [← al_42 h]
  try rfl
set_option maxRecDepth 8192 in
theorem al_44 (h : Holds V0 s j) : (maximumf (addf (Host.dotGeneral dot_S64x12x256_S256x256_S64x12x256_2_0_01_1_n_n none (V0 (Proc.devRef .tc main_v51_19)) (V0 (Proc.devRef .tc main_v51_5))) (broadcastInDim S64x12x256 ![0, 1, 2] bcast_S1x1x256_S64x12x256_0_1_2 (broadcastInDim S1x1x256 ![2] bcast_S256_S1x1x256_2 (V0 (Proc.devRef .tc main_v51_6))))) (broadcastInDim S64x12x256 ![] bcast_S_S64x12x256 (constant S_ .f32 0x00000000#32)) : (Proc.devRef .tc main_while0b_v86 : DevRef τ sig).ty.Contents (Elt F)) = Cert.ReferenceIdeal.Step.b44 j s := by
  unfold Cert.ReferenceIdeal.Step.b44
  rw [← al_41 h, ← al_43 h]
  try rfl
set_option maxRecDepth 8192 in
theorem al_45 (h : Holds V0 s j) : (Host.dotGeneral dot_S64x12x256_S256x512_S64x12x512_2_0_01_1_n_n none (maximumf (addf (Host.dotGeneral dot_S64x12x256_S256x256_S64x12x256_2_0_01_1_n_n none (V0 (Proc.devRef .tc main_v51_19)) (V0 (Proc.devRef .tc main_v51_5))) (broadcastInDim S64x12x256 ![0, 1, 2] bcast_S1x1x256_S64x12x256_0_1_2 (broadcastInDim S1x1x256 ![2] bcast_S256_S1x1x256_2 (V0 (Proc.devRef .tc main_v51_6))))) (broadcastInDim S64x12x256 ![] bcast_S_S64x12x256 (constant S_ .f32 0x00000000#32))) (V0 (Proc.devRef .tc main_v51_7)) : (Proc.devRef .tc main_while0b_v87 : DevRef τ sig).ty.Contents (Elt F)) = Cert.ReferenceIdeal.Step.b45 j s := by
  unfold Cert.ReferenceIdeal.Step.b45
  rw [← al_44 h, h.f_7]
  try rfl
set_option maxRecDepth 8192 in
theorem al_46 (h : Holds V0 s j) : (broadcastInDim S1x1x512 ![2] bcast_S512_S1x1x512_2 (V0 (Proc.devRef .tc main_v51_8)) : (Proc.devRef .tc main_while0b_v88 : DevRef τ sig).ty.Contents (Elt F)) = Cert.ReferenceIdeal.Step.b46 j s := by
  unfold Cert.ReferenceIdeal.Step.b46
  rw [h.f_8]
  try rfl
set_option maxRecDepth 8192 in
theorem al_47 (h : Holds V0 s j) : (broadcastInDim S64x12x512 ![0, 1, 2] bcast_S1x1x512_S64x12x512_0_1_2 (broadcastInDim S1x1x512 ![2] bcast_S512_S1x1x512_2 (V0 (Proc.devRef .tc main_v51_8))) : (Proc.devRef .tc main_while0b_v89 : DevRef τ sig).ty.Contents (Elt F)) = Cert.ReferenceIdeal.Step.b47 j s := by
  unfold Cert.ReferenceIdeal.Step.b47
  rw [← al_46 h]
  try rfl
set_option maxRecDepth 8192 in
theorem al_48 (h : Holds V0 s j) : (addf (Host.dotGeneral dot_S64x12x256_S256x512_S64x12x512_2_0_01_1_n_n none (maximumf (addf (Host.dotGeneral dot_S64x12x256_S256x256_S64x12x256_2_0_01_1_n_n none (V0 (Proc.devRef .tc main_v51_19)) (V0 (Proc.devRef .tc main_v51_5))) (broadcastInDim S64x12x256 ![0, 1, 2] bcast_S1x1x256_S64x12x256_0_1_2 (broadcastInDim S1x1x256 ![2] bcast_S256_S1x1x256_2 (V0 (Proc.devRef .tc main_v51_6))))) (broadcastInDim S64x12x256 ![] bcast_S_S64x12x256 (constant S_ .f32 0x00000000#32))) (V0 (Proc.devRef .tc main_v51_7))) (broadcastInDim S64x12x512 ![0, 1, 2] bcast_S1x1x512_S64x12x512_0_1_2 (broadcastInDim S1x1x512 ![2] bcast_S512_S1x1x512_2 (V0 (Proc.devRef .tc main_v51_8)))) : (Proc.devRef .tc main_while0b_v90 : DevRef τ sig).ty.Contents (Elt F)) = Cert.ReferenceIdeal.Step.b48 j s := by
  unfold Cert.ReferenceIdeal.Step.b48
  rw [← al_45 h, ← al_47 h]
  try rfl
set_option maxRecDepth 8192 in
theorem al_49 (h : Holds V0 s j) : (constant S_ .f32 0x00000000#32 : (Proc.devRef .tc main_while0b_cst_40 : DevRef τ sig).ty.Contents (Elt F)) = Cert.ReferenceIdeal.Step.b49 j s := by
  unfold Cert.ReferenceIdeal.Step.b49
  rfl
set_option maxRecDepth 8192 in
theorem al_50 (h : Holds V0 s j) : (broadcastInDim S64x12x512 ![] bcast_S_S64x12x512 (constant S_ .f32 0x00000000#32) : (Proc.devRef .tc main_while0b_v91 : DevRef τ sig).ty.Contents (Elt F)) = Cert.ReferenceIdeal.Step.b50 j s := by
  unfold Cert.ReferenceIdeal.Step.b50
  rw [← al_49 h]
  try rfl
set_option maxRecDepth 8192 in
theorem al_51 (h : Holds V0 s j) : (maximumf (addf (Host.dotGeneral dot_S64x12x256_S256x512_S64x12x512_2_0_01_1_n_n none (maximumf (addf (Host.dotGeneral dot_S64x12x256_S256x256_S64x12x256_2_0_01_1_n_n none (V0 (Proc.devRef .tc main_v51_19)) (V0 (Proc.devRef .tc main_v51_5))) (broadcastInDim S64x12x256 ![0, 1, 2] bcast_S1x1x256_S64x12x256_0_1_2 (broadcastInDim S1x1x256 ![2] bcast_S256_S1x1x256_2 (V0 (Proc.devRef .tc main_v51_6))))) (broadcastInDim S64x12x256 ![] bcast_S_S64x12x256 (constant S_ .f32 0x00000000#32))) (V0 (Proc.devRef .tc main_v51_7))) (broadcastInDim S64x12x512 ![0, 1, 2] bcast_S1x1x512_S64x12x512_0_1_2 (broadcastInDim S1x1x512 ![2] bcast_S512_S1x1x512_2 (V0 (Proc.devRef .tc main_v51_8))))) (broadcastInDim S64x12x512 ![] bcast_S_S64x12x512 (constant S_ .f32 0x00000000#32)) : (Proc.devRef .tc main_while0b_v92 : DevRef τ sig).ty.Contents (Elt F)) = Cert.ReferenceIdeal.Step.b51 j s := by
  unfold Cert.ReferenceIdeal.Step.b51
  rw [← al_48 h, ← al_50 h]
  try rfl
set_option maxRecDepth 8192 in
theorem al_52 (h : Holds V0 s j) : (broadcastInDim S64x12x1x512 ![0, 1, 3] bcast_S64x12x512_S64x12x1x512_0_1_3 (maximumf (addf (Host.dotGeneral dot_S64x12x256_S256x512_S64x12x512_2_0_01_1_n_n none (maximumf (addf (Host.dotGeneral dot_S64x12x256_S256x256_S64x12x256_2_0_01_1_n_n none (V0 (Proc.devRef .tc main_v51_19)) (V0 (Proc.devRef .tc main_v51_5))) (broadcastInDim S64x12x256 ![0, 1, 2] bcast_S1x1x256_S64x12x256_0_1_2 (broadcastInDim S1x1x256 ![2] bcast_S256_S1x1x256_2 (V0 (Proc.devRef .tc main_v51_6))))) (broadcastInDim S64x12x256 ![] bcast_S_S64x12x256 (constant S_ .f32 0x00000000#32))) (V0 (Proc.devRef .tc main_v51_7))) (broadcastInDim S64x12x512 ![0, 1, 2] bcast_S1x1x512_S64x12x512_0_1_2 (broadcastInDim S1x1x512 ![2] bcast_S512_S1x1x512_2 (V0 (Proc.devRef .tc main_v51_8))))) (broadcastInDim S64x12x512 ![] bcast_S_S64x12x512 (constant S_ .f32 0x00000000#32))) : (Proc.devRef .tc main_while0b_v93 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (broadcastInDim S64x12x19x512 ![0, 1, 2, 3] bcast_S64x12x1x512_S64x12x19x512_0_1_2_3 (broadcastInDim S64x12x1x512 ![0, 1, 3] bcast_S64x12x512_S64x12x1x512_0_1_3 (maximumf (addf (Host.dotGeneral dot_S64x12x256_S256x512_S64x12x512_2_0_01_1_n_n none (maximumf (addf (Host.dotGeneral dot_S64x12x256_S256x256_S64x12x256_2_0_01_1_n_n none (V0 (Proc.devRef .tc main_v51_19)) (V0 (Proc.devRef .tc main_v51_5))) (broadcastInDim S64x12x256 ![0, 1, 2] bcast_S1x1x256_S64x12x256_0_1_2 (broadcastInDim S1x1x256 ![2] bcast_S256_S1x1x256_2 (V0 (Proc.devRef .tc main_v51_6))))) (broadcastInDim S64x12x256 ![] bcast_S_S64x12x256 (constant S_ .f32 0x00000000#32))) (V0 (Proc.devRef .tc main_v51_7))) (broadcastInDim S64x12x512 ![0, 1, 2] bcast_S1x1x512_S64x12x512_0_1_2 (broadcastInDim S1x1x512 ![2] bcast_S512_S1x1x512_2 (V0 (Proc.devRef .tc main_v51_8))))) (broadcastInDim S64x12x512 ![] bcast_S_S64x12x512 (constant S_ .f32 0x00000000#32)))) : (Proc.devRef .tc main_while0b_v94 : DevRef τ sig).ty.Contents (Elt F)) = Cert.ReferenceIdeal.Step.b53 j s := by
  unfold Cert.ReferenceIdeal.Step.b53
  rw [← al_52 h]
  try rfl
set_option maxRecDepth 8192 in
theorem al_54 (h : Holds V0 s j) : (broadcastInDim S64x1x1x256 ![0, 3] bcast_S64x256_S64x1x1x256_0_3 (res_main_while0b_v59 V0) : (Proc.devRef .tc main_while0b_v95 : DevRef τ sig).ty.Contents (Elt F)) = Cert.ReferenceIdeal.Step.b54 j s := by
  unfold Cert.ReferenceIdeal.Step.b54
  rw [← al_11 h]
  try rfl
set_option maxRecDepth 8192 in
theorem al_55 (h : Holds V0 s j) : (broadcastInDim S64x1x19x256 ![0, 1, 2, 3] bcast_S64x1x1x256_S64x1x19x256_0_1_2_3 (broadcastInDim S64x1x1x256 ![0, 3] bcast_S64x256_S64x1x1x256_0_3 (res_main_while0b_v59 V0)) : (Proc.devRef .tc main_while0b_v96 : DevRef τ sig).ty.Contents (Elt F)) = Cert.ReferenceIdeal.Step.b55 j s := by
  unfold Cert.ReferenceIdeal.Step.b55
  rw [← al_54 h]
  try rfl
set_option maxRecDepth 8192 in
theorem al_56 (h : Holds V0 s j) : (addf (broadcastInDim S64x1x19x256 ![0, 1, 2, 3] bcast_S64x1x1x256_S64x1x19x256_0_1_2_3 (broadcastInDim S64x1x1x256 ![0, 3] bcast_S64x256_S64x1x1x256_0_3 (res_main_while0b_v59 V0))) (V0 (Proc.devRef .tc main_v51_9)) : (Proc.devRef .tc main_while0b_v97 : DevRef τ sig).ty.Contents (Elt F)) = Cert.ReferenceIdeal.Step.b56 j s := by
  unfold Cert.ReferenceIdeal.Step.b56
  rw [← al_55 h, h.f_9]
  try rfl
set_option maxRecDepth 8192 in
theorem al_57 (h : Holds V0 s j) : (Host.dotGeneral dot_S64x1x19x256_S256x256_S64x1x19x256_3_0_012_1_n_n none (addf (broadcastInDim S64x1x19x256 ![0, 1, 2, 3] bcast_S64x1x1x256_S64x1x19x256_0_1_2_3 (broadcastInDim S64x1x1x256 ![0, 3] bcast_S64x256_S64x1x1x256_0_3 (res_main_while0b_v59 V0))) (V0 (Proc.devRef .tc main_v51_9))) (V0 (Proc.devRef .tc main_v51_5)) : (Proc.devRef .tc main_while0b_v98 : DevRef τ sig).ty.Contents (Elt F)) = Cert.ReferenceIdeal.Step.b57 j s := by
  unfold Cert.ReferenceIdeal.Step.b57
  rw [← al_56 h, h.f_5]
  try rfl
set_option maxRecDepth 8192 in
theorem al_58 (h : Holds V0 s j) : (broadcastInDim S1x1x1x256 ![3] bcast_S256_S1x1x1x256_3 (V0 (Proc.devRef .tc main_v51_6)) : (Proc.devRef .tc main_while0b_v99 : DevRef τ sig).ty.Contents (Elt F)) = Cert.ReferenceIdeal.Step.b58 j s := by
  unfold Cert.ReferenceIdeal.Step.b58
  rw [h.f_6]
  try rfl
set_option maxRecDepth 8192 in
theorem al_59 (h : Holds V0 s j) : (broadcastInDim S64x1x19x256 ![0, 1, 2, 3] bcast_S1x1x1x256_S64x1x19x256_0_1_2_3 (broadcastInDim S1x1x1x256 ![3] bcast_S256_S1x1x1x256_3 (V0 (Proc.devRef .tc main_v51_6))) : (Proc.devRef .tc main_while0b_v100 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (addf (Host.dotGeneral dot_S64x1x19x256_S256x256_S64x1x19x256_3_0_012_1_n_n none (addf (broadcastInDim S64x1x19x256 ![0, 1, 2, 3] bcast_S64x1x1x256_S64x1x19x256_0_1_2_3 (broadcastInDim S64x1x1x256 ![0, 3] bcast_S64x256_S64x1x1x256_0_3 (res_main_while0b_v59 V0))) (V0 (Proc.devRef .tc main_v51_9))) (V0 (Proc.devRef .tc main_v51_5))) (broadcastInDim S64x1x19x256 ![0, 1, 2, 3] bcast_S1x1x1x256_S64x1x19x256_0_1_2_3 (broadcastInDim S1x1x1x256 ![3] bcast_S256_S1x1x1x256_3 (V0 (Proc.devRef .tc main_v51_6)))) : (Proc.devRef .tc main_while0b_v101 : DevRef τ sig).ty.Contents (Elt F)) = Cert.ReferenceIdeal.Step.b60 j s := by
  unfold Cert.ReferenceIdeal.Step.b60
  rw [← al_57 h, ← al_59 h]
  try rfl
set_option maxRecDepth 8192 in
theorem al_61 (h : Holds V0 s j) : (constant S_ .f32 0x00000000#32 : (Proc.devRef .tc main_while0b_cst_41 : DevRef τ sig).ty.Contents (Elt F)) = Cert.ReferenceIdeal.Step.b61 j s := by
  unfold Cert.ReferenceIdeal.Step.b61
  rfl
set_option maxRecDepth 8192 in
theorem al_62 (h : Holds V0 s j) : (broadcastInDim S64x1x19x256 ![] bcast_S_S64x1x19x256 (constant S_ .f32 0x00000000#32) : (Proc.devRef .tc main_while0b_v102 : DevRef τ sig).ty.Contents (Elt F)) = Cert.ReferenceIdeal.Step.b62 j s := by
  unfold Cert.ReferenceIdeal.Step.b62
  rw [← al_61 h]
  try rfl
set_option maxRecDepth 8192 in
theorem al_63 (h : Holds V0 s j) : (maximumf (addf (Host.dotGeneral dot_S64x1x19x256_S256x256_S64x1x19x256_3_0_012_1_n_n none (addf (broadcastInDim S64x1x19x256 ![0, 1, 2, 3] bcast_S64x1x1x256_S64x1x19x256_0_1_2_3 (broadcastInDim S64x1x1x256 ![0, 3] bcast_S64x256_S64x1x1x256_0_3 (res_main_while0b_v59 V0))) (V0 (Proc.devRef .tc main_v51_9))) (V0 (Proc.devRef .tc main_v51_5))) (broadcastInDim S64x1x19x256 ![0, 1, 2, 3] bcast_S1x1x1x256_S64x1x19x256_0_1_2_3 (broadcastInDim S1x1x1x256 ![3] bcast_S256_S1x1x1x256_3 (V0 (Proc.devRef .tc main_v51_6))))) (broadcastInDim S64x1x19x256 ![] bcast_S_S64x1x19x256 (constant S_ .f32 0x00000000#32)) : (Proc.devRef .tc main_while0b_v103 : DevRef τ sig).ty.Contents (Elt F)) = Cert.ReferenceIdeal.Step.b63 j s := by
  unfold Cert.ReferenceIdeal.Step.b63
  rw [← al_60 h, ← al_62 h]
  try rfl
set_option maxRecDepth 8192 in
theorem al_64 (h : Holds V0 s j) : (Host.dotGeneral dot_S64x1x19x256_S256x512_S64x1x19x512_3_0_012_1_n_n none (maximumf (addf (Host.dotGeneral dot_S64x1x19x256_S256x256_S64x1x19x256_3_0_012_1_n_n none (addf (broadcastInDim S64x1x19x256 ![0, 1, 2, 3] bcast_S64x1x1x256_S64x1x19x256_0_1_2_3 (broadcastInDim S64x1x1x256 ![0, 3] bcast_S64x256_S64x1x1x256_0_3 (res_main_while0b_v59 V0))) (V0 (Proc.devRef .tc main_v51_9))) (V0 (Proc.devRef .tc main_v51_5))) (broadcastInDim S64x1x19x256 ![0, 1, 2, 3] bcast_S1x1x1x256_S64x1x19x256_0_1_2_3 (broadcastInDim S1x1x1x256 ![3] bcast_S256_S1x1x1x256_3 (V0 (Proc.devRef .tc main_v51_6))))) (broadcastInDim S64x1x19x256 ![] bcast_S_S64x1x19x256 (constant S_ .f32 0x00000000#32))) (V0 (Proc.devRef .tc main_v51_7)) : (Proc.devRef .tc main_while0b_v104 : DevRef τ sig).ty.Contents (Elt F)) = Cert.ReferenceIdeal.Step.b64 j s := by
  unfold Cert.ReferenceIdeal.Step.b64
  rw [← al_63 h, h.f_7]
  try rfl
set_option maxRecDepth 8192 in
theorem al_65 (h : Holds V0 s j) : (broadcastInDim S1x1x1x512 ![3] bcast_S512_S1x1x1x512_3 (V0 (Proc.devRef .tc main_v51_8)) : (Proc.devRef .tc main_while0b_v105 : DevRef τ sig).ty.Contents (Elt F)) = Cert.ReferenceIdeal.Step.b65 j s := by
  unfold Cert.ReferenceIdeal.Step.b65
  rw [h.f_8]
  try rfl
set_option maxRecDepth 8192 in
theorem al_66 (h : Holds V0 s j) : (broadcastInDim S64x1x19x512 ![0, 1, 2, 3] bcast_S1x1x1x512_S64x1x19x512_0_1_2_3 (broadcastInDim S1x1x1x512 ![3] bcast_S512_S1x1x1x512_3 (V0 (Proc.devRef .tc main_v51_8))) : (Proc.devRef .tc main_while0b_v106 : DevRef τ sig).ty.Contents (Elt F)) = Cert.ReferenceIdeal.Step.b66 j s := by
  unfold Cert.ReferenceIdeal.Step.b66
  rw [← al_65 h]
  try rfl
set_option maxRecDepth 8192 in
theorem al_67 (h : Holds V0 s j) : (addf (Host.dotGeneral dot_S64x1x19x256_S256x512_S64x1x19x512_3_0_012_1_n_n none (maximumf (addf (Host.dotGeneral dot_S64x1x19x256_S256x256_S64x1x19x256_3_0_012_1_n_n none (addf (broadcastInDim S64x1x19x256 ![0, 1, 2, 3] bcast_S64x1x1x256_S64x1x19x256_0_1_2_3 (broadcastInDim S64x1x1x256 ![0, 3] bcast_S64x256_S64x1x1x256_0_3 (res_main_while0b_v59 V0))) (V0 (Proc.devRef .tc main_v51_9))) (V0 (Proc.devRef .tc main_v51_5))) (broadcastInDim S64x1x19x256 ![0, 1, 2, 3] bcast_S1x1x1x256_S64x1x19x256_0_1_2_3 (broadcastInDim S1x1x1x256 ![3] bcast_S256_S1x1x1x256_3 (V0 (Proc.devRef .tc main_v51_6))))) (broadcastInDim S64x1x19x256 ![] bcast_S_S64x1x19x256 (constant S_ .f32 0x00000000#32))) (V0 (Proc.devRef .tc main_v51_7))) (broadcastInDim S64x1x19x512 ![0, 1, 2, 3] bcast_S1x1x1x512_S64x1x19x512_0_1_2_3 (broadcastInDim S1x1x1x512 ![3] bcast_S512_S1x1x1x512_3 (V0 (Proc.devRef .tc main_v51_8)))) : (Proc.devRef .tc main_while0b_v107 : DevRef τ sig).ty.Contents (Elt F)) = Cert.ReferenceIdeal.Step.b67 j s := by
  unfold Cert.ReferenceIdeal.Step.b67
  rw [← al_64 h, ← al_66 h]
  try rfl
set_option maxRecDepth 8192 in
theorem al_68 (h : Holds V0 s j) : (constant S_ .f32 0x00000000#32 : (Proc.devRef .tc main_while0b_cst_42 : DevRef τ sig).ty.Contents (Elt F)) = Cert.ReferenceIdeal.Step.b68 j s := by
  unfold Cert.ReferenceIdeal.Step.b68
  rfl
set_option maxRecDepth 8192 in
theorem al_69 (h : Holds V0 s j) : (broadcastInDim S64x1x19x512 ![] bcast_S_S64x1x19x512 (constant S_ .f32 0x00000000#32) : (Proc.devRef .tc main_while0b_v108 : DevRef τ sig).ty.Contents (Elt F)) = Cert.ReferenceIdeal.Step.b69 j s := by
  unfold Cert.ReferenceIdeal.Step.b69
  rw [← al_68 h]
  try rfl
set_option maxRecDepth 8192 in
theorem al_70 (h : Holds V0 s j) : (maximumf (addf (Host.dotGeneral dot_S64x1x19x256_S256x512_S64x1x19x512_3_0_012_1_n_n none (maximumf (addf (Host.dotGeneral dot_S64x1x19x256_S256x256_S64x1x19x256_3_0_012_1_n_n none (addf (broadcastInDim S64x1x19x256 ![0, 1, 2, 3] bcast_S64x1x1x256_S64x1x19x256_0_1_2_3 (broadcastInDim S64x1x1x256 ![0, 3] bcast_S64x256_S64x1x1x256_0_3 (res_main_while0b_v59 V0))) (V0 (Proc.devRef .tc main_v51_9))) (V0 (Proc.devRef .tc main_v51_5))) (broadcastInDim S64x1x19x256 ![0, 1, 2, 3] bcast_S1x1x1x256_S64x1x19x256_0_1_2_3 (broadcastInDim S1x1x1x256 ![3] bcast_S256_S1x1x1x256_3 (V0 (Proc.devRef .tc main_v51_6))))) (broadcastInDim S64x1x19x256 ![] bcast_S_S64x1x19x256 (constant S_ .f32 0x00000000#32))) (V0 (Proc.devRef .tc main_v51_7))) (broadcastInDim S64x1x19x512 ![0, 1, 2, 3] bcast_S1x1x1x512_S64x1x19x512_0_1_2_3 (broadcastInDim S1x1x1x512 ![3] bcast_S512_S1x1x1x512_3 (V0 (Proc.devRef .tc main_v51_8))))) (broadcastInDim S64x1x19x512 ![] bcast_S_S64x1x19x512 (constant S_ .f32 0x00000000#32)) : (Proc.devRef .tc main_while0b_v109 : DevRef τ sig).ty.Contents (Elt F)) = Cert.ReferenceIdeal.Step.b70 j s := by
  unfold Cert.ReferenceIdeal.Step.b70
  rw [← al_67 h, ← al_69 h]
  try rfl
set_option maxRecDepth 8192 in
theorem al_71 (h : Holds V0 s j) : (id (V0 (Proc.devRef .tc main_v51_18)) : (Proc.devRef .tc main_while0b_v110 : DevRef τ sig).ty.Contents (Elt F)) = Cert.ReferenceIdeal.Step.b71 j s := by
  unfold Cert.ReferenceIdeal.Step.b71
  rw [h.n_18]
  try rfl
set_option maxRecDepth 8192 in
theorem al_72 (h : Holds V0 s j) : (broadcastInDim S64x12x19x512 ![] bcast_S_S64x12x19x512 (id (V0 (Proc.devRef .tc main_v51_18))) : (Proc.devRef .tc main_while0b_v111 : DevRef τ sig).ty.Contents (Elt F)) = Cert.ReferenceIdeal.Step.b72 j s := by
  unfold Cert.ReferenceIdeal.Step.b72
  rw [← al_71 h]
  try rfl
set_option maxRecDepth 8192 in
theorem al_73 (h : Holds V0 s j) : (cmpi .eq (V0 (Proc.devRef .tc main_v51_10)) (broadcastInDim S64x12x19x512 ![] bcast_S_S64x12x19x512 (id (V0 (Proc.devRef .tc main_v51_18)))) : (Proc.devRef .tc main_while0b_v112 : DevRef τ sig).ty.Contents (Elt F)) = Cert.ReferenceIdeal.Step.b73 j s := by
  unfold Cert.ReferenceIdeal.Step.b73
  rw [← al_72 h, h.k_10]
  try rfl
set_option maxRecDepth 8192 in
theorem al_74 (h : Holds V0 s j) : (broadcastInDim S64x12x19x512 ![0, 1, 2, 3] bcast_S64x1x19x512_S64x12x19x512_0_1_2_3 (maximumf (addf (Host.dotGeneral dot_S64x1x19x256_S256x512_S64x1x19x512_3_0_012_1_n_n none (maximumf (addf (Host.dotGeneral dot_S64x1x19x256_S256x256_S64x1x19x256_3_0_012_1_n_n none (addf (broadcastInDim S64x1x19x256 ![0, 1, 2, 3] bcast_S64x1x1x256_S64x1x19x256_0_1_2_3 (broadcastInDim S64x1x1x256 ![0, 3] bcast_S64x256_S64x1x1x256_0_3 (res_main_while0b_v59 V0))) (V0 (Proc.devRef .tc main_v51_9))) (V0 (Proc.devRef .tc main_v51_5))) (broadcastInDim S64x1x19x256 ![0, 1, 2, 3] bcast_S1x1x1x256_S64x1x19x256_0_1_2_3 (broadcastInDim S1x1x1x256 ![3] bcast_S256_S1x1x1x256_3 (V0 (Proc.devRef .tc main_v51_6))))) (broadcastInDim S64x1x19x256 ![] bcast_S_S64x1x19x256 (constant S_ .f32 0x00000000#32))) (V0 (Proc.devRef .tc main_v51_7))) (broadcastInDim S64x1x19x512 ![0, 1, 2, 3] bcast_S1x1x1x512_S64x1x19x512_0_1_2_3 (broadcastInDim S1x1x1x512 ![3] bcast_S512_S1x1x1x512_3 (V0 (Proc.devRef .tc main_v51_8))))) (broadcastInDim S64x1x19x512 ![] bcast_S_S64x1x19x512 (constant S_ .f32 0x00000000#32))) : (Proc.devRef .tc main_while0b_v113 : DevRef τ sig).ty.Contents (Elt F)) = Cert.ReferenceIdeal.Step.b74 j s := by
  unfold Cert.ReferenceIdeal.Step.b74
  rw [← al_70 h]
  try rfl
set_option maxRecDepth 8192 in
theorem al_75 (h : Holds V0 s j) : (select (cmpi .eq (V0 (Proc.devRef .tc main_v51_10)) (broadcastInDim S64x12x19x512 ![] bcast_S_S64x12x19x512 (id (V0 (Proc.devRef .tc main_v51_18))))) (broadcastInDim S64x12x19x512 ![0, 1, 2, 3] bcast_S64x1x19x512_S64x12x19x512_0_1_2_3 (maximumf (addf (Host.dotGeneral dot_S64x1x19x256_S256x512_S64x1x19x512_3_0_012_1_n_n none (maximumf (addf (Host.dotGeneral dot_S64x1x19x256_S256x256_S64x1x19x256_3_0_012_1_n_n none (addf (broadcastInDim S64x1x19x256 ![0, 1, 2, 3] bcast_S64x1x1x256_S64x1x19x256_0_1_2_3 (broadcastInDim S64x1x1x256 ![0, 3] bcast_S64x256_S64x1x1x256_0_3 (res_main_while0b_v59 V0))) (V0 (Proc.devRef .tc main_v51_9))) (V0 (Proc.devRef .tc main_v51_5))) (broadcastInDim S64x1x19x256 ![0, 1, 2, 3] bcast_S1x1x1x256_S64x1x19x256_0_1_2_3 (broadcastInDim S1x1x1x256 ![3] bcast_S256_S1x1x1x256_3 (V0 (Proc.devRef .tc main_v51_6))))) (broadcastInDim S64x1x19x256 ![] bcast_S_S64x1x19x256 (constant S_ .f32 0x00000000#32))) (V0 (Proc.devRef .tc main_v51_7))) (broadcastInDim S64x1x19x512 ![0, 1, 2, 3] bcast_S1x1x1x512_S64x1x19x512_0_1_2_3 (broadcastInDim S1x1x1x512 ![3] bcast_S512_S1x1x1x512_3 (V0 (Proc.devRef .tc main_v51_8))))) (broadcastInDim S64x1x19x512 ![] bcast_S_S64x1x19x512 (constant S_ .f32 0x00000000#32)))) (broadcastInDim S64x12x19x512 ![0, 1, 2, 3] bcast_S64x12x1x512_S64x12x19x512_0_1_2_3 (broadcastInDim S64x12x1x512 ![0, 1, 3] bcast_S64x12x512_S64x12x1x512_0_1_3 (maximumf (addf (Host.dotGeneral dot_S64x12x256_S256x512_S64x12x512_2_0_01_1_n_n none (maximumf (addf (Host.dotGeneral dot_S64x12x256_S256x256_S64x12x256_2_0_01_1_n_n none (V0 (Proc.devRef .tc main_v51_19)) (V0 (Proc.devRef .tc main_v51_5))) (broadcastInDim S64x12x256 ![0, 1, 2] bcast_S1x1x256_S64x12x256_0_1_2 (broadcastInDim S1x1x256 ![2] bcast_S256_S1x1x256_2 (V0 (Proc.devRef .tc main_v51_6))))) (broadcastInDim S64x12x256 ![] bcast_S_S64x12x256 (constant S_ .f32 0x00000000#32))) (V0 (Proc.devRef .tc main_v51_7))) (broadcastInDim S64x12x512 ![0, 1, 2] bcast_S1x1x512_S64x12x512_0_1_2 (broadcastInDim S1x1x512 ![2] bcast_S512_S1x1x512_2 (V0 (Proc.devRef .tc main_v51_8))))) (broadcastInDim S64x12x512 ![] bcast_S_S64x12x512 (constant S_ .f32 0x00000000#32))))) : (Proc.devRef .tc main_while0b_v114 : DevRef τ sig).ty.Contents (Elt F)) = Cert.ReferenceIdeal.Step.b75 j s := by
  unfold Cert.ReferenceIdeal.Step.b75
  rw [← al_73 h, ← al_74 h, ← al_53 h]
  try rfl
set_option maxRecDepth 8192 in
theorem al_76 (h : Holds V0 s j) : (extractStridedSlice S64x1x256 ![0, 11, 0] (V0 (Proc.devRef .tc main_v51_19)) slices_S64x12x256_S64x1x256_0_11_0 : (Proc.devRef .tc main_while0b_v115 : DevRef τ sig).ty.Contents (Elt F)) = Cert.ReferenceIdeal.Step.b76 j s := by
  unfold Cert.ReferenceIdeal.Step.b76
  rw [h.f_19]
  try rfl
set_option maxRecDepth 8192 in
theorem al_77 (h : Holds V0 s j) : (shapeCast S64x256 (extractStridedSlice S64x1x256 ![0, 11, 0] (V0 (Proc.devRef .tc main_v51_19)) slices_S64x12x256_S64x1x256_0_11_0) shapeCasts_S64x1x256_S64x256 : (Proc.devRef .tc main_while0b_v116 : DevRef τ sig).ty.Contents (Elt F)) = Cert.ReferenceIdeal.Step.b77 j s := by
  unfold Cert.ReferenceIdeal.Step.b77
  rw [← al_76 h]
  try rfl
set_option maxRecDepth 8192 in
theorem al_78 (h : Holds V0 s j) : (broadcastInDim S64x1x1x256 ![0, 3] bcast_S64x256_S64x1x1x256_0_3 (shapeCast S64x256 (extractStridedSlice S64x1x256 ![0, 11, 0] (V0 (Proc.devRef .tc main_v51_19)) slices_S64x12x256_S64x1x256_0_11_0) shapeCasts_S64x1x256_S64x256) : (Proc.devRef .tc main_while0b_v117 : DevRef τ sig).ty.Contents (Elt F)) = Cert.ReferenceIdeal.Step.b78 j s := by
  unfold Cert.ReferenceIdeal.Step.b78
  rw [← al_77 h]
  try rfl
set_option maxRecDepth 8192 in
theorem al_79 (h : Holds V0 s j) : (broadcastInDim S64x1x19x256 ![0, 1, 2, 3] bcast_S64x1x1x256_S64x1x19x256_0_1_2_3 (broadcastInDim S64x1x1x256 ![0, 3] bcast_S64x256_S64x1x1x256_0_3 (shapeCast S64x256 (extractStridedSlice S64x1x256 ![0, 11, 0] (V0 (Proc.devRef .tc main_v51_19)) slices_S64x12x256_S64x1x256_0_11_0) shapeCasts_S64x1x256_S64x256)) : (Proc.devRef .tc main_while0b_v118 : DevRef τ sig).ty.Contents (Elt F)) = Cert.ReferenceIdeal.Step.b79 j s := by
  unfold Cert.ReferenceIdeal.Step.b79
  rw [← al_78 h]
  try rfl
set_option maxRecDepth 8192 in
theorem al_80 (h : Holds V0 s j) : (addf (broadcastInDim S64x1x19x256 ![0, 1, 2, 3] bcast_S64x1x1x256_S64x1x19x256_0_1_2_3 (broadcastInDim S64x1x1x256 ![0, 3] bcast_S64x256_S64x1x1x256_0_3 (shapeCast S64x256 (extractStridedSlice S64x1x256 ![0, 11, 0] (V0 (Proc.devRef .tc main_v51_19)) slices_S64x12x256_S64x1x256_0_11_0) shapeCasts_S64x1x256_S64x256))) (res_main_while0b_v80 V0) : (Proc.devRef .tc main_while0b_v119 : DevRef τ sig).ty.Contents (Elt F)) = Cert.ReferenceIdeal.Step.b80 j s := by
  unfold Cert.ReferenceIdeal.Step.b80
  rw [← al_79 h, ← al_37 h]
  try rfl
set_option maxRecDepth 8192 in
theorem al_81 (h : Holds V0 s j) : (Host.dotGeneral dot_S64x1x19x256_S256x256_S64x1x19x256_3_0_012_1_n_n none (addf (broadcastInDim S64x1x19x256 ![0, 1, 2, 3] bcast_S64x1x1x256_S64x1x19x256_0_1_2_3 (broadcastInDim S64x1x1x256 ![0, 3] bcast_S64x256_S64x1x1x256_0_3 (shapeCast S64x256 (extractStridedSlice S64x1x256 ![0, 11, 0] (V0 (Proc.devRef .tc main_v51_19)) slices_S64x12x256_S64x1x256_0_11_0) shapeCasts_S64x1x256_S64x256))) (res_main_while0b_v80 V0)) (V0 (Proc.devRef .tc main_v51_5)) : (Proc.devRef .tc main_while0b_v120 : DevRef τ sig).ty.Contents (Elt F)) = Cert.ReferenceIdeal.Step.b81 j s := by
  unfold Cert.ReferenceIdeal.Step.b81
  rw [← al_80 h, h.f_5]
  try rfl
set_option maxRecDepth 8192 in
theorem al_82 (h : Holds V0 s j) : (broadcastInDim S1x1x1x256 ![3] bcast_S256_S1x1x1x256_3 (V0 (Proc.devRef .tc main_v51_6)) : (Proc.devRef .tc main_while0b_v121 : DevRef τ sig).ty.Contents (Elt F)) = Cert.ReferenceIdeal.Step.b82 j s := by
  unfold Cert.ReferenceIdeal.Step.b82
  rw [h.f_6]
  try rfl
set_option maxRecDepth 8192 in
theorem al_83 (h : Holds V0 s j) : (broadcastInDim S64x1x19x256 ![0, 1, 2, 3] bcast_S1x1x1x256_S64x1x19x256_0_1_2_3 (broadcastInDim S1x1x1x256 ![3] bcast_S256_S1x1x1x256_3 (V0 (Proc.devRef .tc main_v51_6))) : (Proc.devRef .tc main_while0b_v122 : DevRef τ sig).ty.Contents (Elt F)) = Cert.ReferenceIdeal.Step.b83 j s := by
  unfold Cert.ReferenceIdeal.Step.b83
  rw [← al_82 h]
  try rfl
set_option maxRecDepth 8192 in
theorem al_84 (h : Holds V0 s j) : (addf (Host.dotGeneral dot_S64x1x19x256_S256x256_S64x1x19x256_3_0_012_1_n_n none (addf (broadcastInDim S64x1x19x256 ![0, 1, 2, 3] bcast_S64x1x1x256_S64x1x19x256_0_1_2_3 (broadcastInDim S64x1x1x256 ![0, 3] bcast_S64x256_S64x1x1x256_0_3 (shapeCast S64x256 (extractStridedSlice S64x1x256 ![0, 11, 0] (V0 (Proc.devRef .tc main_v51_19)) slices_S64x12x256_S64x1x256_0_11_0) shapeCasts_S64x1x256_S64x256))) (res_main_while0b_v80 V0)) (V0 (Proc.devRef .tc main_v51_5))) (broadcastInDim S64x1x19x256 ![0, 1, 2, 3] bcast_S1x1x1x256_S64x1x19x256_0_1_2_3 (broadcastInDim S1x1x1x256 ![3] bcast_S256_S1x1x1x256_3 (V0 (Proc.devRef .tc main_v51_6)))) : (Proc.devRef .tc main_while0b_v123 : DevRef τ sig).ty.Contents (Elt F)) = Cert.ReferenceIdeal.Step.b84 j s := by
  unfold Cert.ReferenceIdeal.Step.b84
  rw [← al_81 h, ← al_83 h]
  try rfl
set_option maxRecDepth 8192 in
theorem al_85 (h : Holds V0 s j) : (constant S_ .f32 0x00000000#32 : (Proc.devRef .tc main_while0b_cst_43 : DevRef τ sig).ty.Contents (Elt F)) = Cert.ReferenceIdeal.Step.b85 j s := by
  unfold Cert.ReferenceIdeal.Step.b85
  rfl
set_option maxRecDepth 8192 in
theorem al_86 (h : Holds V0 s j) : (broadcastInDim S64x1x19x256 ![] bcast_S_S64x1x19x256 (constant S_ .f32 0x00000000#32) : (Proc.devRef .tc main_while0b_v124 : DevRef τ sig).ty.Contents (Elt F)) = Cert.ReferenceIdeal.Step.b86 j s := by
  unfold Cert.ReferenceIdeal.Step.b86
  rw [← al_85 h]
  try rfl
set_option maxRecDepth 8192 in
theorem al_87 (h : Holds V0 s j) : (maximumf (addf (Host.dotGeneral dot_S64x1x19x256_S256x256_S64x1x19x256_3_0_012_1_n_n none (addf (broadcastInDim S64x1x19x256 ![0, 1, 2, 3] bcast_S64x1x1x256_S64x1x19x256_0_1_2_3 (broadcastInDim S64x1x1x256 ![0, 3] bcast_S64x256_S64x1x1x256_0_3 (shapeCast S64x256 (extractStridedSlice S64x1x256 ![0, 11, 0] (V0 (Proc.devRef .tc main_v51_19)) slices_S64x12x256_S64x1x256_0_11_0) shapeCasts_S64x1x256_S64x256))) (res_main_while0b_v80 V0)) (V0 (Proc.devRef .tc main_v51_5))) (broadcastInDim S64x1x19x256 ![0, 1, 2, 3] bcast_S1x1x1x256_S64x1x19x256_0_1_2_3 (broadcastInDim S1x1x1x256 ![3] bcast_S256_S1x1x1x256_3 (V0 (Proc.devRef .tc main_v51_6))))) (broadcastInDim S64x1x19x256 ![] bcast_S_S64x1x19x256 (constant S_ .f32 0x00000000#32)) : (Proc.devRef .tc main_while0b_v125 : DevRef τ sig).ty.Contents (Elt F)) = Cert.ReferenceIdeal.Step.b87 j s := by
  unfold Cert.ReferenceIdeal.Step.b87
  rw [← al_84 h, ← al_86 h]
  try rfl
set_option maxRecDepth 8192 in
theorem al_88 (h : Holds V0 s j) : (Host.dotGeneral dot_S64x1x19x256_S256x512_S64x1x19x512_3_0_012_1_n_n none (maximumf (addf (Host.dotGeneral dot_S64x1x19x256_S256x256_S64x1x19x256_3_0_012_1_n_n none (addf (broadcastInDim S64x1x19x256 ![0, 1, 2, 3] bcast_S64x1x1x256_S64x1x19x256_0_1_2_3 (broadcastInDim S64x1x1x256 ![0, 3] bcast_S64x256_S64x1x1x256_0_3 (shapeCast S64x256 (extractStridedSlice S64x1x256 ![0, 11, 0] (V0 (Proc.devRef .tc main_v51_19)) slices_S64x12x256_S64x1x256_0_11_0) shapeCasts_S64x1x256_S64x256))) (res_main_while0b_v80 V0)) (V0 (Proc.devRef .tc main_v51_5))) (broadcastInDim S64x1x19x256 ![0, 1, 2, 3] bcast_S1x1x1x256_S64x1x19x256_0_1_2_3 (broadcastInDim S1x1x1x256 ![3] bcast_S256_S1x1x1x256_3 (V0 (Proc.devRef .tc main_v51_6))))) (broadcastInDim S64x1x19x256 ![] bcast_S_S64x1x19x256 (constant S_ .f32 0x00000000#32))) (V0 (Proc.devRef .tc main_v51_7)) : (Proc.devRef .tc main_while0b_v126 : DevRef τ sig).ty.Contents (Elt F)) = Cert.ReferenceIdeal.Step.b88 j s := by
  unfold Cert.ReferenceIdeal.Step.b88
  rw [← al_87 h, h.f_7]
  try rfl
set_option maxRecDepth 8192 in
theorem al_89 (h : Holds V0 s j) : (broadcastInDim S1x1x1x512 ![3] bcast_S512_S1x1x1x512_3 (V0 (Proc.devRef .tc main_v51_8)) : (Proc.devRef .tc main_while0b_v127 : DevRef τ sig).ty.Contents (Elt F)) = Cert.ReferenceIdeal.Step.b89 j s := by
  unfold Cert.ReferenceIdeal.Step.b89
  rw [h.f_8]
  try rfl
set_option maxRecDepth 8192 in
theorem al_90 (h : Holds V0 s j) : (broadcastInDim S64x1x19x512 ![0, 1, 2, 3] bcast_S1x1x1x512_S64x1x19x512_0_1_2_3 (broadcastInDim S1x1x1x512 ![3] bcast_S512_S1x1x1x512_3 (V0 (Proc.devRef .tc main_v51_8))) : (Proc.devRef .tc main_while0b_v128 : DevRef τ sig).ty.Contents (Elt F)) = Cert.ReferenceIdeal.Step.b90 j s := by
  unfold Cert.ReferenceIdeal.Step.b90
  rw [← al_89 h]
  try rfl
set_option maxRecDepth 8192 in
theorem al_91 (h : Holds V0 s j) : (addf (Host.dotGeneral dot_S64x1x19x256_S256x512_S64x1x19x512_3_0_012_1_n_n none (maximumf (addf (Host.dotGeneral dot_S64x1x19x256_S256x256_S64x1x19x256_3_0_012_1_n_n none (addf (broadcastInDim S64x1x19x256 ![0, 1, 2, 3] bcast_S64x1x1x256_S64x1x19x256_0_1_2_3 (broadcastInDim S64x1x1x256 ![0, 3] bcast_S64x256_S64x1x1x256_0_3 (shapeCast S64x256 (extractStridedSlice S64x1x256 ![0, 11, 0] (V0 (Proc.devRef .tc main_v51_19)) slices_S64x12x256_S64x1x256_0_11_0) shapeCasts_S64x1x256_S64x256))) (res_main_while0b_v80 V0)) (V0 (Proc.devRef .tc main_v51_5))) (broadcastInDim S64x1x19x256 ![0, 1, 2, 3] bcast_S1x1x1x256_S64x1x19x256_0_1_2_3 (broadcastInDim S1x1x1x256 ![3] bcast_S256_S1x1x1x256_3 (V0 (Proc.devRef .tc main_v51_6))))) (broadcastInDim S64x1x19x256 ![] bcast_S_S64x1x19x256 (constant S_ .f32 0x00000000#32))) (V0 (Proc.devRef .tc main_v51_7))) (broadcastInDim S64x1x19x512 ![0, 1, 2, 3] bcast_S1x1x1x512_S64x1x19x512_0_1_2_3 (broadcastInDim S1x1x1x512 ![3] bcast_S512_S1x1x1x512_3 (V0 (Proc.devRef .tc main_v51_8)))) : (Proc.devRef .tc main_while0b_v129 : DevRef τ sig).ty.Contents (Elt F)) = Cert.ReferenceIdeal.Step.b91 j s := by
  unfold Cert.ReferenceIdeal.Step.b91
  rw [← al_88 h, ← al_90 h]
  try rfl
set_option maxRecDepth 8192 in
theorem al_92 (h : Holds V0 s j) : (constant S_ .f32 0x00000000#32 : (Proc.devRef .tc main_while0b_cst_44 : DevRef τ sig).ty.Contents (Elt F)) = Cert.ReferenceIdeal.Step.b92 j s := by
  unfold Cert.ReferenceIdeal.Step.b92
  rfl
set_option maxRecDepth 8192 in
theorem al_93 (h : Holds V0 s j) : (broadcastInDim S64x1x19x512 ![] bcast_S_S64x1x19x512 (constant S_ .f32 0x00000000#32) : (Proc.devRef .tc main_while0b_v130 : DevRef τ sig).ty.Contents (Elt F)) = Cert.ReferenceIdeal.Step.b93 j s := by
  unfold Cert.ReferenceIdeal.Step.b93
  rw [← al_92 h]
  try rfl
set_option maxRecDepth 8192 in
theorem al_94 (h : Holds V0 s j) : (maximumf (addf (Host.dotGeneral dot_S64x1x19x256_S256x512_S64x1x19x512_3_0_012_1_n_n none (maximumf (addf (Host.dotGeneral dot_S64x1x19x256_S256x256_S64x1x19x256_3_0_012_1_n_n none (addf (broadcastInDim S64x1x19x256 ![0, 1, 2, 3] bcast_S64x1x1x256_S64x1x19x256_0_1_2_3 (broadcastInDim S64x1x1x256 ![0, 3] bcast_S64x256_S64x1x1x256_0_3 (shapeCast S64x256 (extractStridedSlice S64x1x256 ![0, 11, 0] (V0 (Proc.devRef .tc main_v51_19)) slices_S64x12x256_S64x1x256_0_11_0) shapeCasts_S64x1x256_S64x256))) (res_main_while0b_v80 V0)) (V0 (Proc.devRef .tc main_v51_5))) (broadcastInDim S64x1x19x256 ![0, 1, 2, 3] bcast_S1x1x1x256_S64x1x19x256_0_1_2_3 (broadcastInDim S1x1x1x256 ![3] bcast_S256_S1x1x1x256_3 (V0 (Proc.devRef .tc main_v51_6))))) (broadcastInDim S64x1x19x256 ![] bcast_S_S64x1x19x256 (constant S_ .f32 0x00000000#32))) (V0 (Proc.devRef .tc main_v51_7))) (broadcastInDim S64x1x19x512 ![0, 1, 2, 3] bcast_S1x1x1x512_S64x1x19x512_0_1_2_3 (broadcastInDim S1x1x1x512 ![3] bcast_S512_S1x1x1x512_3 (V0 (Proc.devRef .tc main_v51_8))))) (broadcastInDim S64x1x19x512 ![] bcast_S_S64x1x19x512 (constant S_ .f32 0x00000000#32)) : (Proc.devRef .tc main_while0b_v131 : DevRef τ sig).ty.Contents (Elt F)) = Cert.ReferenceIdeal.Step.b94 j s := by
  unfold Cert.ReferenceIdeal.Step.b94
  rw [← al_91 h, ← al_93 h]
  try rfl
set_option maxRecDepth 8192 in
theorem al_95 (h : Holds V0 s j) : (constantI S_ 32 11#32 : (Proc.devRef .tc main_while0b_c_45 : DevRef τ sig).ty.Contents (Elt F)) = Cert.ReferenceIdeal.Step.b95 j s := by
  unfold Cert.ReferenceIdeal.Step.b95
  rfl
set_option maxRecDepth 8192 in
theorem al_96 (h : Holds V0 s j) : (broadcastInDim S64x12x19x512 ![] bcast_S_S64x12x19x512 (constantI S_ 32 11#32) : (Proc.devRef .tc main_while0b_v132 : DevRef τ sig).ty.Contents (Elt F)) = Cert.ReferenceIdeal.Step.b96 j s := by
  unfold Cert.ReferenceIdeal.Step.b96
  rw [← al_95 h]
  try rfl
set_option maxRecDepth 8192 in
theorem al_97 (h : Holds V0 s j) : (cmpi .eq (V0 (Proc.devRef .tc main_v51_10)) (broadcastInDim S64x12x19x512 ![] bcast_S_S64x12x19x512 (constantI S_ 32 11#32)) : (Proc.devRef .tc main_while0b_v133 : DevRef τ sig).ty.Contents (Elt F)) = Cert.ReferenceIdeal.Step.b97 j s := by
  unfold Cert.ReferenceIdeal.Step.b97
  rw [← al_96 h, h.k_10]
  try rfl
set_option maxRecDepth 8192 in
theorem al_98 (h : Holds V0 s j) : (broadcastInDim S64x12x19x512 ![0, 1, 2, 3] bcast_S64x1x19x512_S64x12x19x512_0_1_2_3 (maximumf (addf (Host.dotGeneral dot_S64x1x19x256_S256x512_S64x1x19x512_3_0_012_1_n_n none (maximumf (addf (Host.dotGeneral dot_S64x1x19x256_S256x256_S64x1x19x256_3_0_012_1_n_n none (addf (broadcastInDim S64x1x19x256 ![0, 1, 2, 3] bcast_S64x1x1x256_S64x1x19x256_0_1_2_3 (broadcastInDim S64x1x1x256 ![0, 3] bcast_S64x256_S64x1x1x256_0_3 (shapeCast S64x256 (extractStridedSlice S64x1x256 ![0, 11, 0] (V0 (Proc.devRef .tc main_v51_19)) slices_S64x12x256_S64x1x256_0_11_0) shapeCasts_S64x1x256_S64x256))) (res_main_while0b_v80 V0)) (V0 (Proc.devRef .tc main_v51_5))) (broadcastInDim S64x1x19x256 ![0, 1, 2, 3] bcast_S1x1x1x256_S64x1x19x256_0_1_2_3 (broadcastInDim S1x1x1x256 ![3] bcast_S256_S1x1x1x256_3 (V0 (Proc.devRef .tc main_v51_6))))) (broadcastInDim S64x1x19x256 ![] bcast_S_S64x1x19x256 (constant S_ .f32 0x00000000#32))) (V0 (Proc.devRef .tc main_v51_7))) (broadcastInDim S64x1x19x512 ![0, 1, 2, 3] bcast_S1x1x1x512_S64x1x19x512_0_1_2_3 (broadcastInDim S1x1x1x512 ![3] bcast_S512_S1x1x1x512_3 (V0 (Proc.devRef .tc main_v51_8))))) (broadcastInDim S64x1x19x512 ![] bcast_S_S64x1x19x512 (constant S_ .f32 0x00000000#32))) : (Proc.devRef .tc main_while0b_v134 : DevRef τ sig).ty.Contents (Elt F)) = Cert.ReferenceIdeal.Step.b98 j s := by
  unfold Cert.ReferenceIdeal.Step.b98
  rw [← al_94 h]
  try rfl
set_option maxRecDepth 8192 in
theorem al_99 (h : Holds V0 s j) : (res_main_while0b_v135 V0 : (Proc.devRef .tc main_while0b_v135 : DevRef τ sig).ty.Contents (Elt F)) = Cert.ReferenceIdeal.Step.b99 j s := by
  unfold res_main_while0b_v135 Cert.ReferenceIdeal.Step.b99
  rw [← al_97 h, ← al_98 h, ← al_75 h]
  try rfl
set_option maxRecDepth 8192 in
theorem al_100 (h : Holds V0 s j) : (extractStridedSlice S64x12x19x256 ![0, 0, 0, 0] (res_main_while0b_v135 V0) slices_S64x12x19x512_S64x12x19x256_0_0_0_0 : (Proc.devRef .tc main_while0b_v136 : DevRef τ sig).ty.Contents (Elt F)) = Cert.ReferenceIdeal.Step.b100 j s := by
  unfold Cert.ReferenceIdeal.Step.b100
  rw [← al_99 h]
  try rfl
set_option maxRecDepth 8192 in
theorem al_101 (h : Holds V0 s j) : (extractStridedSlice S64x12x19x256 ![0, 0, 0, 256] (res_main_while0b_v135 V0) slices_S64x12x19x512_S64x12x19x256_0_0_0_256 : (Proc.devRef .tc main_while0b_v137 : DevRef τ sig).ty.Contents (Elt F)) = Cert.ReferenceIdeal.Step.b101 j s := by
  unfold Cert.ReferenceIdeal.Step.b101
  rw [← al_99 h]
  try rfl
set_option maxRecDepth 8192 in
theorem al_102 (h : Holds V0 s j) : (broadcastInDim S64x12x19x256 ![0, 1, 2, 3] bcast_S64x12x1x1_S64x12x19x256_0_1_2_3 (V0 (Proc.devRef .tc main_v51_11)) : (Proc.devRef .tc main_while0b_v138 : DevRef τ sig).ty.Contents (Elt F)) = Cert.ReferenceIdeal.Step.b102 j s := by
  unfold Cert.ReferenceIdeal.Step.b102
  rw [h.f_11]
  try rfl
set_option maxRecDepth 8192 in
theorem al_103 (h : Holds V0 s j) : (mulf (extractStridedSlice S64x12x19x256 ![0, 0, 0, 0] (res_main_while0b_v135 V0) slices_S64x12x19x512_S64x12x19x256_0_0_0_0) (broadcastInDim S64x12x19x256 ![0, 1, 2, 3] bcast_S64x12x1x1_S64x12x19x256_0_1_2_3 (V0 (Proc.devRef .tc main_v51_11))) : (Proc.devRef .tc main_while0b_v139 : DevRef τ sig).ty.Contents (Elt F)) = Cert.ReferenceIdeal.Step.b103 j s := by
  unfold Cert.ReferenceIdeal.Step.b103
  rw [← al_100 h, ← al_102 h]
  try rfl
set_option maxRecDepth 8192 in
theorem al_104 (h : Holds V0 s j) : (constant S_ .f32 0x00000000#32 : (Proc.devRef .tc main_while0b_cst_46 : DevRef τ sig).ty.Contents (Elt F)) = Cert.ReferenceIdeal.Step.b104 j s := by
  unfold Cert.ReferenceIdeal.Step.b104
  rfl
set_option maxRecDepth 8192 in
theorem al_105 (h : Holds V0 s j) : (Host.reduceAdd (mulf (extractStridedSlice S64x12x19x256 ![0, 0, 0, 0] (res_main_while0b_v135 V0) slices_S64x12x19x512_S64x12x19x256_0_0_0_0) (broadcastInDim S64x12x19x256 ![0, 1, 2, 3] bcast_S64x12x1x1_S64x12x19x256_0_1_2_3 (V0 (Proc.devRef .tc main_v51_11)))) (constant S_ .f32 0x00000000#32) reducesTo_S64x12x19x256_S64x19x256_d1 h_S_ : (Proc.devRef .tc main_while0b_v140 : DevRef τ sig).ty.Contents (Elt F)) = Cert.ReferenceIdeal.Step.b105 j s := by
  unfold Cert.ReferenceIdeal.Step.b105
  rw [← al_103 h, ← al_104 h]
  try rfl
set_option maxRecDepth 8192 in
theorem al_106 (h : Holds V0 s j) : (constant S_ .f32 0x41400000#32 : (Proc.devRef .tc main_while0b_cst_47 : DevRef τ sig).ty.Contents (Elt F)) = Cert.ReferenceIdeal.Step.b106 j s := by
  unfold Cert.ReferenceIdeal.Step.b106
  rfl
set_option maxRecDepth 8192 in
theorem al_107 (h : Holds V0 s j) : (broadcastInDim S64x19x256 ![] bcast_S_S64x19x256 (constant S_ .f32 0x41400000#32) : (Proc.devRef .tc main_while0b_v141 : DevRef τ sig).ty.Contents (Elt F)) = Cert.ReferenceIdeal.Step.b107 j s := by
  unfold Cert.ReferenceIdeal.Step.b107
  rw [← al_106 h]
  try rfl
set_option maxRecDepth 8192 in
theorem al_108 (h : Holds V0 s j) : (Host.divf (Host.reduceAdd (mulf (extractStridedSlice S64x12x19x256 ![0, 0, 0, 0] (res_main_while0b_v135 V0) slices_S64x12x19x512_S64x12x19x256_0_0_0_0) (broadcastInDim S64x12x19x256 ![0, 1, 2, 3] bcast_S64x12x1x1_S64x12x19x256_0_1_2_3 (V0 (Proc.devRef .tc main_v51_11)))) (constant S_ .f32 0x00000000#32) reducesTo_S64x12x19x256_S64x19x256_d1 h_S_) (broadcastInDim S64x19x256 ![] bcast_S_S64x19x256 (constant S_ .f32 0x41400000#32)) : (Proc.devRef .tc main_while0b_v142 : DevRef τ sig).ty.Contents (Elt F)) = Cert.ReferenceIdeal.Step.b108 j s := by
  unfold Cert.ReferenceIdeal.Step.b108
  rw [← al_105 h, ← al_107 h]
  try rfl
set_option maxRecDepth 8192 in
theorem al_109 (h : Holds V0 s j) : (broadcastInDim S64x12x19x256 ![0, 1, 2, 3] bcast_S64x12x1x1_S64x12x19x256_0_1_2_3 (V0 (Proc.devRef .tc main_v51_11)) : (Proc.devRef .tc main_while0b_v143 : DevRef τ sig).ty.Contents (Elt F)) = Cert.ReferenceIdeal.Step.b109 j s := by
  unfold Cert.ReferenceIdeal.Step.b109
  rw [h.f_11]
  try rfl
set_option maxRecDepth 8192 in
theorem al_110 (h : Holds V0 s j) : (mulf (extractStridedSlice S64x12x19x256 ![0, 0, 0, 256] (res_main_while0b_v135 V0) slices_S64x12x19x512_S64x12x19x256_0_0_0_256) (broadcastInDim S64x12x19x256 ![0, 1, 2, 3] bcast_S64x12x1x1_S64x12x19x256_0_1_2_3 (V0 (Proc.devRef .tc main_v51_11))) : (Proc.devRef .tc main_while0b_v144 : DevRef τ sig).ty.Contents (Elt F)) = Cert.ReferenceIdeal.Step.b110 j s := by
  unfold Cert.ReferenceIdeal.Step.b110
  rw [← al_101 h, ← al_109 h]
  try rfl
set_option maxRecDepth 8192 in
theorem al_111 (h : Holds V0 s j) : (constant S_ .f32 0xFF800000#32 : (Proc.devRef .tc main_while0b_cst_48 : DevRef τ sig).ty.Contents (Elt F)) = Cert.ReferenceIdeal.Step.b111 j s := by
  unfold Cert.ReferenceIdeal.Step.b111
  rfl
set_option maxRecDepth 8192 in
theorem al_112 (h : Holds V0 s j) : (Host.reduce FloatOps.maximumf (mulf (extractStridedSlice S64x12x19x256 ![0, 0, 0, 256] (res_main_while0b_v135 V0) slices_S64x12x19x512_S64x12x19x256_0_0_0_256) (broadcastInDim S64x12x19x256 ![0, 1, 2, 3] bcast_S64x12x1x1_S64x12x19x256_0_1_2_3 (V0 (Proc.devRef .tc main_v51_11)))) (constant S_ .f32 0xFF800000#32) reducesTo_S64x12x19x256_S64x19x256_d1 h_S_ : (Proc.devRef .tc main_while0b_v145 : DevRef τ sig).ty.Contents (Elt F)) = Cert.ReferenceIdeal.Step.b112 j s := by
  unfold Cert.ReferenceIdeal.Step.b112
  rw [← al_110 h, ← al_111 h]
  try rfl
set_option maxRecDepth 8192 in
theorem al_113 (h : Holds V0 s j) : (concatenate S64x19x512 2 [⟨S64x19x256, (Host.divf (Host.reduceAdd (mulf (extractStridedSlice S64x12x19x256 ![0, 0, 0, 0] (res_main_while0b_v135 V0) slices_S64x12x19x512_S64x12x19x256_0_0_0_0) (broadcastInDim S64x12x19x256 ![0, 1, 2, 3] bcast_S64x12x1x1_S64x12x19x256_0_1_2_3 (V0 (Proc.devRef .tc main_v51_11)))) (constant S_ .f32 0x00000000#32) reducesTo_S64x12x19x256_S64x19x256_d1 h_S_) (broadcastInDim S64x19x256 ![] bcast_S_S64x19x256 (constant S_ .f32 0x41400000#32)))⟩, ⟨S64x19x256, (Host.reduce FloatOps.maximumf (mulf (extractStridedSlice S64x12x19x256 ![0, 0, 0, 256] (res_main_while0b_v135 V0) slices_S64x12x19x512_S64x12x19x256_0_0_0_256) (broadcastInDim S64x12x19x256 ![0, 1, 2, 3] bcast_S64x12x1x1_S64x12x19x256_0_1_2_3 (V0 (Proc.devRef .tc main_v51_11)))) (constant S_ .f32 0xFF800000#32) reducesTo_S64x12x19x256_S64x19x256_d1 h_S_)⟩] concatenates_S64x19x256_S64x19x256_S64x19x512_d2 : (Proc.devRef .tc main_while0b_v146 : DevRef τ sig).ty.Contents (Elt F)) = Cert.ReferenceIdeal.Step.b113 j s := by
  unfold Cert.ReferenceIdeal.Step.b113
  rw [← al_108 h, ← al_112 h]
  try rfl
set_option maxRecDepth 8192 in
theorem al_114 (h : Holds V0 s j) : (Host.dotGeneral dot_S64x19x512_S512x256_S64x19x256_2_0_01_1_n_n none (concatenate S64x19x512 2 [⟨S64x19x256, (Host.divf (Host.reduceAdd (mulf (extractStridedSlice S64x12x19x256 ![0, 0, 0, 0] (res_main_while0b_v135 V0) slices_S64x12x19x512_S64x12x19x256_0_0_0_0) (broadcastInDim S64x12x19x256 ![0, 1, 2, 3] bcast_S64x12x1x1_S64x12x19x256_0_1_2_3 (V0 (Proc.devRef .tc main_v51_11)))) (constant S_ .f32 0x00000000#32) reducesTo_S64x12x19x256_S64x19x256_d1 h_S_) (broadcastInDim S64x19x256 ![] bcast_S_S64x19x256 (constant S_ .f32 0x41400000#32)))⟩, ⟨S64x19x256, (Host.reduce FloatOps.maximumf (mulf (extractStridedSlice S64x12x19x256 ![0, 0, 0, 256] (res_main_while0b_v135 V0) slices_S64x12x19x512_S64x12x19x256_0_0_0_256) (broadcastInDim S64x12x19x256 ![0, 1, 2, 3] bcast_S64x12x1x1_S64x12x19x256_0_1_2_3 (V0 (Proc.devRef .tc main_v51_11)))) (constant S_ .f32 0xFF800000#32) reducesTo_S64x12x19x256_S64x19x256_d1 h_S_)⟩] concatenates_S64x19x256_S64x19x256_S64x19x512_d2) (V0 (Proc.devRef .tc main_v51_12)) : (Proc.devRef .tc main_while0b_v147 : DevRef τ sig).ty.Contents (Elt F)) = Cert.ReferenceIdeal.Step.b114 j s := by
  unfold Cert.ReferenceIdeal.Step.b114
  rw [← al_113 h, h.f_12]
  try rfl
set_option maxRecDepth 8192 in
theorem al_115 (h : Holds V0 s j) : (broadcastInDim S1x1x256 ![2] bcast_S256_S1x1x256_2 (V0 (Proc.devRef .tc main_v51_13)) : (Proc.devRef .tc main_while0b_v148 : DevRef τ sig).ty.Contents (Elt F)) = Cert.ReferenceIdeal.Step.b115 j s := by
  unfold Cert.ReferenceIdeal.Step.b115
  rw [h.f_13]
  try rfl
set_option maxRecDepth 8192 in
theorem al_116 (h : Holds V0 s j) : (broadcastInDim S64x19x256 ![0, 1, 2] bcast_S1x1x256_S64x19x256_0_1_2 (broadcastInDim S1x1x256 ![2] bcast_S256_S1x1x256_2 (V0 (Proc.devRef .tc main_v51_13))) : (Proc.devRef .tc main_while0b_v149 : DevRef τ sig).ty.Contents (Elt F)) = Cert.ReferenceIdeal.Step.b116 j s := by
  unfold Cert.ReferenceIdeal.Step.b116
  rw [← al_115 h]
  try rfl
set_option maxRecDepth 8192 in
theorem al_117 (h : Holds V0 s j) : (addf (Host.dotGeneral dot_S64x19x512_S512x256_S64x19x256_2_0_01_1_n_n none (concatenate S64x19x512 2 [⟨S64x19x256, (Host.divf (Host.reduceAdd (mulf (extractStridedSlice S64x12x19x256 ![0, 0, 0, 0] (res_main_while0b_v135 V0) slices_S64x12x19x512_S64x12x19x256_0_0_0_0) (broadcastInDim S64x12x19x256 ![0, 1, 2, 3] bcast_S64x12x1x1_S64x12x19x256_0_1_2_3 (V0 (Proc.devRef .tc main_v51_11)))) (constant S_ .f32 0x00000000#32) reducesTo_S64x12x19x256_S64x19x256_d1 h_S_) (broadcastInDim S64x19x256 ![] bcast_S_S64x19x256 (constant S_ .f32 0x41400000#32)))⟩, ⟨S64x19x256, (Host.reduce FloatOps.maximumf (mulf (extractStridedSlice S64x12x19x256 ![0, 0, 0, 256] (res_main_while0b_v135 V0) slices_S64x12x19x512_S64x12x19x256_0_0_0_256) (broadcastInDim S64x12x19x256 ![0, 1, 2, 3] bcast_S64x12x1x1_S64x12x19x256_0_1_2_3 (V0 (Proc.devRef .tc main_v51_11)))) (constant S_ .f32 0xFF800000#32) reducesTo_S64x12x19x256_S64x19x256_d1 h_S_)⟩] concatenates_S64x19x256_S64x19x256_S64x19x512_d2) (V0 (Proc.devRef .tc main_v51_12))) (broadcastInDim S64x19x256 ![0, 1, 2] bcast_S1x1x256_S64x19x256_0_1_2 (broadcastInDim S1x1x256 ![2] bcast_S256_S1x1x256_2 (V0 (Proc.devRef .tc main_v51_13)))) : (Proc.devRef .tc main_while0b_v150 : DevRef τ sig).ty.Contents (Elt F)) = Cert.ReferenceIdeal.Step.b117 j s := by
  unfold Cert.ReferenceIdeal.Step.b117
  rw [← al_114 h, ← al_116 h]
  try rfl
set_option maxRecDepth 8192 in
theorem al_118 (h : Holds V0 s j) : (constant S_ .f32 0x00000000#32 : (Proc.devRef .tc main_while0b_cst_49 : DevRef τ sig).ty.Contents (Elt F)) = Cert.ReferenceIdeal.Step.b118 j s := by
  unfold Cert.ReferenceIdeal.Step.b118
  rfl
set_option maxRecDepth 8192 in
theorem al_119 (h : Holds V0 s j) : (broadcastInDim S64x19x256 ![] bcast_S_S64x19x256 (constant S_ .f32 0x00000000#32) : (Proc.devRef .tc main_while0b_v151 : DevRef τ sig).ty.Contents (Elt F)) = Cert.ReferenceIdeal.Step.b119 j s := by
  unfold Cert.ReferenceIdeal.Step.b119
  rw [← al_118 h]
  try rfl
set_option maxRecDepth 8192 in
theorem al_120 (h : Holds V0 s j) : (maximumf (addf (Host.dotGeneral dot_S64x19x512_S512x256_S64x19x256_2_0_01_1_n_n none (concatenate S64x19x512 2 [⟨S64x19x256, (Host.divf (Host.reduceAdd (mulf (extractStridedSlice S64x12x19x256 ![0, 0, 0, 0] (res_main_while0b_v135 V0) slices_S64x12x19x512_S64x12x19x256_0_0_0_0) (broadcastInDim S64x12x19x256 ![0, 1, 2, 3] bcast_S64x12x1x1_S64x12x19x256_0_1_2_3 (V0 (Proc.devRef .tc main_v51_11)))) (constant S_ .f32 0x00000000#32) reducesTo_S64x12x19x256_S64x19x256_d1 h_S_) (broadcastInDim S64x19x256 ![] bcast_S_S64x19x256 (constant S_ .f32 0x41400000#32)))⟩, ⟨S64x19x256, (Host.reduce FloatOps.maximumf (mulf (extractStridedSlice S64x12x19x256 ![0, 0, 0, 256] (res_main_while0b_v135 V0) slices_S64x12x19x512_S64x12x19x256_0_0_0_256) (broadcastInDim S64x12x19x256 ![0, 1, 2, 3] bcast_S64x12x1x1_S64x12x19x256_0_1_2_3 (V0 (Proc.devRef .tc main_v51_11)))) (constant S_ .f32 0xFF800000#32) reducesTo_S64x12x19x256_S64x19x256_d1 h_S_)⟩] concatenates_S64x19x256_S64x19x256_S64x19x512_d2) (V0 (Proc.devRef .tc main_v51_12))) (broadcastInDim S64x19x256 ![0, 1, 2] bcast_S1x1x256_S64x19x256_0_1_2 (broadcastInDim S1x1x256 ![2] bcast_S256_S1x1x256_2 (V0 (Proc.devRef .tc main_v51_13))))) (broadcastInDim S64x19x256 ![] bcast_S_S64x19x256 (constant S_ .f32 0x00000000#32)) : (Proc.devRef .tc main_while0b_v152 : DevRef τ sig).ty.Contents (Elt F)) = Cert.ReferenceIdeal.Step.b120 j s := by
  unfold Cert.ReferenceIdeal.Step.b120
  rw [← al_117 h, ← al_119 h]
  try rfl
set_option maxRecDepth 8192 in
theorem al_121 (h : Holds V0 s j) : (Host.dotGeneral dot_S64x19x256_S256x1_S64x19x1_2_0_01_1_n_n none (maximumf (addf (Host.dotGeneral dot_S64x19x512_S512x256_S64x19x256_2_0_01_1_n_n none (concatenate S64x19x512 2 [⟨S64x19x256, (Host.divf (Host.reduceAdd (mulf (extractStridedSlice S64x12x19x256 ![0, 0, 0, 0] (res_main_while0b_v135 V0) slices_S64x12x19x512_S64x12x19x256_0_0_0_0) (broadcastInDim S64x12x19x256 ![0, 1, 2, 3] bcast_S64x12x1x1_S64x12x19x256_0_1_2_3 (V0 (Proc.devRef .tc main_v51_11)))) (constant S_ .f32 0x00000000#32) reducesTo_S64x12x19x256_S64x19x256_d1 h_S_) (broadcastInDim S64x19x256 ![] bcast_S_S64x19x256 (constant S_ .f32 0x41400000#32)))⟩, ⟨S64x19x256, (Host.reduce FloatOps.maximumf (mulf (extractStridedSlice S64x12x19x256 ![0, 0, 0, 256] (res_main_while0b_v135 V0) slices_S64x12x19x512_S64x12x19x256_0_0_0_256) (broadcastInDim S64x12x19x256 ![0, 1, 2, 3] bcast_S64x12x1x1_S64x12x19x256_0_1_2_3 (V0 (Proc.devRef .tc main_v51_11)))) (constant S_ .f32 0xFF800000#32) reducesTo_S64x12x19x256_S64x19x256_d1 h_S_)⟩] concatenates_S64x19x256_S64x19x256_S64x19x512_d2) (V0 (Proc.devRef .tc main_v51_12))) (broadcastInDim S64x19x256 ![0, 1, 2] bcast_S1x1x256_S64x19x256_0_1_2 (broadcastInDim S1x1x256 ![2] bcast_S256_S1x1x256_2 (V0 (Proc.devRef .tc main_v51_13))))) (broadcastInDim S64x19x256 ![] bcast_S_S64x19x256 (constant S_ .f32 0x00000000#32))) (V0 (Proc.devRef .tc main_v51_14)) : (Proc.devRef .tc main_while0b_v153 : DevRef τ sig).ty.Contents (Elt F)) = Cert.ReferenceIdeal.Step.b121 j s := by
  unfold Cert.ReferenceIdeal.Step.b121
  rw [← al_120 h, h.f_14]
  try rfl
set_option maxRecDepth 8192 in
theorem al_122 (h : Holds V0 s j) : (broadcastInDim S1x1x1 ![2] bcast_S1_S1x1x1_2 (V0 (Proc.devRef .tc main_v51_15)) : (Proc.devRef .tc main_while0b_v154 : DevRef τ sig).ty.Contents (Elt F)) = Cert.ReferenceIdeal.Step.b122 j s := by
  unfold Cert.ReferenceIdeal.Step.b122
  rw [h.f_15]
  try rfl
set_option maxRecDepth 8192 in
theorem al_123 (h : Holds V0 s j) : (broadcastInDim S64x19x1 ![0, 1, 2] bcast_S1x1x1_S64x19x1_0_1_2 (broadcastInDim S1x1x1 ![2] bcast_S1_S1x1x1_2 (V0 (Proc.devRef .tc main_v51_15))) : (Proc.devRef .tc main_while0b_v155 : DevRef τ sig).ty.Contents (Elt F)) = Cert.ReferenceIdeal.Step.b123 j s := by
  unfold Cert.ReferenceIdeal.Step.b123
  rw [← al_122 h]
  try rfl
set_option maxRecDepth 8192 in
theorem al_124 (h : Holds V0 s j) : (addf (Host.dotGeneral dot_S64x19x256_S256x1_S64x19x1_2_0_01_1_n_n none (maximumf (addf (Host.dotGeneral dot_S64x19x512_S512x256_S64x19x256_2_0_01_1_n_n none (concatenate S64x19x512 2 [⟨S64x19x256, (Host.divf (Host.reduceAdd (mulf (extractStridedSlice S64x12x19x256 ![0, 0, 0, 0] (res_main_while0b_v135 V0) slices_S64x12x19x512_S64x12x19x256_0_0_0_0) (broadcastInDim S64x12x19x256 ![0, 1, 2, 3] bcast_S64x12x1x1_S64x12x19x256_0_1_2_3 (V0 (Proc.devRef .tc main_v51_11)))) (constant S_ .f32 0x00000000#32) reducesTo_S64x12x19x256_S64x19x256_d1 h_S_) (broadcastInDim S64x19x256 ![] bcast_S_S64x19x256 (constant S_ .f32 0x41400000#32)))⟩, ⟨S64x19x256, (Host.reduce FloatOps.maximumf (mulf (extractStridedSlice S64x12x19x256 ![0, 0, 0, 256] (res_main_while0b_v135 V0) slices_S64x12x19x512_S64x12x19x256_0_0_0_256) (broadcastInDim S64x12x19x256 ![0, 1, 2, 3] bcast_S64x12x1x1_S64x12x19x256_0_1_2_3 (V0 (Proc.devRef .tc main_v51_11)))) (constant S_ .f32 0xFF800000#32) reducesTo_S64x12x19x256_S64x19x256_d1 h_S_)⟩] concatenates_S64x19x256_S64x19x256_S64x19x512_d2) (V0 (Proc.devRef .tc main_v51_12))) (broadcastInDim S64x19x256 ![0, 1, 2] bcast_S1x1x256_S64x19x256_0_1_2 (broadcastInDim S1x1x256 ![2] bcast_S256_S1x1x256_2 (V0 (Proc.devRef .tc main_v51_13))))) (broadcastInDim S64x19x256 ![] bcast_S_S64x19x256 (constant S_ .f32 0x00000000#32))) (V0 (Proc.devRef .tc main_v51_14))) (broadcastInDim S64x19x1 ![0, 1, 2] bcast_S1x1x1_S64x19x1_0_1_2 (broadcastInDim S1x1x1 ![2] bcast_S1_S1x1x1_2 (V0 (Proc.devRef .tc main_v51_15)))) : (Proc.devRef .tc main_while0b_v156 : DevRef τ sig).ty.Contents (Elt F)) = Cert.ReferenceIdeal.Step.b124 j s := by
  unfold Cert.ReferenceIdeal.Step.b124
  rw [← al_121 h, ← al_123 h]
  try rfl
set_option maxRecDepth 8192 in
theorem al_125 (h : Holds V0 s j) : (shapeCast S64x19 (addf (Host.dotGeneral dot_S64x19x256_S256x1_S64x19x1_2_0_01_1_n_n none (maximumf (addf (Host.dotGeneral dot_S64x19x512_S512x256_S64x19x256_2_0_01_1_n_n none (concatenate S64x19x512 2 [⟨S64x19x256, (Host.divf (Host.reduceAdd (mulf (extractStridedSlice S64x12x19x256 ![0, 0, 0, 0] (res_main_while0b_v135 V0) slices_S64x12x19x512_S64x12x19x256_0_0_0_0) (broadcastInDim S64x12x19x256 ![0, 1, 2, 3] bcast_S64x12x1x1_S64x12x19x256_0_1_2_3 (V0 (Proc.devRef .tc main_v51_11)))) (constant S_ .f32 0x00000000#32) reducesTo_S64x12x19x256_S64x19x256_d1 h_S_) (broadcastInDim S64x19x256 ![] bcast_S_S64x19x256 (constant S_ .f32 0x41400000#32)))⟩, ⟨S64x19x256, (Host.reduce FloatOps.maximumf (mulf (extractStridedSlice S64x12x19x256 ![0, 0, 0, 256] (res_main_while0b_v135 V0) slices_S64x12x19x512_S64x12x19x256_0_0_0_256) (broadcastInDim S64x12x19x256 ![0, 1, 2, 3] bcast_S64x12x1x1_S64x12x19x256_0_1_2_3 (V0 (Proc.devRef .tc main_v51_11)))) (constant S_ .f32 0xFF800000#32) reducesTo_S64x12x19x256_S64x19x256_d1 h_S_)⟩] concatenates_S64x19x256_S64x19x256_S64x19x512_d2) (V0 (Proc.devRef .tc main_v51_12))) (broadcastInDim S64x19x256 ![0, 1, 2] bcast_S1x1x256_S64x19x256_0_1_2 (broadcastInDim S1x1x256 ![2] bcast_S256_S1x1x256_2 (V0 (Proc.devRef .tc main_v51_13))))) (broadcastInDim S64x19x256 ![] bcast_S_S64x19x256 (constant S_ .f32 0x00000000#32))) (V0 (Proc.devRef .tc main_v51_14))) (broadcastInDim S64x19x1 ![0, 1, 2] bcast_S1x1x1_S64x19x1_0_1_2 (broadcastInDim S1x1x1 ![2] bcast_S1_S1x1x1_2 (V0 (Proc.devRef .tc main_v51_15))))) shapeCasts_S64x19x1_S64x19 : (Proc.devRef .tc main_while0b_v157 : DevRef τ sig).ty.Contents (Elt F)) = Cert.ReferenceIdeal.Step.b125 j s := by
  unfold Cert.ReferenceIdeal.Step.b125
  rw [← al_124 h]
  try rfl
set_option maxRecDepth 8192 in
theorem al_126 (h : Holds V0 s j) : (constantI S_ 32 0#32 : (Proc.devRef .tc main_while0b_c_50 : DevRef τ sig).ty.Contents (Elt F)) = Cert.ReferenceIdeal.Step.b126 j s := by
  unfold Cert.ReferenceIdeal.Step.b126
  rfl
set_option maxRecDepth 8192 in
theorem al_127 (h : Holds V0 s j) : (cmpi .slt (V0 (Proc.devRef .tc main_v51_18)) (constantI S_ 32 0#32) : (Proc.devRef .tc main_while0b_v158 : DevRef τ sig).ty.Contents (Elt F)) = Cert.ReferenceIdeal.Step.b127 j s := by
  unfold Cert.ReferenceIdeal.Step.b127
  rw [← al_126 h, h.n_18]
  try rfl
set_option maxRecDepth 8192 in
theorem al_128 (h : Holds V0 s j) : (id (V0 (Proc.devRef .tc main_v51_18)) : (Proc.devRef .tc main_while0b_v159 : DevRef τ sig).ty.Contents (Elt F)) = Cert.ReferenceIdeal.Step.b128 j s := by
  unfold Cert.ReferenceIdeal.Step.b128
  rw [h.n_18]
  try rfl
set_option maxRecDepth 8192 in
theorem al_129 (h : Holds V0 s j) : (constantI S_ 32 12#32 : (Proc.devRef .tc main_while0b_c_51 : DevRef τ sig).ty.Contents (Elt F)) = Cert.ReferenceIdeal.Step.b129 j s := by
  unfold Cert.ReferenceIdeal.Step.b129
  rfl
set_option maxRecDepth 8192 in
theorem al_130 (h : Holds V0 s j) : (addi (id (V0 (Proc.devRef .tc main_v51_18))) (constantI S_ 32 12#32) : (Proc.devRef .tc main_while0b_v160 : DevRef τ sig).ty.Contents (Elt F)) = Cert.ReferenceIdeal.Step.b130 j s := by
  unfold Cert.ReferenceIdeal.Step.b130
  rw [← al_128 h, ← al_129 h]
  try rfl
set_option maxRecDepth 8192 in
theorem al_131 (h : Holds V0 s j) : (select (cmpi .slt (V0 (Proc.devRef .tc main_v51_18)) (constantI S_ 32 0#32)) (addi (id (V0 (Proc.devRef .tc main_v51_18))) (constantI S_ 32 12#32)) (V0 (Proc.devRef .tc main_v51_18)) : (Proc.devRef .tc main_while0b_v161 : DevRef τ sig).ty.Contents (Elt F)) = Cert.ReferenceIdeal.Step.b131 j s := by
  unfold Cert.ReferenceIdeal.Step.b131
  rw [← al_127 h, ← al_130 h, h.n_18]
  try rfl
set_option maxRecDepth 8192 in
theorem al_132 (h : Holds V0 s j) : (constantI S_ 32 0#32 : (Proc.devRef .tc main_while0b_c_52 : DevRef τ sig).ty.Contents (Elt F)) = Cert.ReferenceIdeal.Step.b132 j s := by
  unfold Cert.ReferenceIdeal.Step.b132
  rfl
set_option maxRecDepth 8192 in
theorem al_133 (h : Holds V0 s j) : (Host.dynamicSlice S64x1 (V0 (Proc.devRef .tc main_v51_16)) (fun k => (((![constantI S_ 32 0#32, select (cmpi .slt (V0 (Proc.devRef .tc main_v51_18)) (constantI S_ 32 0#32)) (addi (id (V0 (Proc.devRef .tc main_v51_18))) (constantI S_ 32 12#32)) (V0 (Proc.devRef .tc main_v51_18))] : Fin 2 → (⟨S_, .i32⟩ : BufTy).Contents (Elt F))) k (Shape.Idx.first h_S_)).toInt) sliceFits_S64x12_S64x1 : (Proc.devRef .tc main_while0b_v162 : DevRef τ sig).ty.Contents (Elt F)) = Cert.ReferenceIdeal.Step.b133 j s := by
  unfold Cert.ReferenceIdeal.Step.b133
  rw [← al_132 h, ← al_131 h, h.f_16]
  try rfl
set_option maxRecDepth 8192 in
theorem al_134 (h : Holds V0 s j) : (res_main_while0b_v163 V0 : (Proc.devRef .tc main_while0b_v163 : DevRef τ sig).ty.Contents (Elt F)) = Cert.ReferenceIdeal.Step.b134 j s := by
  unfold res_main_while0b_v163 Cert.ReferenceIdeal.Step.b134
  rw [← al_133 h]
  try rfl
set_option maxRecDepth 8192 in
theorem al_135 (h : Holds V0 s j) : (res_main_while0b_v164 V0 : (Proc.devRef .tc main_while0b_v164 : DevRef τ sig).ty.Contents (Elt F)) = Cert.ReferenceIdeal.Step.b135 j s := by
  unfold res_main_while0b_v164 Cert.ReferenceIdeal.Step.b135
  rw [← al_134 h]
  try rfl
set_option maxRecDepth 8192 in
theorem al_136 (h : Holds V0 s j) : (constantI S_ 32 0#32 : (Proc.devRef .tc main_while0b_call0_c : DevRef τ sig).ty.Contents (Elt F)) = Cert.ReferenceIdeal.Step.b136 j s := by
  unfold Cert.ReferenceIdeal.Step.b136
  rfl
set_option maxRecDepth 8192 in
theorem al_137 (h : Holds V0 s j) : (broadcastInDim S64x1x1x1 ![] bcast_S_S64x1x1x1 (constantI S_ 32 0#32) : (Proc.devRef .tc main_while0b_call0_v0 : DevRef τ sig).ty.Contents (Elt F)) = Cert.ReferenceIdeal.Step.b137 j s := by
  unfold Cert.ReferenceIdeal.Step.b137
  rw [← al_136 h]
  try rfl
set_option maxRecDepth 8192 in
theorem al_138 (h : Holds V0 s j) : (cmpi .slt (res_main_while0b_v164 V0) (broadcastInDim S64x1x1x1 ![] bcast_S_S64x1x1x1 (constantI S_ 32 0#32)) : (Proc.devRef .tc main_while0b_call0_v1 : DevRef τ sig).ty.Contents (Elt F)) = Cert.ReferenceIdeal.Step.b138 j s := by
  unfold Cert.ReferenceIdeal.Step.b138
  rw [← al_135 h, ← al_137 h]
  try rfl
set_option maxRecDepth 8192 in
theorem al_139 (h : Holds V0 s j) : (constantI S_ 32 19#32 : (Proc.devRef .tc main_while0b_call0_c_0 : DevRef τ sig).ty.Contents (Elt F)) = Cert.ReferenceIdeal.Step.b139 j s := by
  unfold Cert.ReferenceIdeal.Step.b139
  rfl
set_option maxRecDepth 8192 in
theorem al_140 (h : Holds V0 s j) : (broadcastInDim S64x1x1x1 ![] bcast_S_S64x1x1x1 (constantI S_ 32 19#32) : (Proc.devRef .tc main_while0b_call0_v2 : DevRef τ sig).ty.Contents (Elt F)) = Cert.ReferenceIdeal.Step.b140 j s := by
  unfold Cert.ReferenceIdeal.Step.b140
  rw [← al_139 h]
  try rfl
set_option maxRecDepth 8192 in
theorem al_141 (h : Holds V0 s j) : (addi (res_main_while0b_v164 V0) (broadcastInDim S64x1x1x1 ![] bcast_S_S64x1x1x1 (constantI S_ 32 19#32)) : (Proc.devRef .tc main_while0b_call0_v3 : DevRef τ sig).ty.Contents (Elt F)) = Cert.ReferenceIdeal.Step.b141 j s := by
  unfold Cert.ReferenceIdeal.Step.b141
  rw [← al_135 h, ← al_140 h]
  try rfl
set_option maxRecDepth 8192 in
theorem al_142 (h : Holds V0 s j) : (select (cmpi .slt (res_main_while0b_v164 V0) (broadcastInDim S64x1x1x1 ![] bcast_S_S64x1x1x1 (constantI S_ 32 0#32))) (addi (res_main_while0b_v164 V0) (broadcastInDim S64x1x1x1 ![] bcast_S_S64x1x1x1 (constantI S_ 32 19#32))) (res_main_while0b_v164 V0) : (Proc.devRef .tc main_while0b_call0_v4 : DevRef τ sig).ty.Contents (Elt F)) = Cert.ReferenceIdeal.Step.b142 j s := by
  unfold Cert.ReferenceIdeal.Step.b142
  rw [← al_138 h, ← al_141 h, ← al_135 h]
  try rfl
set_option maxRecDepth 8192 in
theorem al_143 (h : Holds V0 s j) : (res_main_while0b_call0_v5 V0 : (Proc.devRef .tc main_while0b_call0_v5 : DevRef τ sig).ty.Contents (Elt F)) = Cert.ReferenceIdeal.Step.b143 j s := by
  unfold res_main_while0b_call0_v5 Cert.ReferenceIdeal.Step.b143
  rw [← al_142 h]
  try rfl
set_option maxRecDepth 8192 in
theorem al_144 (h : Holds V0 s j) : (constantI S1 32 18#32 : (Proc.devRef .tc main_while0b_call0_c_1 : DevRef τ sig).ty.Contents (Elt F)) = Cert.ReferenceIdeal.Step.b144 j s := by
  unfold Cert.ReferenceIdeal.Step.b144
  rfl
set_option maxRecDepth 8192 in
theorem al_145 (h : Holds V0 s j) : (constantI S_ 32 0#32 : (Proc.devRef .tc main_while0b_call0_c_2 : DevRef τ sig).ty.Contents (Elt F)) = Cert.ReferenceIdeal.Step.b145 j s := by
  unfold Cert.ReferenceIdeal.Step.b145
  rfl
set_option maxRecDepth 8192 in
theorem al_146 (h : Holds V0 s j) : (broadcastInDim S64x1x1 ![] bcast_S_S64x1x1 (constantI S_ 32 0#32) : (Proc.devRef .tc main_while0b_call0_v6 : DevRef τ sig).ty.Contents (Elt F)) = Cert.ReferenceIdeal.Step.b146 j s := by
  unfold Cert.ReferenceIdeal.Step.b146
  rw [← al_145 h]
  try rfl
set_option maxRecDepth 8192 in
theorem al_147 (h : Holds V0 s j) : (cmpi .sge (res_main_while0b_call0_v5 V0) (broadcastInDim S64x1x1 ![] bcast_S_S64x1x1 (constantI S_ 32 0#32)) : (Proc.devRef .tc main_while0b_call0_v7 : DevRef τ sig).ty.Contents (Elt F)) = Cert.ReferenceIdeal.Step.b147 j s := by
  unfold Cert.ReferenceIdeal.Step.b147
  rw [← al_143 h, ← al_146 h]
  try rfl
set_option maxRecDepth 8192 in
theorem al_148 (h : Holds V0 s j) : (broadcastInDim S1x1x1 ![2] bcast_S1_S1x1x1_2 (constantI S1 32 18#32) : (Proc.devRef .tc main_while0b_call0_v8 : DevRef τ sig).ty.Contents (Elt F)) = Cert.ReferenceIdeal.Step.b148 j s := by
  unfold Cert.ReferenceIdeal.Step.b148
  rw [← al_144 h]
  try rfl
set_option maxRecDepth 8192 in
theorem al_149 (h : Holds V0 s j) : (broadcastInDim S64x1x1 ![0, 1, 2] bcast_S1x1x1_S64x1x1_0_1_2 (broadcastInDim S1x1x1 ![2] bcast_S1_S1x1x1_2 (constantI S1 32 18#32)) : (Proc.devRef .tc main_while0b_call0_v9 : DevRef τ sig).ty.Contents (Elt F)) = Cert.ReferenceIdeal.Step.b149 j s := by
  unfold Cert.ReferenceIdeal.Step.b149
  rw [← al_148 h]
  try rfl
set_option maxRecDepth 8192 in
theorem al_150 (h : Holds V0 s j) : (cmpi .sle (res_main_while0b_call0_v5 V0) (broadcastInDim S64x1x1 ![0, 1, 2] bcast_S1x1x1_S64x1x1_0_1_2 (broadcastInDim S1x1x1 ![2] bcast_S1_S1x1x1_2 (constantI S1 32 18#32))) : (Proc.devRef .tc main_while0b_call0_v10 : DevRef τ sig).ty.Contents (Elt F)) = Cert.ReferenceIdeal.Step.b150 j s := by
  unfold Cert.ReferenceIdeal.Step.b150
  rw [← al_143 h, ← al_149 h]
  try rfl
set_option maxRecDepth 8192 in
theorem al_151 (h : Holds V0 s j) : (andi (cmpi .sge (res_main_while0b_call0_v5 V0) (broadcastInDim S64x1x1 ![] bcast_S_S64x1x1 (constantI S_ 32 0#32))) (cmpi .sle (res_main_while0b_call0_v5 V0) (broadcastInDim S64x1x1 ![0, 1, 2] bcast_S1x1x1_S64x1x1_0_1_2 (broadcastInDim S1x1x1 ![2] bcast_S1_S1x1x1_2 (constantI S1 32 18#32)))) : (Proc.devRef .tc main_while0b_call0_v11 : DevRef τ sig).ty.Contents (Elt F)) = Cert.ReferenceIdeal.Step.b151 j s := by
  unfold Cert.ReferenceIdeal.Step.b151
  rw [← al_147 h, ← al_150 h]
  try rfl
set_option maxRecDepth 8192 in
theorem al_152 (h : Holds V0 s j) : (constantI S_ 1 1#1 : (Proc.devRef .tc main_while0b_call0_c_3 : DevRef τ sig).ty.Contents (Elt F)) = Cert.ReferenceIdeal.Step.b152 j s := by
  unfold Cert.ReferenceIdeal.Step.b152
  rfl
set_option maxRecDepth 8192 in
theorem al_153 (h : Holds V0 s j) : (Host.reduce IntOp.andi (andi (cmpi .sge (res_main_while0b_call0_v5 V0) (broadcastInDim S64x1x1 ![] bcast_S_S64x1x1 (constantI S_ 32 0#32))) (cmpi .sle (res_main_while0b_call0_v5 V0) (broadcastInDim S64x1x1 ![0, 1, 2] bcast_S1x1x1_S64x1x1_0_1_2 (broadcastInDim S1x1x1 ![2] bcast_S1_S1x1x1_2 (constantI S1 32 18#32))))) (constantI S_ 1 1#1) reducesTo_S64x1x1_S64x1_d2 h_S_ : (Proc.devRef .tc main_while0b_call0_v12 : DevRef τ sig).ty.Contents (Elt F)) = Cert.ReferenceIdeal.Step.b153 j s := by
  unfold Cert.ReferenceIdeal.Step.b153
  rw [← al_151 h, ← al_152 h]
  try rfl
set_option maxRecDepth 8192 in
theorem al_154 (h : Holds V0 s j) : (Host.gather gather_S64x1x19x256_S64x1x1_S64x1x1x256_13_2_0_0_2_2_111256 (V0 (Proc.devRef .tc main_v51_9)) (res_main_while0b_call0_v5 V0) : (Proc.devRef .tc main_while0b_call0_v13 : DevRef τ sig).ty.Contents (Elt F)) = Cert.ReferenceIdeal.Step.b154 j s := by
  unfold Cert.ReferenceIdeal.Step.b154
  rw [← al_143 h, h.f_9]
  try rfl
set_option maxRecDepth 8192 in
theorem al_155 (h : Holds V0 s j) : (broadcastInDim S64x1x1x256 ![0, 2] bcast_S64x1_S64x1x1x256_0_2 (Host.reduce IntOp.andi (andi (cmpi .sge (res_main_while0b_call0_v5 V0) (broadcastInDim S64x1x1 ![] bcast_S_S64x1x1 (constantI S_ 32 0#32))) (cmpi .sle (res_main_while0b_call0_v5 V0) (broadcastInDim S64x1x1 ![0, 1, 2] bcast_S1x1x1_S64x1x1_0_1_2 (broadcastInDim S1x1x1 ![2] bcast_S1_S1x1x1_2 (constantI S1 32 18#32))))) (constantI S_ 1 1#1) reducesTo_S64x1x1_S64x1_d2 h_S_) : (Proc.devRef .tc main_while0b_call0_v14 : DevRef τ sig).ty.Contents (Elt F)) = Cert.ReferenceIdeal.Step.b155 j s := by
  unfold Cert.ReferenceIdeal.Step.b155
  rw [← al_153 h]
  try rfl
set_option maxRecDepth 8192 in
theorem al_156 (h : Holds V0 s j) : (constant S_ .f32 0x7FC00000#32 : (Proc.devRef .tc main_while0b_call0_cst : DevRef τ sig).ty.Contents (Elt F)) = Cert.ReferenceIdeal.Step.b156 j s := by
  unfold Cert.ReferenceIdeal.Step.b156
  rfl
set_option maxRecDepth 8192 in
theorem al_157 (h : Holds V0 s j) : (broadcastInDim S64x1x1x256 ![] bcast_S_S64x1x1x256 (constant S_ .f32 0x7FC00000#32) : (Proc.devRef .tc main_while0b_call0_v15 : DevRef τ sig).ty.Contents (Elt F)) = Cert.ReferenceIdeal.Step.b157 j s := by
  unfold Cert.ReferenceIdeal.Step.b157
  rw [← al_156 h]
  try rfl
set_option maxRecDepth 8192 in
theorem al_158 (h : Holds V0 s j) : (select (broadcastInDim S64x1x1x256 ![0, 2] bcast_S64x1_S64x1x1x256_0_2 (Host.reduce IntOp.andi (andi (cmpi .sge (res_main_while0b_call0_v5 V0) (broadcastInDim S64x1x1 ![] bcast_S_S64x1x1 (constantI S_ 32 0#32))) (cmpi .sle (res_main_while0b_call0_v5 V0) (broadcastInDim S64x1x1 ![0, 1, 2] bcast_S1x1x1_S64x1x1_0_1_2 (broadcastInDim S1x1x1 ![2] bcast_S1_S1x1x1_2 (constantI S1 32 18#32))))) (constantI S_ 1 1#1) reducesTo_S64x1x1_S64x1_d2 h_S_)) (Host.gather gather_S64x1x19x256_S64x1x1_S64x1x1x256_13_2_0_0_2_2_111256 (V0 (Proc.devRef .tc main_v51_9)) (res_main_while0b_call0_v5 V0)) (broadcastInDim S64x1x1x256 ![] bcast_S_S64x1x1x256 (constant S_ .f32 0x7FC00000#32)) : (Proc.devRef .tc main_while0b_v165 : DevRef τ sig).ty.Contents (Elt F)) = Cert.ReferenceIdeal.Step.b158 j s := by
  unfold Cert.ReferenceIdeal.Step.b158
  rw [← al_155 h, ← al_154 h, ← al_157 h]
  try rfl
set_option maxRecDepth 8192 in
theorem al_159 (h : Holds V0 s j) : (shapeCast S64x256 (select (broadcastInDim S64x1x1x256 ![0, 2] bcast_S64x1_S64x1x1x256_0_2 (Host.reduce IntOp.andi (andi (cmpi .sge (res_main_while0b_call0_v5 V0) (broadcastInDim S64x1x1 ![] bcast_S_S64x1x1 (constantI S_ 32 0#32))) (cmpi .sle (res_main_while0b_call0_v5 V0) (broadcastInDim S64x1x1 ![0, 1, 2] bcast_S1x1x1_S64x1x1_0_1_2 (broadcastInDim S1x1x1 ![2] bcast_S1_S1x1x1_2 (constantI S1 32 18#32))))) (constantI S_ 1 1#1) reducesTo_S64x1x1_S64x1_d2 h_S_)) (Host.gather gather_S64x1x19x256_S64x1x1_S64x1x1x256_13_2_0_0_2_2_111256 (V0 (Proc.devRef .tc main_v51_9)) (res_main_while0b_call0_v5 V0)) (broadcastInDim S64x1x1x256 ![] bcast_S_S64x1x1x256 (constant S_ .f32 0x7FC00000#32))) shapeCasts_S64x1x1x256_S64x256 : (Proc.devRef .tc main_while0b_v166 : DevRef τ sig).ty.Contents (Elt F)) = Cert.ReferenceIdeal.Step.b159 j s := by
  unfold Cert.ReferenceIdeal.Step.b159
  rw [← al_158 h]
  try rfl
set_option maxRecDepth 8192 in
theorem al_160 (h : Holds V0 s j) : (res_main_while0b_v167 V0 : (Proc.devRef .tc main_while0b_v167 : DevRef τ sig).ty.Contents (Elt F)) = Cert.ReferenceIdeal.Step.b160 j s := by
  unfold res_main_while0b_v167 Cert.ReferenceIdeal.Step.b160
  rw [← al_134 h]
  try rfl
set_option maxRecDepth 8192 in
theorem al_161 (h : Holds V0 s j) : (constantI S_ 32 0#32 : (Proc.devRef .tc main_while0b_call1_c : DevRef τ sig).ty.Contents (Elt F)) = Cert.ReferenceIdeal.Step.b161 j s := by
  unfold Cert.ReferenceIdeal.Step.b161
  rfl
set_option maxRecDepth 8192 in
theorem al_162 (h : Holds V0 s j) : (broadcastInDim S64x1x1x1 ![] bcast_S_S64x1x1x1 (constantI S_ 32 0#32) : (Proc.devRef .tc main_while0b_call1_v0 : DevRef τ sig).ty.Contents (Elt F)) = Cert.ReferenceIdeal.Step.b162 j s := by
  unfold Cert.ReferenceIdeal.Step.b162
  rw [← al_161 h]
  try rfl
set_option maxRecDepth 8192 in
theorem al_163 (h : Holds V0 s j) : (cmpi .slt (res_main_while0b_v167 V0) (broadcastInDim S64x1x1x1 ![] bcast_S_S64x1x1x1 (constantI S_ 32 0#32)) : (Proc.devRef .tc main_while0b_call1_v1 : DevRef τ sig).ty.Contents (Elt F)) = Cert.ReferenceIdeal.Step.b163 j s := by
  unfold Cert.ReferenceIdeal.Step.b163
  rw [← al_160 h, ← al_162 h]
  try rfl
set_option maxRecDepth 8192 in
theorem al_164 (h : Holds V0 s j) : (constantI S_ 32 19#32 : (Proc.devRef .tc main_while0b_call1_c_0 : DevRef τ sig).ty.Contents (Elt F)) = Cert.ReferenceIdeal.Step.b164 j s := by
  unfold Cert.ReferenceIdeal.Step.b164
  rfl
set_option maxRecDepth 8192 in
theorem al_165 (h : Holds V0 s j) : (broadcastInDim S64x1x1x1 ![] bcast_S_S64x1x1x1 (constantI S_ 32 19#32) : (Proc.devRef .tc main_while0b_call1_v2 : DevRef τ sig).ty.Contents (Elt F)) = Cert.ReferenceIdeal.Step.b165 j s := by
  unfold Cert.ReferenceIdeal.Step.b165
  rw [← al_164 h]
  try rfl
set_option maxRecDepth 8192 in
theorem al_166 (h : Holds V0 s j) : (addi (res_main_while0b_v167 V0) (broadcastInDim S64x1x1x1 ![] bcast_S_S64x1x1x1 (constantI S_ 32 19#32)) : (Proc.devRef .tc main_while0b_call1_v3 : DevRef τ sig).ty.Contents (Elt F)) = Cert.ReferenceIdeal.Step.b166 j s := by
  unfold Cert.ReferenceIdeal.Step.b166
  rw [← al_160 h, ← al_165 h]
  try rfl
set_option maxRecDepth 8192 in
theorem al_167 (h : Holds V0 s j) : (select (cmpi .slt (res_main_while0b_v167 V0) (broadcastInDim S64x1x1x1 ![] bcast_S_S64x1x1x1 (constantI S_ 32 0#32))) (addi (res_main_while0b_v167 V0) (broadcastInDim S64x1x1x1 ![] bcast_S_S64x1x1x1 (constantI S_ 32 19#32))) (res_main_while0b_v167 V0) : (Proc.devRef .tc main_while0b_call1_v4 : DevRef τ sig).ty.Contents (Elt F)) = Cert.ReferenceIdeal.Step.b167 j s := by
  unfold Cert.ReferenceIdeal.Step.b167
  rw [← al_163 h, ← al_166 h, ← al_160 h]
  try rfl
set_option maxRecDepth 8192 in
theorem al_168 (h : Holds V0 s j) : (res_main_while0b_call1_v5 V0 : (Proc.devRef .tc main_while0b_call1_v5 : DevRef τ sig).ty.Contents (Elt F)) = Cert.ReferenceIdeal.Step.b168 j s := by
  unfold res_main_while0b_call1_v5 Cert.ReferenceIdeal.Step.b168
  rw [← al_167 h]
  try rfl
set_option maxRecDepth 8192 in
theorem al_169 (h : Holds V0 s j) : (constantI S1 32 18#32 : (Proc.devRef .tc main_while0b_call1_c_1 : DevRef τ sig).ty.Contents (Elt F)) = Cert.ReferenceIdeal.Step.b169 j s := by
  unfold Cert.ReferenceIdeal.Step.b169
  rfl
set_option maxRecDepth 8192 in
theorem al_170 (h : Holds V0 s j) : (constantI S_ 32 0#32 : (Proc.devRef .tc main_while0b_call1_c_2 : DevRef τ sig).ty.Contents (Elt F)) = Cert.ReferenceIdeal.Step.b170 j s := by
  unfold Cert.ReferenceIdeal.Step.b170
  rfl
set_option maxRecDepth 8192 in
theorem al_171 (h : Holds V0 s j) : (broadcastInDim S64x1x1 ![] bcast_S_S64x1x1 (constantI S_ 32 0#32) : (Proc.devRef .tc main_while0b_call1_v6 : DevRef τ sig).ty.Contents (Elt F)) = Cert.ReferenceIdeal.Step.b171 j s := by
  unfold Cert.ReferenceIdeal.Step.b171
  rw [← al_170 h]
  try rfl
set_option maxRecDepth 8192 in
theorem al_172 (h : Holds V0 s j) : (cmpi .sge (res_main_while0b_call1_v5 V0) (broadcastInDim S64x1x1 ![] bcast_S_S64x1x1 (constantI S_ 32 0#32)) : (Proc.devRef .tc main_while0b_call1_v7 : DevRef τ sig).ty.Contents (Elt F)) = Cert.ReferenceIdeal.Step.b172 j s := by
  unfold Cert.ReferenceIdeal.Step.b172
  rw [← al_168 h, ← al_171 h]
  try rfl
set_option maxRecDepth 8192 in
theorem al_173 (h : Holds V0 s j) : (broadcastInDim S1x1x1 ![2] bcast_S1_S1x1x1_2 (constantI S1 32 18#32) : (Proc.devRef .tc main_while0b_call1_v8 : DevRef τ sig).ty.Contents (Elt F)) = Cert.ReferenceIdeal.Step.b173 j s := by
  unfold Cert.ReferenceIdeal.Step.b173
  rw [← al_169 h]
  try rfl
set_option maxRecDepth 8192 in
theorem al_174 (h : Holds V0 s j) : (broadcastInDim S64x1x1 ![0, 1, 2] bcast_S1x1x1_S64x1x1_0_1_2 (broadcastInDim S1x1x1 ![2] bcast_S1_S1x1x1_2 (constantI S1 32 18#32)) : (Proc.devRef .tc main_while0b_call1_v9 : DevRef τ sig).ty.Contents (Elt F)) = Cert.ReferenceIdeal.Step.b174 j s := by
  unfold Cert.ReferenceIdeal.Step.b174
  rw [← al_173 h]
  try rfl
set_option maxRecDepth 8192 in
theorem al_175 (h : Holds V0 s j) : (cmpi .sle (res_main_while0b_call1_v5 V0) (broadcastInDim S64x1x1 ![0, 1, 2] bcast_S1x1x1_S64x1x1_0_1_2 (broadcastInDim S1x1x1 ![2] bcast_S1_S1x1x1_2 (constantI S1 32 18#32))) : (Proc.devRef .tc main_while0b_call1_v10 : DevRef τ sig).ty.Contents (Elt F)) = Cert.ReferenceIdeal.Step.b175 j s := by
  unfold Cert.ReferenceIdeal.Step.b175
  rw [← al_168 h, ← al_174 h]
  try rfl
set_option maxRecDepth 8192 in
theorem al_176 (h : Holds V0 s j) : (andi (cmpi .sge (res_main_while0b_call1_v5 V0) (broadcastInDim S64x1x1 ![] bcast_S_S64x1x1 (constantI S_ 32 0#32))) (cmpi .sle (res_main_while0b_call1_v5 V0) (broadcastInDim S64x1x1 ![0, 1, 2] bcast_S1x1x1_S64x1x1_0_1_2 (broadcastInDim S1x1x1 ![2] bcast_S1_S1x1x1_2 (constantI S1 32 18#32)))) : (Proc.devRef .tc main_while0b_call1_v11 : DevRef τ sig).ty.Contents (Elt F)) = Cert.ReferenceIdeal.Step.b176 j s := by
  unfold Cert.ReferenceIdeal.Step.b176
  rw [← al_172 h, ← al_175 h]
  try rfl
set_option maxRecDepth 8192 in
theorem al_177 (h : Holds V0 s j) : (constantI S_ 1 1#1 : (Proc.devRef .tc main_while0b_call1_c_3 : DevRef τ sig).ty.Contents (Elt F)) = Cert.ReferenceIdeal.Step.b177 j s := by
  unfold Cert.ReferenceIdeal.Step.b177
  rfl
set_option maxRecDepth 8192 in
theorem al_178 (h : Holds V0 s j) : (Host.reduce IntOp.andi (andi (cmpi .sge (res_main_while0b_call1_v5 V0) (broadcastInDim S64x1x1 ![] bcast_S_S64x1x1 (constantI S_ 32 0#32))) (cmpi .sle (res_main_while0b_call1_v5 V0) (broadcastInDim S64x1x1 ![0, 1, 2] bcast_S1x1x1_S64x1x1_0_1_2 (broadcastInDim S1x1x1 ![2] bcast_S1_S1x1x1_2 (constantI S1 32 18#32))))) (constantI S_ 1 1#1) reducesTo_S64x1x1_S64x1_d2 h_S_ : (Proc.devRef .tc main_while0b_call1_v12 : DevRef τ sig).ty.Contents (Elt F)) = Cert.ReferenceIdeal.Step.b178 j s := by
  unfold Cert.ReferenceIdeal.Step.b178
  rw [← al_176 h, ← al_177 h]
  try rfl
set_option maxRecDepth 8192 in
theorem al_179 (h : Holds V0 s j) : (Host.gather gather_S64x1x19x256_S64x1x1_S64x1x1x256_13_2_0_0_2_2_111256 (res_main_while0b_v80 V0) (res_main_while0b_call1_v5 V0) : (Proc.devRef .tc main_while0b_call1_v13 : DevRef τ sig).ty.Contents (Elt F)) = Cert.ReferenceIdeal.Step.b179 j s := by
  unfold Cert.ReferenceIdeal.Step.b179
  rw [← al_37 h, ← al_168 h]
  try rfl
set_option maxRecDepth 8192 in
theorem al_180 (h : Holds V0 s j) : (broadcastInDim S64x1x1x256 ![0, 2] bcast_S64x1_S64x1x1x256_0_2 (Host.reduce IntOp.andi (andi (cmpi .sge (res_main_while0b_call1_v5 V0) (broadcastInDim S64x1x1 ![] bcast_S_S64x1x1 (constantI S_ 32 0#32))) (cmpi .sle (res_main_while0b_call1_v5 V0) (broadcastInDim S64x1x1 ![0, 1, 2] bcast_S1x1x1_S64x1x1_0_1_2 (broadcastInDim S1x1x1 ![2] bcast_S1_S1x1x1_2 (constantI S1 32 18#32))))) (constantI S_ 1 1#1) reducesTo_S64x1x1_S64x1_d2 h_S_) : (Proc.devRef .tc main_while0b_call1_v14 : DevRef τ sig).ty.Contents (Elt F)) = Cert.ReferenceIdeal.Step.b180 j s := by
  unfold Cert.ReferenceIdeal.Step.b180
  rw [← al_178 h]
  try rfl
set_option maxRecDepth 8192 in
theorem al_181 (h : Holds V0 s j) : (constant S_ .f32 0x7FC00000#32 : (Proc.devRef .tc main_while0b_call1_cst : DevRef τ sig).ty.Contents (Elt F)) = Cert.ReferenceIdeal.Step.b181 j s := by
  unfold Cert.ReferenceIdeal.Step.b181
  rfl
set_option maxRecDepth 8192 in
theorem al_182 (h : Holds V0 s j) : (broadcastInDim S64x1x1x256 ![] bcast_S_S64x1x1x256 (constant S_ .f32 0x7FC00000#32) : (Proc.devRef .tc main_while0b_call1_v15 : DevRef τ sig).ty.Contents (Elt F)) = Cert.ReferenceIdeal.Step.b182 j s := by
  unfold Cert.ReferenceIdeal.Step.b182
  rw [← al_181 h]
  try rfl
set_option maxRecDepth 8192 in
theorem al_183 (h : Holds V0 s j) : (select (broadcastInDim S64x1x1x256 ![0, 2] bcast_S64x1_S64x1x1x256_0_2 (Host.reduce IntOp.andi (andi (cmpi .sge (res_main_while0b_call1_v5 V0) (broadcastInDim S64x1x1 ![] bcast_S_S64x1x1 (constantI S_ 32 0#32))) (cmpi .sle (res_main_while0b_call1_v5 V0) (broadcastInDim S64x1x1 ![0, 1, 2] bcast_S1x1x1_S64x1x1_0_1_2 (broadcastInDim S1x1x1 ![2] bcast_S1_S1x1x1_2 (constantI S1 32 18#32))))) (constantI S_ 1 1#1) reducesTo_S64x1x1_S64x1_d2 h_S_)) (Host.gather gather_S64x1x19x256_S64x1x1_S64x1x1x256_13_2_0_0_2_2_111256 (res_main_while0b_v80 V0) (res_main_while0b_call1_v5 V0)) (broadcastInDim S64x1x1x256 ![] bcast_S_S64x1x1x256 (constant S_ .f32 0x7FC00000#32)) : (Proc.devRef .tc main_while0b_v168 : DevRef τ sig).ty.Contents (Elt F)) = Cert.ReferenceIdeal.Step.b183 j s := by
  unfold Cert.ReferenceIdeal.Step.b183
  rw [← al_180 h, ← al_179 h, ← al_182 h]
  try rfl
set_option maxRecDepth 8192 in
theorem al_184 (h : Holds V0 s j) : (shapeCast S64x256 (select (broadcastInDim S64x1x1x256 ![0, 2] bcast_S64x1_S64x1x1x256_0_2 (Host.reduce IntOp.andi (andi (cmpi .sge (res_main_while0b_call1_v5 V0) (broadcastInDim S64x1x1 ![] bcast_S_S64x1x1 (constantI S_ 32 0#32))) (cmpi .sle (res_main_while0b_call1_v5 V0) (broadcastInDim S64x1x1 ![0, 1, 2] bcast_S1x1x1_S64x1x1_0_1_2 (broadcastInDim S1x1x1 ![2] bcast_S1_S1x1x1_2 (constantI S1 32 18#32))))) (constantI S_ 1 1#1) reducesTo_S64x1x1_S64x1_d2 h_S_)) (Host.gather gather_S64x1x19x256_S64x1x1_S64x1x1x256_13_2_0_0_2_2_111256 (res_main_while0b_v80 V0) (res_main_while0b_call1_v5 V0)) (broadcastInDim S64x1x1x256 ![] bcast_S_S64x1x1x256 (constant S_ .f32 0x7FC00000#32))) shapeCasts_S64x1x1x256_S64x256 : (Proc.devRef .tc main_while0b_v169 : DevRef τ sig).ty.Contents (Elt F)) = Cert.ReferenceIdeal.Step.b184 j s := by
  unfold Cert.ReferenceIdeal.Step.b184
  rw [← al_183 h]
  try rfl
set_option maxRecDepth 8192 in
theorem al_185 (h : Holds V0 s j) : (res_main_while0b_v170 V0 : (Proc.devRef .tc main_while0b_v170 : DevRef τ sig).ty.Contents (Elt F)) = Cert.ReferenceIdeal.Step.b185 j s := by
  unfold res_main_while0b_v170 Cert.ReferenceIdeal.Step.b185
  rfl
set_option maxRecDepth 8192 in
theorem al_186 (h : Holds V0 s j) : (id (V0 (Proc.devRef .tc main_v51_18)) : (Proc.devRef .tc main_while0b_v171 : DevRef τ sig).ty.Contents (Elt F)) = Cert.ReferenceIdeal.Step.b186 j s := by
  unfold Cert.ReferenceIdeal.Step.b186
  rw [h.n_18]
  try rfl
set_option maxRecDepth 8192 in
theorem al_187 (h : Holds V0 s j) : (broadcastInDim S64x12x256 ![] bcast_S_S64x12x256 (id (V0 (Proc.devRef .tc main_v51_18))) : (Proc.devRef .tc main_while0b_v172 : DevRef τ sig).ty.Contents (Elt F)) = Cert.ReferenceIdeal.Step.b187 j s := by
  unfold Cert.ReferenceIdeal.Step.b187
  rw [← al_186 h]
  try rfl
set_option maxRecDepth 8192 in
theorem al_188 (h : Holds V0 s j) : (cmpi .eq (res_main_while0b_v170 V0) (broadcastInDim S64x12x256 ![] bcast_S_S64x12x256 (id (V0 (Proc.devRef .tc main_v51_18)))) : (Proc.devRef .tc main_while0b_v173 : DevRef τ sig).ty.Contents (Elt F)) = Cert.ReferenceIdeal.Step.b188 j s := by
  unfold Cert.ReferenceIdeal.Step.b188
  rw [← al_185 h, ← al_187 h]
  try rfl
set_option maxRecDepth 8192 in
theorem al_189 (h : Holds V0 s j) : (broadcastInDim S64x1x256 ![0, 2] bcast_S64x256_S64x1x256_0_2 (shapeCast S64x256 (select (broadcastInDim S64x1x1x256 ![0, 2] bcast_S64x1_S64x1x1x256_0_2 (Host.reduce IntOp.andi (andi (cmpi .sge (res_main_while0b_call0_v5 V0) (broadcastInDim S64x1x1 ![] bcast_S_S64x1x1 (constantI S_ 32 0#32))) (cmpi .sle (res_main_while0b_call0_v5 V0) (broadcastInDim S64x1x1 ![0, 1, 2] bcast_S1x1x1_S64x1x1_0_1_2 (broadcastInDim S1x1x1 ![2] bcast_S1_S1x1x1_2 (constantI S1 32 18#32))))) (constantI S_ 1 1#1) reducesTo_S64x1x1_S64x1_d2 h_S_)) (Host.gather gather_S64x1x19x256_S64x1x1_S64x1x1x256_13_2_0_0_2_2_111256 (V0 (Proc.devRef .tc main_v51_9)) (res_main_while0b_call0_v5 V0)) (broadcastInDim S64x1x1x256 ![] bcast_S_S64x1x1x256 (constant S_ .f32 0x7FC00000#32))) shapeCasts_S64x1x1x256_S64x256) : (Proc.devRef .tc main_while0b_v174 : DevRef τ sig).ty.Contents (Elt F)) = Cert.ReferenceIdeal.Step.b189 j s := by
  unfold Cert.ReferenceIdeal.Step.b189
  rw [← al_159 h]
  try rfl
set_option maxRecDepth 8192 in
theorem al_190 (h : Holds V0 s j) : (broadcastInDim S64x12x256 ![0, 1, 2] bcast_S64x1x256_S64x12x256_0_1_2 (broadcastInDim S64x1x256 ![0, 2] bcast_S64x256_S64x1x256_0_2 (shapeCast S64x256 (select (broadcastInDim S64x1x1x256 ![0, 2] bcast_S64x1_S64x1x1x256_0_2 (Host.reduce IntOp.andi (andi (cmpi .sge (res_main_while0b_call0_v5 V0) (broadcastInDim S64x1x1 ![] bcast_S_S64x1x1 (constantI S_ 32 0#32))) (cmpi .sle (res_main_while0b_call0_v5 V0) (broadcastInDim S64x1x1 ![0, 1, 2] bcast_S1x1x1_S64x1x1_0_1_2 (broadcastInDim S1x1x1 ![2] bcast_S1_S1x1x1_2 (constantI S1 32 18#32))))) (constantI S_ 1 1#1) reducesTo_S64x1x1_S64x1_d2 h_S_)) (Host.gather gather_S64x1x19x256_S64x1x1_S64x1x1x256_13_2_0_0_2_2_111256 (V0 (Proc.devRef .tc main_v51_9)) (res_main_while0b_call0_v5 V0)) (broadcastInDim S64x1x1x256 ![] bcast_S_S64x1x1x256 (constant S_ .f32 0x7FC00000#32))) shapeCasts_S64x1x1x256_S64x256)) : (Proc.devRef .tc main_while0b_v175 : DevRef τ sig).ty.Contents (Elt F)) = Cert.ReferenceIdeal.Step.b190 j s := by
  unfold Cert.ReferenceIdeal.Step.b190
  rw [← al_189 h]
  try rfl
set_option maxRecDepth 8192 in
theorem al_191 (h : Holds V0 s j) : (addf (V0 (Proc.devRef .tc main_v51_19)) (broadcastInDim S64x12x256 ![0, 1, 2] bcast_S64x1x256_S64x12x256_0_1_2 (broadcastInDim S64x1x256 ![0, 2] bcast_S64x256_S64x1x256_0_2 (shapeCast S64x256 (select (broadcastInDim S64x1x1x256 ![0, 2] bcast_S64x1_S64x1x1x256_0_2 (Host.reduce IntOp.andi (andi (cmpi .sge (res_main_while0b_call0_v5 V0) (broadcastInDim S64x1x1 ![] bcast_S_S64x1x1 (constantI S_ 32 0#32))) (cmpi .sle (res_main_while0b_call0_v5 V0) (broadcastInDim S64x1x1 ![0, 1, 2] bcast_S1x1x1_S64x1x1_0_1_2 (broadcastInDim S1x1x1 ![2] bcast_S1_S1x1x1_2 (constantI S1 32 18#32))))) (constantI S_ 1 1#1) reducesTo_S64x1x1_S64x1_d2 h_S_)) (Host.gather gather_S64x1x19x256_S64x1x1_S64x1x1x256_13_2_0_0_2_2_111256 (V0 (Proc.devRef .tc main_v51_9)) (res_main_while0b_call0_v5 V0)) (broadcastInDim S64x1x1x256 ![] bcast_S_S64x1x1x256 (constant S_ .f32 0x7FC00000#32))) shapeCasts_S64x1x1x256_S64x256))) : (Proc.devRef .tc main_while0b_v176 : DevRef τ sig).ty.Contents (Elt F)) = Cert.ReferenceIdeal.Step.b191 j s := by
  unfold Cert.ReferenceIdeal.Step.b191
  rw [← al_190 h, h.f_19]
  try rfl
set_option maxRecDepth 8192 in
theorem al_192 (h : Holds V0 s j) : (res_main_while0b_v177 V0 : (Proc.devRef .tc main_while0b_v177 : DevRef τ sig).ty.Contents (Elt F)) = Cert.ReferenceIdeal.Step.b192 j s := by
  unfold res_main_while0b_v177 Cert.ReferenceIdeal.Step.b192
  rw [← al_188 h, ← al_191 h, h.f_19]
  try rfl
set_option maxRecDepth 8192 in
theorem al_193 (h : Holds V0 s j) : (constantI S_ 32 11#32 : (Proc.devRef .tc main_while0b_c_53 : DevRef τ sig).ty.Contents (Elt F)) = Cert.ReferenceIdeal.Step.b193 j s := by
  unfold Cert.ReferenceIdeal.Step.b193
  rfl
set_option maxRecDepth 8192 in
theorem al_194 (h : Holds V0 s j) : (broadcastInDim S64x12x256 ![] bcast_S_S64x12x256 (constantI S_ 32 11#32) : (Proc.devRef .tc main_while0b_v178 : DevRef τ sig).ty.Contents (Elt F)) = Cert.ReferenceIdeal.Step.b194 j s := by
  unfold Cert.ReferenceIdeal.Step.b194
  rw [← al_193 h]
  try rfl
set_option maxRecDepth 8192 in
theorem al_195 (h : Holds V0 s j) : (cmpi .eq (res_main_while0b_v170 V0) (broadcastInDim S64x12x256 ![] bcast_S_S64x12x256 (constantI S_ 32 11#32)) : (Proc.devRef .tc main_while0b_v179 : DevRef τ sig).ty.Contents (Elt F)) = Cert.ReferenceIdeal.Step.b195 j s := by
  unfold Cert.ReferenceIdeal.Step.b195
  rw [← al_185 h, ← al_194 h]
  try rfl
set_option maxRecDepth 8192 in
theorem al_196 (h : Holds V0 s j) : (broadcastInDim S64x1x256 ![0, 2] bcast_S64x256_S64x1x256_0_2 (shapeCast S64x256 (select (broadcastInDim S64x1x1x256 ![0, 2] bcast_S64x1_S64x1x1x256_0_2 (Host.reduce IntOp.andi (andi (cmpi .sge (res_main_while0b_call1_v5 V0) (broadcastInDim S64x1x1 ![] bcast_S_S64x1x1 (constantI S_ 32 0#32))) (cmpi .sle (res_main_while0b_call1_v5 V0) (broadcastInDim S64x1x1 ![0, 1, 2] bcast_S1x1x1_S64x1x1_0_1_2 (broadcastInDim S1x1x1 ![2] bcast_S1_S1x1x1_2 (constantI S1 32 18#32))))) (constantI S_ 1 1#1) reducesTo_S64x1x1_S64x1_d2 h_S_)) (Host.gather gather_S64x1x19x256_S64x1x1_S64x1x1x256_13_2_0_0_2_2_111256 (res_main_while0b_v80 V0) (res_main_while0b_call1_v5 V0)) (broadcastInDim S64x1x1x256 ![] bcast_S_S64x1x1x256 (constant S_ .f32 0x7FC00000#32))) shapeCasts_S64x1x1x256_S64x256) : (Proc.devRef .tc main_while0b_v180 : DevRef τ sig).ty.Contents (Elt F)) = Cert.ReferenceIdeal.Step.b196 j s := by
  unfold Cert.ReferenceIdeal.Step.b196
  rw [← al_184 h]
  try rfl
set_option maxRecDepth 8192 in
theorem al_197 (h : Holds V0 s j) : (broadcastInDim S64x12x256 ![0, 1, 2] bcast_S64x1x256_S64x12x256_0_1_2 (broadcastInDim S64x1x256 ![0, 2] bcast_S64x256_S64x1x256_0_2 (shapeCast S64x256 (select (broadcastInDim S64x1x1x256 ![0, 2] bcast_S64x1_S64x1x1x256_0_2 (Host.reduce IntOp.andi (andi (cmpi .sge (res_main_while0b_call1_v5 V0) (broadcastInDim S64x1x1 ![] bcast_S_S64x1x1 (constantI S_ 32 0#32))) (cmpi .sle (res_main_while0b_call1_v5 V0) (broadcastInDim S64x1x1 ![0, 1, 2] bcast_S1x1x1_S64x1x1_0_1_2 (broadcastInDim S1x1x1 ![2] bcast_S1_S1x1x1_2 (constantI S1 32 18#32))))) (constantI S_ 1 1#1) reducesTo_S64x1x1_S64x1_d2 h_S_)) (Host.gather gather_S64x1x19x256_S64x1x1_S64x1x1x256_13_2_0_0_2_2_111256 (res_main_while0b_v80 V0) (res_main_while0b_call1_v5 V0)) (broadcastInDim S64x1x1x256 ![] bcast_S_S64x1x1x256 (constant S_ .f32 0x7FC00000#32))) shapeCasts_S64x1x1x256_S64x256)) : (Proc.devRef .tc main_while0b_v181 : DevRef τ sig).ty.Contents (Elt F)) = Cert.ReferenceIdeal.Step.b197 j s := by
  unfold Cert.ReferenceIdeal.Step.b197
  rw [← al_196 h]
  try rfl
set_option maxRecDepth 8192 in
theorem al_198 (h : Holds V0 s j) : (addf (res_main_while0b_v177 V0) (broadcastInDim S64x12x256 ![0, 1, 2] bcast_S64x1x256_S64x12x256_0_1_2 (broadcastInDim S64x1x256 ![0, 2] bcast_S64x256_S64x1x256_0_2 (shapeCast S64x256 (select (broadcastInDim S64x1x1x256 ![0, 2] bcast_S64x1_S64x1x1x256_0_2 (Host.reduce IntOp.andi (andi (cmpi .sge (res_main_while0b_call1_v5 V0) (broadcastInDim S64x1x1 ![] bcast_S_S64x1x1 (constantI S_ 32 0#32))) (cmpi .sle (res_main_while0b_call1_v5 V0) (broadcastInDim S64x1x1 ![0, 1, 2] bcast_S1x1x1_S64x1x1_0_1_2 (broadcastInDim S1x1x1 ![2] bcast_S1_S1x1x1_2 (constantI S1 32 18#32))))) (constantI S_ 1 1#1) reducesTo_S64x1x1_S64x1_d2 h_S_)) (Host.gather gather_S64x1x19x256_S64x1x1_S64x1x1x256_13_2_0_0_2_2_111256 (res_main_while0b_v80 V0) (res_main_while0b_call1_v5 V0)) (broadcastInDim S64x1x1x256 ![] bcast_S_S64x1x1x256 (constant S_ .f32 0x7FC00000#32))) shapeCasts_S64x1x1x256_S64x256))) : (Proc.devRef .tc main_while0b_v182 : DevRef τ sig).ty.Contents (Elt F)) = Cert.ReferenceIdeal.Step.b198 j s := by
  unfold Cert.ReferenceIdeal.Step.b198
  rw [← al_192 h, ← al_197 h]
  try rfl
set_option maxRecDepth 8192 in
theorem al_199 (h : Holds V0 s j) : (select (cmpi .eq (res_main_while0b_v170 V0) (broadcastInDim S64x12x256 ![] bcast_S_S64x12x256 (constantI S_ 32 11#32))) (addf (res_main_while0b_v177 V0) (broadcastInDim S64x12x256 ![0, 1, 2] bcast_S64x1x256_S64x12x256_0_1_2 (broadcastInDim S64x1x256 ![0, 2] bcast_S64x256_S64x1x256_0_2 (shapeCast S64x256 (select (broadcastInDim S64x1x1x256 ![0, 2] bcast_S64x1_S64x1x1x256_0_2 (Host.reduce IntOp.andi (andi (cmpi .sge (res_main_while0b_call1_v5 V0) (broadcastInDim S64x1x1 ![] bcast_S_S64x1x1 (constantI S_ 32 0#32))) (cmpi .sle (res_main_while0b_call1_v5 V0) (broadcastInDim S64x1x1 ![0, 1, 2] bcast_S1x1x1_S64x1x1_0_1_2 (broadcastInDim S1x1x1 ![2] bcast_S1_S1x1x1_2 (constantI S1 32 18#32))))) (constantI S_ 1 1#1) reducesTo_S64x1x1_S64x1_d2 h_S_)) (Host.gather gather_S64x1x19x256_S64x1x1_S64x1x1x256_13_2_0_0_2_2_111256 (res_main_while0b_v80 V0) (res_main_while0b_call1_v5 V0)) (broadcastInDim S64x1x1x256 ![] bcast_S_S64x1x1x256 (constant S_ .f32 0x7FC00000#32))) shapeCasts_S64x1x1x256_S64x256)))) (res_main_while0b_v177 V0) : (Proc.devRef .tc main_while0b_v183 : DevRef τ sig).ty.Contents (Elt F)) = Cert.ReferenceIdeal.Step.b199 j s := by
  unfold Cert.ReferenceIdeal.Step.b199
  rw [← al_195 h, ← al_198 h, ← al_192 h]
  try rfl
set_option maxRecDepth 8192 in
theorem al_200 (h : Holds V0 s j) : (iotaInDim S64x12x19 32 1 : (Proc.devRef .tc main_while0b_v184 : DevRef τ sig).ty.Contents (Elt F)) = Cert.ReferenceIdeal.Step.b200 j s := by
  unfold Cert.ReferenceIdeal.Step.b200
  rfl
set_option maxRecDepth 8192 in
theorem al_201 (h : Holds V0 s j) : (id (V0 (Proc.devRef .tc main_v51_18)) : (Proc.devRef .tc main_while0b_v185 : DevRef τ sig).ty.Contents (Elt F)) = Cert.ReferenceIdeal.Step.b201 j s := by
  unfold Cert.ReferenceIdeal.Step.b201
  rw [h.n_18]
  try rfl
set_option maxRecDepth 8192 in
theorem al_202 (h : Holds V0 s j) : (broadcastInDim S64x12x19 ![] bcast_S_S64x12x19 (id (V0 (Proc.devRef .tc main_v51_18))) : (Proc.devRef .tc main_while0b_v186 : DevRef τ sig).ty.Contents (Elt F)) = Cert.ReferenceIdeal.Step.b202 j s := by
  unfold Cert.ReferenceIdeal.Step.b202
  rw [← al_201 h]
  try rfl
set_option maxRecDepth 8192 in
theorem al_203 (h : Holds V0 s j) : (cmpi .eq (iotaInDim S64x12x19 32 1) (broadcastInDim S64x12x19 ![] bcast_S_S64x12x19 (id (V0 (Proc.devRef .tc main_v51_18)))) : (Proc.devRef .tc main_while0b_v187 : DevRef τ sig).ty.Contents (Elt F)) = Cert.ReferenceIdeal.Step.b203 j s := by
  unfold Cert.ReferenceIdeal.Step.b203
  rw [← al_200 h, ← al_202 h]
  try rfl
set_option maxRecDepth 8192 in
theorem al_204 (h : Holds V0 s j) : (broadcastInDim S64x1x19 ![0, 2] bcast_S64x19_S64x1x19_0_2 (shapeCast S64x19 (addf (Host.dotGeneral dot_S64x19x256_S256x1_S64x19x1_2_0_01_1_n_n none (maximumf (addf (Host.dotGeneral dot_S64x19x512_S512x256_S64x19x256_2_0_01_1_n_n none (concatenate S64x19x512 2 [⟨S64x19x256, (Host.divf (Host.reduceAdd (mulf (extractStridedSlice S64x12x19x256 ![0, 0, 0, 0] (res_main_while0b_v135 V0) slices_S64x12x19x512_S64x12x19x256_0_0_0_0) (broadcastInDim S64x12x19x256 ![0, 1, 2, 3] bcast_S64x12x1x1_S64x12x19x256_0_1_2_3 (V0 (Proc.devRef .tc main_v51_11)))) (constant S_ .f32 0x00000000#32) reducesTo_S64x12x19x256_S64x19x256_d1 h_S_) (broadcastInDim S64x19x256 ![] bcast_S_S64x19x256 (constant S_ .f32 0x41400000#32)))⟩, ⟨S64x19x256, (Host.reduce FloatOps.maximumf (mulf (extractStridedSlice S64x12x19x256 ![0, 0, 0, 256] (res_main_while0b_v135 V0) slices_S64x12x19x512_S64x12x19x256_0_0_0_256) (broadcastInDim S64x12x19x256 ![0, 1, 2, 3] bcast_S64x12x1x1_S64x12x19x256_0_1_2_3 (V0 (Proc.devRef .tc main_v51_11)))) (constant S_ .f32 0xFF800000#32) reducesTo_S64x12x19x256_S64x19x256_d1 h_S_)⟩] concatenates_S64x19x256_S64x19x256_S64x19x512_d2) (V0 (Proc.devRef .tc main_v51_12))) (broadcastInDim S64x19x256 ![0, 1, 2] bcast_S1x1x256_S64x19x256_0_1_2 (broadcastInDim S1x1x256 ![2] bcast_S256_S1x1x256_2 (V0 (Proc.devRef .tc main_v51_13))))) (broadcastInDim S64x19x256 ![] bcast_S_S64x19x256 (constant S_ .f32 0x00000000#32))) (V0 (Proc.devRef .tc main_v51_14))) (broadcastInDim S64x19x1 ![0, 1, 2] bcast_S1x1x1_S64x19x1_0_1_2 (broadcastInDim S1x1x1 ![2] bcast_S1_S1x1x1_2 (V0 (Proc.devRef .tc main_v51_15))))) shapeCasts_S64x19x1_S64x19) : (Proc.devRef .tc main_while0b_v188 : DevRef τ sig).ty.Contents (Elt F)) = Cert.ReferenceIdeal.Step.b204 j s := by
  unfold Cert.ReferenceIdeal.Step.b204
  rw [← al_125 h]
  try rfl
set_option maxRecDepth 8192 in
theorem al_205 (h : Holds V0 s j) : (broadcastInDim S64x12x19 ![0, 1, 2] bcast_S64x1x19_S64x12x19_0_1_2 (broadcastInDim S64x1x19 ![0, 2] bcast_S64x19_S64x1x19_0_2 (shapeCast S64x19 (addf (Host.dotGeneral dot_S64x19x256_S256x1_S64x19x1_2_0_01_1_n_n none (maximumf (addf (Host.dotGeneral dot_S64x19x512_S512x256_S64x19x256_2_0_01_1_n_n none (concatenate S64x19x512 2 [⟨S64x19x256, (Host.divf (Host.reduceAdd (mulf (extractStridedSlice S64x12x19x256 ![0, 0, 0, 0] (res_main_while0b_v135 V0) slices_S64x12x19x512_S64x12x19x256_0_0_0_0) (broadcastInDim S64x12x19x256 ![0, 1, 2, 3] bcast_S64x12x1x1_S64x12x19x256_0_1_2_3 (V0 (Proc.devRef .tc main_v51_11)))) (constant S_ .f32 0x00000000#32) reducesTo_S64x12x19x256_S64x19x256_d1 h_S_) (broadcastInDim S64x19x256 ![] bcast_S_S64x19x256 (constant S_ .f32 0x41400000#32)))⟩, ⟨S64x19x256, (Host.reduce FloatOps.maximumf (mulf (extractStridedSlice S64x12x19x256 ![0, 0, 0, 256] (res_main_while0b_v135 V0) slices_S64x12x19x512_S64x12x19x256_0_0_0_256) (broadcastInDim S64x12x19x256 ![0, 1, 2, 3] bcast_S64x12x1x1_S64x12x19x256_0_1_2_3 (V0 (Proc.devRef .tc main_v51_11)))) (constant S_ .f32 0xFF800000#32) reducesTo_S64x12x19x256_S64x19x256_d1 h_S_)⟩] concatenates_S64x19x256_S64x19x256_S64x19x512_d2) (V0 (Proc.devRef .tc main_v51_12))) (broadcastInDim S64x19x256 ![0, 1, 2] bcast_S1x1x256_S64x19x256_0_1_2 (broadcastInDim S1x1x256 ![2] bcast_S256_S1x1x256_2 (V0 (Proc.devRef .tc main_v51_13))))) (broadcastInDim S64x19x256 ![] bcast_S_S64x19x256 (constant S_ .f32 0x00000000#32))) (V0 (Proc.devRef .tc main_v51_14))) (broadcastInDim S64x19x1 ![0, 1, 2] bcast_S1x1x1_S64x19x1_0_1_2 (broadcastInDim S1x1x1 ![2] bcast_S1_S1x1x1_2 (V0 (Proc.devRef .tc main_v51_15))))) shapeCasts_S64x19x1_S64x19)) : (Proc.devRef .tc main_while0b_v189 : DevRef τ sig).ty.Contents (Elt F)) = Cert.ReferenceIdeal.Step.b205 j s := by
  unfold Cert.ReferenceIdeal.Step.b205
  rw [← al_204 h]
  try rfl
set_option maxRecDepth 8192 in
theorem al_206 (h : Holds V0 s j) : (select (cmpi .eq (iotaInDim S64x12x19 32 1) (broadcastInDim S64x12x19 ![] bcast_S_S64x12x19 (id (V0 (Proc.devRef .tc main_v51_18))))) (broadcastInDim S64x12x19 ![0, 1, 2] bcast_S64x1x19_S64x12x19_0_1_2 (broadcastInDim S64x1x19 ![0, 2] bcast_S64x19_S64x1x19_0_2 (shapeCast S64x19 (addf (Host.dotGeneral dot_S64x19x256_S256x1_S64x19x1_2_0_01_1_n_n none (maximumf (addf (Host.dotGeneral dot_S64x19x512_S512x256_S64x19x256_2_0_01_1_n_n none (concatenate S64x19x512 2 [⟨S64x19x256, (Host.divf (Host.reduceAdd (mulf (extractStridedSlice S64x12x19x256 ![0, 0, 0, 0] (res_main_while0b_v135 V0) slices_S64x12x19x512_S64x12x19x256_0_0_0_0) (broadcastInDim S64x12x19x256 ![0, 1, 2, 3] bcast_S64x12x1x1_S64x12x19x256_0_1_2_3 (V0 (Proc.devRef .tc main_v51_11)))) (constant S_ .f32 0x00000000#32) reducesTo_S64x12x19x256_S64x19x256_d1 h_S_) (broadcastInDim S64x19x256 ![] bcast_S_S64x19x256 (constant S_ .f32 0x41400000#32)))⟩, ⟨S64x19x256, (Host.reduce FloatOps.maximumf (mulf (extractStridedSlice S64x12x19x256 ![0, 0, 0, 256] (res_main_while0b_v135 V0) slices_S64x12x19x512_S64x12x19x256_0_0_0_256) (broadcastInDim S64x12x19x256 ![0, 1, 2, 3] bcast_S64x12x1x1_S64x12x19x256_0_1_2_3 (V0 (Proc.devRef .tc main_v51_11)))) (constant S_ .f32 0xFF800000#32) reducesTo_S64x12x19x256_S64x19x256_d1 h_S_)⟩] concatenates_S64x19x256_S64x19x256_S64x19x512_d2) (V0 (Proc.devRef .tc main_v51_12))) (broadcastInDim S64x19x256 ![0, 1, 2] bcast_S1x1x256_S64x19x256_0_1_2 (broadcastInDim S1x1x256 ![2] bcast_S256_S1x1x256_2 (V0 (Proc.devRef .tc main_v51_13))))) (broadcastInDim S64x19x256 ![] bcast_S_S64x19x256 (constant S_ .f32 0x00000000#32))) (V0 (Proc.devRef .tc main_v51_14))) (broadcastInDim S64x19x1 ![0, 1, 2] bcast_S1x1x1_S64x19x1_0_1_2 (broadcastInDim S1x1x1 ![2] bcast_S1_S1x1x1_2 (V0 (Proc.devRef .tc main_v51_15))))) shapeCasts_S64x19x1_S64x19))) (V0 (Proc.devRef .tc main_v51_20)) : (Proc.devRef .tc main_while0b_v190 : DevRef τ sig).ty.Contents (Elt F)) = Cert.ReferenceIdeal.Step.b206 j s := by
  unfold Cert.ReferenceIdeal.Step.b206
  rw [← al_203 h, ← al_205 h, h.f_20]
  try rfl

/-! One trip's step of the carried values is `step`, field by field; a counter steps to the next number. -/

theorem step_19 (h : Holds V0 s j) : step_main_v51_19 V0 = (step j s).main_v51_19 := by
  unfold step_main_v51_19 Cert.ReferenceIdeal.Step.step
  show id (select (cmpi .eq (res_main_while0b_v170 V0) (broadcastInDim S64x12x256 ![] bcast_S_S64x12x256 (constantI S_ 32 11#32))) (addf (res_main_while0b_v177 V0) (broadcastInDim S64x12x256 ![0, 1, 2] bcast_S64x1x256_S64x12x256_0_1_2 (broadcastInDim S64x1x256 ![0, 2] bcast_S64x256_S64x1x256_0_2 (shapeCast S64x256 (select (broadcastInDim S64x1x1x256 ![0, 2] bcast_S64x1_S64x1x1x256_0_2 (Host.reduce IntOp.andi (andi (cmpi .sge (res_main_while0b_call1_v5 V0) (broadcastInDim S64x1x1 ![] bcast_S_S64x1x1 (constantI S_ 32 0#32))) (cmpi .sle (res_main_while0b_call1_v5 V0) (broadcastInDim S64x1x1 ![0, 1, 2] bcast_S1x1x1_S64x1x1_0_1_2 (broadcastInDim S1x1x1 ![2] bcast_S1_S1x1x1_2 (constantI S1 32 18#32))))) (constantI S_ 1 1#1) reducesTo_S64x1x1_S64x1_d2 h_S_)) (Host.gather gather_S64x1x19x256_S64x1x1_S64x1x1x256_13_2_0_0_2_2_111256 (res_main_while0b_v80 V0) (res_main_while0b_call1_v5 V0)) (broadcastInDim S64x1x1x256 ![] bcast_S_S64x1x1x256 (constant S_ .f32 0x7FC00000#32))) shapeCasts_S64x1x1x256_S64x256)))) (res_main_while0b_v177 V0)) = _
  rw [al_199 h]
  try rfl
theorem step_20 (h : Holds V0 s j) : step_main_v51_20 V0 = (step j s).main_v51_20 := by
  unfold step_main_v51_20 Cert.ReferenceIdeal.Step.step
  show id (select (cmpi .eq (iotaInDim S64x12x19 32 1) (broadcastInDim S64x12x19 ![] bcast_S_S64x12x19 (id (V0 (Proc.devRef .tc main_v51_18))))) (broadcastInDim S64x12x19 ![0, 1, 2] bcast_S64x1x19_S64x12x19_0_1_2 (broadcastInDim S64x1x19 ![0, 2] bcast_S64x19_S64x1x19_0_2 (shapeCast S64x19 (addf (Host.dotGeneral dot_S64x19x256_S256x1_S64x19x1_2_0_01_1_n_n none (maximumf (addf (Host.dotGeneral dot_S64x19x512_S512x256_S64x19x256_2_0_01_1_n_n none (concatenate S64x19x512 2 [⟨S64x19x256, (Host.divf (Host.reduceAdd (mulf (extractStridedSlice S64x12x19x256 ![0, 0, 0, 0] (res_main_while0b_v135 V0) slices_S64x12x19x512_S64x12x19x256_0_0_0_0) (broadcastInDim S64x12x19x256 ![0, 1, 2, 3] bcast_S64x12x1x1_S64x12x19x256_0_1_2_3 (V0 (Proc.devRef .tc main_v51_11)))) (constant S_ .f32 0x00000000#32) reducesTo_S64x12x19x256_S64x19x256_d1 h_S_) (broadcastInDim S64x19x256 ![] bcast_S_S64x19x256 (constant S_ .f32 0x41400000#32)))⟩, ⟨S64x19x256, (Host.reduce FloatOps.maximumf (mulf (extractStridedSlice S64x12x19x256 ![0, 0, 0, 256] (res_main_while0b_v135 V0) slices_S64x12x19x512_S64x12x19x256_0_0_0_256) (broadcastInDim S64x12x19x256 ![0, 1, 2, 3] bcast_S64x12x1x1_S64x12x19x256_0_1_2_3 (V0 (Proc.devRef .tc main_v51_11)))) (constant S_ .f32 0xFF800000#32) reducesTo_S64x12x19x256_S64x19x256_d1 h_S_)⟩] concatenates_S64x19x256_S64x19x256_S64x19x512_d2) (V0 (Proc.devRef .tc main_v51_12))) (broadcastInDim S64x19x256 ![0, 1, 2] bcast_S1x1x256_S64x19x256_0_1_2 (broadcastInDim S1x1x256 ![2] bcast_S256_S1x1x256_2 (V0 (Proc.devRef .tc main_v51_13))))) (broadcastInDim S64x19x256 ![] bcast_S_S64x19x256 (constant S_ .f32 0x00000000#32))) (V0 (Proc.devRef .tc main_v51_14))) (broadcastInDim S64x19x1 ![0, 1, 2] bcast_S1x1x1_S64x19x1_0_1_2 (broadcastInDim S1x1x1 ![2] bcast_S1_S1x1x1_2 (V0 (Proc.devRef .tc main_v51_15))))) shapeCasts_S64x19x1_S64x19))) (V0 (Proc.devRef .tc main_v51_20))) = _
  rw [al_206 h]
  try rfl
theorem step_17 (h : Holds V0 s j) : step_main_v51_17 V0 = constantI S_ 32 (BitVec.ofNat 32 (j + 1)) := by
  unfold step_main_v51_17
  rw [h.n_17]
  funext i
  show BitVec.ofNat 32 j + 1#32 = BitVec.ofNat 32 (j + 1)
  simp only [BitVec.ofNat_add]
theorem step_18 (h : Holds V0 s j) : step_main_v51_18 V0 = constantI S_ 32 (BitVec.ofNat 32 (j + 1)) := by
  unfold step_main_v51_18
  rw [h.n_18]
  funext i
  show BitVec.ofNat 32 j + 1#32 = BitVec.ofNat 32 (j + 1)
  simp only [BitVec.ofNat_add]

set_option maxRecDepth 8192 in
theorem out_main_v52_holds (h : Holds V0 s j) {x_main_arg4 : (⟨S64x12, .i32⟩ : BufTy).Contents (Elt F)} (h_main_arg4 : V0 (Proc.devRef .tc main_arg4) = x_main_arg4) : out_main_v52 V0 = Cert.ReferenceIdeal.Step.R_main_v52 s x_main_arg4 := by
  unfold out_main_v52 Cert.ReferenceIdeal.Step.R_main_v52
  rw [h_main_arg4]
  try rfl

/-- One trip keeps the valuation holding: `step` of the state, the same set-up values, the next number. -/
theorem holds_step (h : Holds V0 s j) : Holds (STEP V0) (step j s) (j + 1) where
  f_19 := (STEP_main_v51_19 V0).trans (step_19 h)
  f_20 := (STEP_main_v51_20 V0).trans (step_20 h)
  n_17 := (STEP_main_v51_17 V0).trans (step_17 h)
  n_18 := (STEP_main_v51_18 V0).trans (step_18 h)
  k_10 := (STEP_main_v51_10 V0).trans h.k_10
  f_0 := (STEP_main_v51_0 V0).trans h.f_0
  f_1 := (STEP_main_v51_1 V0).trans h.f_1
  f_2 := (STEP_main_v51_2 V0).trans h.f_2
  f_3 := (STEP_main_v51_3 V0).trans h.f_3
  f_4 := (STEP_main_v51_4 V0).trans h.f_4
  f_5 := (STEP_main_v51_5 V0).trans h.f_5
  f_6 := (STEP_main_v51_6 V0).trans h.f_6
  f_7 := (STEP_main_v51_7 V0).trans h.f_7
  f_8 := (STEP_main_v51_8 V0).trans h.f_8
  f_9 := (STEP_main_v51_9 V0).trans h.f_9
  f_11 := (STEP_main_v51_11 V0).trans h.f_11
  f_12 := (STEP_main_v51_12 V0).trans h.f_12
  f_13 := (STEP_main_v51_13 V0).trans h.f_13
  f_14 := (STEP_main_v51_14 V0).trans h.f_14
  f_15 := (STEP_main_v51_15 V0).trans h.f_15
  f_16 := (STEP_main_v51_16 V0).trans h.f_16

end Cert.ReferenceIdeal.StepRun

end
-- ==== Proof.RefIter.lean ====
/- The reference's results as the state after twelve steps from the state its first operations set up. -/
module

public import proofs.«01_k».proof.Proof.RefTrip

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]
/-- The state the first trip starts from, of the memory the run starts from. -/
abbrev initState (m : (ℓ : Loc nD τ sig) → Buf (Elt F) ℓ) (c : Dev nD) : State F :=
  init (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg4)) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg19))

variable (m : (ℓ : Loc nD τ sig) → Buf (Elt F) ℓ) (c : Dev nD)

set_option maxRecDepth 65536 in
set_option maxHeartbeats 900000 in
/-- One of the three pieces that the state layer joins. -/
theorem entry_v13 : (upto hostOps0 (launchContents m c) 47 (Proc.devRef .tc main_v13) : (⟨S64x12x256, .f32⟩ : BufTy).Contents (Elt F)) = Cert.ReferenceIdeal.Step.A_main_v13 (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg19)) := by
  after_reads_simp
  rfl

set_option maxRecDepth 65536 in
set_option maxHeartbeats 900000 in
/-- One of the three pieces that the state layer joins. -/
theorem entry_v36 : (upto hostOps0 (launchContents m c) 47 (Proc.devRef .tc main_v36) : (⟨S64x12x256, .f32⟩ : BufTy).Contents (Elt F)) = Cert.ReferenceIdeal.Step.A_main_v36 (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg19)) := by
  after_reads_simp
  rfl

set_option maxRecDepth 65536 in
set_option maxHeartbeats 900000 in
/-- One of the three pieces that the state layer joins. -/
theorem entry_v39 : (upto hostOps0 (launchContents m c) 47 (Proc.devRef .tc main_v39) : (⟨S64x12x256, .f32⟩ : BufTy).Contents (Elt F)) = Cert.ReferenceIdeal.Step.A_main_v39 (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg19)) := by
  after_reads_simp
  rfl

set_option maxRecDepth 65536 in
set_option maxHeartbeats 900000 in
/-- What @main's operations before the loop leave: the set-up values, number 0, the initial state. -/
theorem entry_holds : Holds (entryContents preI m c) (initState m c) 0 := by
  constructor
  · simp only [entryContents, afterL_cons, afterL_nil]; after_reads_simp
    simp only [Matrix.cons_val]
    rw [entry_v13, entry_v36, entry_v39]
    rfl
  · simp only [entryContents, afterL_cons, afterL_nil]; after_reads_simp
    rfl
  · simp only [entryContents, afterL_cons, afterL_nil]; after_reads_simp; rfl
  · simp only [entryContents, afterL_cons, afterL_nil]; after_reads_simp; rfl
  · simp only [entryContents, afterL_cons, afterL_nil]; after_reads_simp; rfl
  · simp only [entryContents, afterL_cons, afterL_nil]; after_reads_simp; rfl
  · simp only [entryContents, afterL_cons, afterL_nil]; after_reads_simp; rfl
  · simp only [entryContents, afterL_cons, afterL_nil]; after_reads_simp; rfl
  · simp only [entryContents, afterL_cons, afterL_nil]; after_reads_simp; rfl
  · simp only [entryContents, afterL_cons, afterL_nil]; after_reads_simp; rfl
  · simp only [entryContents, afterL_cons, afterL_nil]; after_reads_simp; rfl
  · simp only [entryContents, afterL_cons, afterL_nil]; after_reads_simp; rfl
  · simp only [entryContents, afterL_cons, afterL_nil]; after_reads_simp; rfl
  · simp only [entryContents, afterL_cons, afterL_nil]; after_reads_simp; rfl
  · simp only [entryContents, afterL_cons, afterL_nil]; after_reads_simp; rfl
  · simp only [entryContents, afterL_cons, afterL_nil]; after_reads_simp; rfl
  · simp only [entryContents, afterL_cons, afterL_nil]; after_reads_simp; rfl
  · simp only [entryContents, afterL_cons, afterL_nil]; after_reads_simp; rfl
  · simp only [entryContents, afterL_cons, afterL_nil]; after_reads_simp; rfl
  · simp only [entryContents, afterL_cons, afterL_nil]; after_reads_simp; rfl
  · simp only [entryContents, afterL_cons, afterL_nil]; after_reads_simp; rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 12 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v51_20) = (it c 12).main_v51_20
      ∧ r.2.mem ((c.tc : Thread nD τ).loc main_v52) = Cert.ReferenceIdeal.Step.R_main_v52 (it c 12) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun _ h c =>
    have hk := holds_iter m c (it c) (h0 c) (hs c) 12
    ⟨(h c).1.trans hk.f_20, (h c).2.1.trans (out_main_v52_holds hk (iter_main_arg4 m c 12)), (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2.1, (h c).2.2.2.2.2.2.2.2.2.2.2.2.2.2.2.2.2.2.2.1, (h c).2.2.2.2.2.2.2.2.2.2.2.2.2.2.2.2.2.2.2.2.1, (h c).2.2.2.2.2.2.2.2.2.2.2.2.2.2.2.2.2.2.2.2.2.1, (h c).2.2.2.2.2.2.2.2.2.2.2.2.2.2.2.2.2.2.2.2.2.2.1, (h c).2.2.2.2.2.2.2.2.2.2.2.2.2.2.2.2.2.2.2.2.2.2.2.1, (h c).2.2.2.2.2.2.2.2.2.2.2.2.2.2.2.2.2.2.2.2.2.2.2.2.1, (h c).2.2.2.2.2.2.2.2.2.2.2.2.2.2.2.2.2.2.2.2.2.2.2.2.2.1, (h c).2.2.2.2.2.2.2.2.2.2.2.2.2.2.2.2.2.2.2.2.2.2.2.2.2.2.1, (h c).2.2.2.2.2.2.2.2.2.2.2.2.2.2.2.2.2.2.2.2.2.2.2.2.2.2.2.1, (h c).2.2.2.2.2.2.2.2.2.2.2.2.2.2.2.2.2.2.2.2.2.2.2.2.2.2.2.2.1, (h c).2.2.2.2.2.2.2.2.2.2.2.2.2.2.2.2.2.2.2.2.2.2.2.2.2.2.2.2.2⟩) (Value.run m ρ)

end Cert.ReferenceIdeal.StepRun

end
-- ==== Proof.RefValue.lean ====
/-
  What the reference's run leaves in its results: before trip `n` of its loop the agents below `n` have moved and have their
  logits, for every game.
-/
module

public import proofs.«01_k».proof.Proof.RefMove
public import proofs.«01_k».proof.Proof.RefIter
public import proofs.«01_k».proof.Proof.Gen.ReferenceIdeal.Step

@[expose] public section

set_option maxRecDepth 16384

noncomputable section

namespace Cert.ReferenceIdeal.Value

open Idealize.ShloMosaic Idealize.ShloMosaic.Tactic
open Idealize.SL.Sem
open Cert.Spec
open Cert.ReferenceIdeal Cert.ReferenceIdeal.Gen Cert.ReferenceIdeal.Step

variable {N : Net} {P : Play} {b : Fin 64} {s : State Ideal}

/-- The agents' states once the agents below `n` have acted. -/
def stateAt (N : Net) (P : Play) (n : ℕ) (i : Fin 12) (h : Fin 256) : EReal :=
  if i = 11 then ballAt N P n h else if i.val < n then st0 N P i h + emb N P i h else st0 N P i h

theorem stateAt_self (j : Fin 12) : stateAt N P j.val j = cur N P j := by
  funext h
  unfold stateAt cur
  by_cases hj : j = 11
  · subst hj; rfl
  · have hj' : ¬ j.val = 11 := fun e => hj (Fin.ext e)
    simp [hj, hj']

theorem stateAt_ball (n : ℕ) : stateAt N P n 11 = ballAt N P n := rfl

/-- The decisions from those states. -/
theorem decisions_eq (j : Fin 12) (a : Fin 19) (i : Fin 12) : decisions N P (stateAt N P j.val) j a i = decision N P j a i := by
  unfold decisions decision
  by_cases hi : i = 11
  · subst hi
    rw [if_pos rfl, stateAt_self, stateAt_ball]
    exact (if_pos rfl).symm
  · have hi' : ¬ i.val = 11 := fun e => hi (Fin.ext e)
    rw [if_neg hi, if_neg hi', stateAt_self]
    by_cases hj : i = j
    · rw [if_pos hj, if_pos hj]
      rfl
    · rw [if_neg hj, if_neg hj]
      have e : stateAt N P j.val i = fun h => if i.val < j.val then st0 N P i h + emb N P i h else st0 N P i h := by
        funext h
        simp [stateAt, hi]
      rw [e]
      by_cases hl : i < j
      · rw [if_pos hl]
        simp only [if_pos (Fin.lt_def.mp hl)]
        rfl
      · rw [if_neg hl]
        simp only [if_neg (fun q => hl (Fin.lt_def.mpr q))]
        rfl

/-- One more agent's action. -/
theorem ballAt_succ (j : Fin 12) (h : Fin 256) : ballAt N P (j.val + 1) h = ballAt N P j.val h + peg N P j h := by
  unfold ballAt
  rw [add_assoc]
  congr 1
  have e : ∀ k : Fin 12, (if k.val < j.val + 1 then peg N P k h else 0)
      = (if k.val < j.val then peg N P k h else 0) + (if k = j then peg N P j h else 0) := by
    intro k
    by_cases hk : k = j
    · subst hk
      simp
    · have : k.val ≠ j.val := fun q => hk (Fin.ext q)
      by_cases hl : k.val < j.val
      · simp [hk, hl, Nat.lt_succ_of_lt hl]
      · have : ¬ k.val < j.val + 1 := by omega
        simp [hk, hl, this]
  simp only [e, Finset.sum_add_distrib, Finset.sum_ite_eq', Finset.mem_univ, if_true]

/-- What a state of the loop holds of game `b` before trip `n`. -/
structure Before (N : Net) (P : Play) (b : Fin 64) (n : ℕ) (s : State Ideal) : Prop where
  fixed : Fixed N P b s
  states : n ≤ 11 → ∀ i h, s.main_v51_19 (ix3 b i h) = stateAt N P n i h
  logits : ∀ i a, s.main_v51_20 (ix3 b i a) = if i.val < n then logit N P i a else 0

/-- One trip. -/
theorem before_step (j : Fin 12) (B : Before N P b j.val s) : Before N P b (j.val + 1) (step j.val s) := by
  have hX := B.states (by omega)
  have H := B.fixed
  refine ⟨⟨H.aeW1, H.aeb1, H.aeW2, H.aeb2, H.own, H.deW1, H.deb1, H.deW2, H.deb2, H.aemb, H.alive, H.leW1, H.leb1, H.leW2, H.leb2, H.act⟩, fun hn i h => ?_, fun i a => ?_⟩
  · show b199 j.val s (ix3 b i h) = _
    rw [moved_at j H hX, stateAt_self]
    have hj : j ≠ 11 := fun e => by subst e; exact absurd hn (by decide)
    have hj' : ¬ j.val = 11 := fun e => hj (Fin.ext e)
    have hc : cur N P j = st0 N P j := by simp [cur, hj']
    rw [hc]
    by_cases hi : i = 11
    · subst hi
      rw [if_neg hj.symm, if_pos rfl, stateAt_ball, stateAt_ball, ballAt_succ]
      rfl
    · rw [if_neg hi, add_zero]
      by_cases hij : i = j
      · subst hij
        simp [stateAt, hi]
      · have hne : i.val ≠ j.val := fun e => hij (Fin.ext e)
        rw [if_neg hij]
        unfold stateAt
        rw [if_neg hi, if_neg hi]
        by_cases hl : i.val < j.val
        · rw [if_pos hl, if_pos (by omega)]
        · rw [if_neg hl, if_neg (by omega)]
  · show b206 j.val s (ix3 b i a) = _
    rw [filled_at]
    by_cases hij : i = j
    · subst hij
      rw [if_pos rfl, if_pos (by omega), logit_at i H hX]
      simp only [decisions_eq]
      rfl
    · have hne : i.val ≠ j.val := fun e => hij (Fin.ext e)
      rw [if_neg hij, B.logits]
      by_cases hl : i.val < j.val
      · rw [if_pos hl, if_pos (by omega)]
      · rw [if_neg hl, if_neg (by omega)]

variable (m : (ℓ : Loc nD τ sig) → Buf (Elt Ideal) ℓ) (ρ : Dev nD → PrngReg) (c : Dev nD)

/-- Argument `r`, as the run finds it. -/
abbrev arg (r : Ref sig .tc) : Buf (Elt Ideal) ((c.tc : Thread nD τ).loc r) := m ((c.tc : Thread nD τ).loc r)

/-- The weights of a run. -/
abbrev net : Net := netOf (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25) (arg m c main_arg26) (arg m c main_arg27)

/-- Game `b` of a run. -/
abbrev play (b : Fin 64) : Play := playOf (arg m c main_arg0) (arg m c main_arg1) (arg m c main_arg4) b

/-- The loop's first state. -/
theorem before_zero (halive : ∀ b i, (arg m c main_arg2 : Vec Ideal S64x12 .f32) (ix2 b i) = (1 : EReal))
    (hact : ∀ b i, ((arg m c main_arg4 : Vec Ideal S64x12 .i32) (ix2 b i) : BitVec 32).toNat < 19) (b : Fin 64) :
    Before (net m c) (play m c b) b 0 (StepRun.initState m c) := by
  have hs := sse_at (N := net m c) (P := play m c b) (b := b) (a0 := arg m c main_arg0) (a1 := arg m c main_arg1)
    (a2 := arg m c main_arg2) (a5 := arg m c main_arg5) (a6 := arg m c main_arg6) (a7 := arg m c main_arg7)
    (a8 := arg m c main_arg8) (a9 := arg m c main_arg9) (a10 := arg m c main_arg10) (a11 := arg m c main_arg11)
    (a12 := arg m c main_arg12) (a13 := arg m c main_arg13) (a14 := arg m c main_arg14) (a19 := arg m c main_arg19)
    (fun _ _ => rfl) (fun _ _ => rfl) (fun _ => rfl) (fun _ _ => rfl) (fun _ => rfl)
  have hr := relation_at (fun _ _ _ => rfl) hs (fun _ _ => rfl) (fun _ => rfl) (fun _ _ => rfl) (fun _ => rfl)
  have ha := ravr_at (halive b) hr
  have hm := rmax_at (halive b) hr
  have h0 := state_at hs ha hm (fun _ _ => rfl) (fun _ => rfl)
  refine ⟨⟨fun _ _ => rfl, fun _ => rfl, fun _ _ => rfl, fun _ => rfl, fun i => ?_, fun _ _ => rfl, fun _ => rfl,
    fun _ _ => rfl, fun _ => rfl, fun a h => ?_, fun i => ?_, fun _ _ => rfl, fun _ => rfl, fun _ => rfl, rfl,
    fun i => act_word _ _ _ b i (hact b i)⟩, fun _ i h => (h0 i h).trans ?_, fun i a => ?_⟩
  · show A_main_v1 (F := Ideal) (arg m c main_arg0) (arg m c main_arg1) (arg m c main_arg2) (arg m c main_arg5) (arg m c main_arg6) (arg m c main_arg7) (arg m c main_arg8) (arg m c main_arg9) (arg m c main_arg10) (arg m c main_arg11) (arg m c main_arg12) (arg m c main_arg13) (arg m c main_arg14) (arg m c main_arg19) (ix2 b i) = _
    pointwise [A_main_v1, A_main_v0]
    rfl
  · show A_main_v47 (F := Ideal) (arg m c main_arg0) (arg m c main_arg1) (arg m c main_arg2) (arg m c main_arg5) (arg m c main_arg6) (arg m c main_arg7) (arg m c main_arg8) (arg m c main_arg9) (arg m c main_arg10) (arg m c main_arg11) (arg m c main_arg12) (arg m c main_arg13) (arg m c main_arg14) (arg m c main_arg19) (ix4 b 0 a h) = _
    pointwise [A_main_v47]
    rfl
  · show A_main_v49 (F := Ideal) (arg m c main_arg0) (arg m c main_arg1) (arg m c main_arg2) (arg m c main_arg5) (arg m c main_arg6) (arg m c main_arg7) (arg m c main_arg8) (arg m c main_arg9) (arg m c main_arg10) (arg m c main_arg11) (arg m c main_arg12) (arg m c main_arg13) (arg m c main_arg14) (arg m c main_arg19) (ix4 b i 0 0) = _
    pointwise [A_main_v49]
    exact halive b i
  · unfold stateAt
    by_cases hi : i = 11
    · subst hi
      simp [ballAt]
    · simp [hi]
  · show K_main_v50 (F := Ideal) (ix3 b i a) = _
    pointwise [K_main_v50, K_main_cst_7]
    simp

/-- The states of the loop, trip by trip. -/
def trips : ℕ → State Ideal
  | 0 => StepRun.initState m c
  | n + 1 => step n (trips n)

theorem before_trips (halive : ∀ b i, (arg m c main_arg2 : Vec Ideal S64x12 .f32) (ix2 b i) = (1 : EReal))
    (hact : ∀ b i, ((arg m c main_arg4 : Vec Ideal S64x12 .i32) (ix2 b i) : BitVec 32).toNat < 19) (b : Fin 64) :
    ∀ n, n ≤ 12 → Before (net m c) (play m c b) b n (trips m c n)
  | 0, _ => before_zero m c halive hact b
  | n + 1, hn => before_step ⟨n, by omega⟩ (before_trips halive hact b n (by omega))

/-- The logits, game by game, agent by agent, action by action. -/
def result : Vec Ideal S64x12x19 .f32 := fun y => logit (net m c) (play m c (y 0)) (y 1) (y 2)

theorem logits_eq (halive : ∀ b i, (arg m c main_arg2 : Vec Ideal S64x12 .f32) (ix2 b i) = (1 : EReal))
    (hact : ∀ b i, ((arg m c main_arg4 : Vec Ideal S64x12 .i32) (ix2 b i) : BitVec 32).toNat < 19) :
    (trips m c 12).main_v51_20 = result m c := by
  funext y
  idx_vars y
  rw [(before_trips m c halive hact y0 12 le_rfl).logits y1 y2, if_pos y1.isLt]
  rfl

theorem actions_eq (s : State Ideal) : R_main_v52 (F := Ideal) s (arg m c main_arg4) = arg m c main_arg4 := by
  funext y
  idx_vars y
  pointwise [R_main_v52]

/-- **The reference's run.** -/
theorem run_value (halive : ∀ c b i, (arg m c main_arg2 : Vec Ideal S64x12 .f32) (ix2 b i) = (1 : EReal))
    (hact : ∀ c b i, ((arg m c main_arg4 : Vec Ideal S64x12 .i32) (ix2 b i) : BitVec 32).toNat < 19) :
    θ_run (defs (F := Ideal)) (onTc (τ := τ) (main (F := Ideal))) ⟨m, fun _ => 0, ρ⟩ fun r => ∀ c : Dev nD,
      r.2.mem ((c.tc : Thread nD τ).loc main_v51_20) = result m c
      ∧ r.2.mem ((c.tc : Thread nD τ).loc main_v52) = arg m c main_arg4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun _ h c => ⟨(h c).1.trans (logits_eq m c (halive c) (hact c)),
      (h c).2.1.trans (actions_eq m c _), (h c).2.2⟩)
    (StepRun.run_iter m ρ (fun c => trips m c) (fun _ => rfl) (fun _ _ => rfl))

end Cert.ReferenceIdeal.Value

end
-- ==== Proof.Equation.lean ====
/-
  The two runs meet: on arguments that agree, with every agent alive and every action in range, the idealized kernel and the
  reference end with the same results.
-/
module

public import proofs.«01_k».proof.Defs
public import proofs.«01_k».proof.Proof.Gen.KernelIdeal
public import proofs.«01_k».proof.Proof.Gen.ReferenceIdeal
public import proofs.«01_k».proof.Proof.KernelEnd
public import proofs.«01_k».proof.Proof.RefValue

@[expose] public section

set_option maxRecDepth 16384

noncomputable section

namespace Cert.Equation

open Idealize.ShloMosaic Idealize.SL.Sem Idealize.ShloMosaic.Tactic

/-- What the precondition's function says of an array of live flags and an array of actions. -/
theorem pre_reads [Cert.Pre_alive_and_acting.Facts] {a0 : FVec Ideal Cert.Pre_alive_and_acting.S64x12x128 .f32}
    {a1 : FVec Ideal Cert.Pre_alive_and_acting.S64x12x12x128 .f32} {a2 : FVec Ideal Cert.Pre_alive_and_acting.S64x12 .f32}
    {a3 : FVec Ideal Cert.Pre_alive_and_acting.S64x12x19 .f32} {a4 : IVec Cert.Pre_alive_and_acting.S64x12 32}
    {a5 a6 a7 a8 a9 a10 a11 a12 a13 a14 a15 a16 a17 a18 a19 a20 a21 a22 a23 a24 a25 a26 a27}
    (h : (Cert.Pre_alive_and_acting.fn (F := Ideal) a0 a1 a2 a3 a4 a5 a6 a7 a8 a9 a10 a11 a12 a13 a14 a15 a16 a17 a18 a19 a20 a21 a22 a23 a24 a25 a26 a27).1 = (fun _ => 1#1)
      ∧ (Cert.Pre_alive_and_acting.fn (F := Ideal) a0 a1 a2 a3 a4 a5 a6 a7 a8 a9 a10 a11 a12 a13 a14 a15 a16 a17 a18 a19 a20 a21 a22 a23 a24 a25 a26 a27).2 = (fun _ => 1#1))
    (b : Fin 64) (i : Fin 12) : a2 (ix2 b i) = (1 : EReal) ∧ (a4 (ix2 b i)).toNat < 19 := by
  have h1 := congrFun h.1 (ix2 b i)
  have h2 := congrFun h.2 (ix2 b i)
  constructor
  · revert h1
    pointwise [Cert.Pre_alive_and_acting.fn]
    exact fun e => (WordCmp.ofBool_decide_eq_one_iff _).mp e
  · revert h2
    pointwise [Cert.Pre_alive_and_acting.fn]
    generalize a4 (ix2 b i) = w
    intro e
    rw [show (19#32 : BitVec 32) = BitVec.ofNat 32 19 from rfl, WordCmp.andi_sge_zero_slt_ofNat (by omega)] at e
    exact (WordCmp.ofBool_decide_eq_one_iff _).mp e

/-- On arguments that agree, the two results are one. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) :
    Cert.ReferenceIdeal.Value.result m' c = Cert.KernelIdeal.Value.result m c := by
  obtain ⟨h0, h1, h2, h3, h4, h5, h6, h7, h8, h9, h10, h11, h12, h13, h14, h15, h16, h17, h18, h19, h20, h21, h22, h23, h24, h25, h26, h27⟩ := h
  have hn : Cert.ReferenceIdeal.Value.net m' c = Cert.KernelIdeal.Value.net m c := by
    unfold Cert.ReferenceIdeal.Value.net Cert.KernelIdeal.Value.net Cert.ReferenceIdeal.Value.arg Cert.KernelIdeal.Value.arg
    rw [h5, h6, h7, h8, h9, h10, h11, h12, h13, h14, h15, h16, h17, h18, h19, h20, h21, h22, h23, h24, h25, h26, h27]
  have hb : ∀ b, Cert.ReferenceIdeal.Value.play m' c b = Cert.KernelIdeal.Value.play m c b := by
    intro b
    unfold Cert.ReferenceIdeal.Value.play Cert.KernelIdeal.Value.play Cert.ReferenceIdeal.Value.arg Cert.KernelIdeal.Value.arg
    rw [h0, h1, h4]
  unfold Cert.ReferenceIdeal.Value.result Cert.KernelIdeal.Value.result
  funext y
  exact congrArg₂ (fun N P => Cert.Spec.logit N P (y 1) (y 2)) hn (hb (y 0))

/-- **The equation.** -/
theorem algebraic [hpre : Cert.Pre_alive_and_acting.Facts] : Cert.algebraic_KernelIdeal_ReferenceIdeal_pre_alive_and_acting (hKernelIdeal := Cert.KernelIdeal.Gen.facts)
    (hReferenceIdeal := Cert.ReferenceIdeal.Gen.facts) (hPre_alive_and_acting := hpre) := by
  intro m g m' g' hp hm
  have hact : ∀ c b i, ((Cert.KernelIdeal.Value.arg m c Cert.KernelIdeal.main_arg4 : Vec Ideal Cert.KernelIdeal.S64x12 .i32) (ix2 b i) : BitVec 32).toNat < 19 :=
    fun c b i => (pre_reads (hp c) b i).2
  have halive : ∀ c b i, (Cert.KernelIdeal.Value.arg m c Cert.KernelIdeal.main_arg2 : Vec Ideal Cert.KernelIdeal.S64x12 .f32) (ix2 b i) = (1 : EReal) :=
    fun c b i => (pre_reads (hp c) b i).1
  refine ⟨fun c => Cert.KernelIdeal.Value.result m c, fun c => Cert.KernelIdeal.Value.arg m c Cert.KernelIdeal.main_arg4,
    Cert.KernelIdeal.Value.run_value m g hact, ?_⟩
  refine (θ_run Cert.ReferenceIdeal.defs _ _).mono (fun r h c => ⟨(h c).1.trans (result_eq m m' c (hm c)), (h c).2.1.trans (hm c).2.2.2.2.1, (h c).2.2⟩)
    (Cert.ReferenceIdeal.Value.run_value m' g' (fun c b i => ?_) (fun c b i => ?_))
  · exact (congrFun (hm c).2.2.1 (ix2 b i)).trans (halive c b i)
  · exact (congrArg BitVec.toNat (congrFun (hm c).2.2.2.2.1 (ix2 b i))).trans_lt (hact c b i)

end Cert.Equation

end
-- ==== Proof.lean ====
module

public import proofs.«01_k».proof.Defs
public import proofs.«01_k».proof.Proof.Gen.Kernel
public import proofs.«01_k».proof.Proof.KernelRun
public import proofs.«01_k».proof.Proof.Gen.KernelIdeal
public import proofs.«01_k».proof.Proof.KernelIdealRun
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference ends, leaves its arguments alone, and has no semaphore to leave at anything but zero. -/
theorem frame_reference : Cert.quiescent_ReferenceIdeal (hReferenceIdeal := Cert.ReferenceIdeal.Gen.facts) := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  ⟨by decide⟩,
  fun m ρ _ => Cert.Kernel.Gen.frame m ρ,
  fun m ρ _ => Cert.KernelIdeal.Gen.frame m ρ,
  fun m ρ _ => Cert.KernelIdeal.Gen.frame m ρ,
  frame_reference,
  fun m ρ h => frame_reference m ρ trivial,
  IdealRules.named_const.statement Cert.KernelIdeal.κ "inv_n" .f32 0x3DAAAAAB#32 ((1 / 12 : ℝ) : EReal) rfl,
  Cert.Equation.algebraic (hpre := ⟨by decide⟩)⟩

end Cert.Proof

end
